-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_padded_gate [hPre_padded_gate : Cert.Pre_padded_gate.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_padded_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_padded_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_padded_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_padded_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_padded_gate.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_padded_gate [hPre_padded_gate : Cert.Pre_padded_gate.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_padded_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_padded_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_padded_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_padded_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_padded_gate.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_skip [hPre_finite_skip : Cert.Pre_finite_skip.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_skip.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite_skip.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite_skip.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_skip [hPre_finite_skip : Cert.Pre_finite_skip.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_skip.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite_skip.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite_skip.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_padded_gate [hKernel3Ideal : Cert.Kernel3Ideal.Facts] [hPre_padded_gate : Cert.Pre_padded_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_padded_gate m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_padded_gate [hReference3Ideal : Cert.Reference3Ideal.Facts] [hPre_padded_gate : Cert.Pre_padded_gate.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_padded_gate m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_skip [hKernel6Ideal : Cert.Kernel6Ideal.Facts] [hPre_finite_skip : Cert.Pre_finite_skip.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_skip m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_skip [hReference6Ideal : Cert.Reference6Ideal.Facts] [hPre_finite_skip : Cert.Pre_finite_skip.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_skip m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def preserves_Kernel2_Kernel2Ideal : Prop :=
  True

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_padded_gate [hKernel3Ideal : Cert.Kernel3Ideal.Facts] [hReference3Ideal : Cert.Reference3Ideal.Facts] [hPre_padded_gate : Cert.Pre_padded_gate.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_padded_gate m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "gelu_cube" .f32 0x3D122279#32 ((80338380498831 / 2251799813685248 : ℝ) : EReal)

def algebraic_Kernel6Ideal_Reference6Ideal_pre_finite_skip [hKernel6Ideal : Cert.Kernel6Ideal.Facts] [hReference6Ideal : Cert.Reference6Ideal.Facts] [hPre_finite_skip : Cert.Pre_finite_skip.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_skip m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_gate : Cert.Pre_finite_gate.Facts) (hPre_padded_gate : Cert.Pre_padded_gate.Facts) (hPre_finite_skip : Cert.Pre_finite_skip.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Kernel3Ideal_pre_padded_gate (hKernel3Ideal := hKernel3Ideal) (hPre_padded_gate := hPre_padded_gate)
    ∧ quiescent_Reference3Ideal (hReference3Ideal := hReference3Ideal)
    ∧ quiescent_Reference3Ideal_pre_padded_gate (hReference3Ideal := hReference3Ideal) (hPre_padded_gate := hPre_padded_gate)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_skip (hKernel6Ideal := hKernel6Ideal) (hPre_finite_skip := hPre_finite_skip)
    ∧ quiescent_Reference6Ideal (hReference6Ideal := hReference6Ideal)
    ∧ quiescent_Reference6Ideal_pre_finite_skip (hReference6Ideal := hReference6Ideal) (hPre_finite_skip := hPre_finite_skip)
    ∧ preserves_Kernel_KernelIdeal
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal_pre_padded_gate (hKernel3Ideal := hKernel3Ideal) (hReference3Ideal := hReference3Ideal) (hPre_padded_gate := hPre_padded_gate)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_skip (hKernel6Ideal := hKernel6Ideal) (hReference6Ideal := hReference6Ideal) (hPre_finite_skip := hPre_finite_skip)
-- ==== Pre_finite_gate.lean ====
abbrev S33792x2048 : Shape := ⟨2, ![33792, 2048]⟩
abbrev S2x2048 : Shape := ⟨2, ![2, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S1x2048x5632 : Shape := ⟨3, ![1, 2048, 5632]⟩
abbrev S2048x5632 : Shape := ⟨2, ![2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩

class Facts : Prop where
  slices_S2x2048_S1x2048_1_0 : S2x2048.Slices ![1, 0] S1x2048
  shapeCasts_S1x2048_S2048 : S1x2048.ShapeCasts S2048
  bcast_S_S2048 : S_.BroadcastsInDim S2048 (![] : Fin 0 → Fin S2048.rank)
  slices_S2x2048x5632_S1x2048x5632_1_0_0 : S2x2048x5632.Slices ![1, 0, 0] S1x2048x5632
  shapeCasts_S1x2048x5632_S2048x5632 : S1x2048x5632.ShapeCasts S2048x5632
  bcast_S_S2048x5632 : S_.BroadcastsInDim S2048x5632 (![] : Fin 0 → Fin S2048x5632.rank)
  slices_S2x3x5632_S1x3x5632_1_0_0 : S2x3x5632.Slices ![1, 0, 0] S1x3x5632
  shapeCasts_S1x3x5632_S3x5632 : S1x3x5632.ShapeCasts S3x5632
  bcast_S_S3x5632 : S_.BroadcastsInDim S3x5632 (![] : Fin 0 → Fin S3x5632.rank)
  slices_S2x5632_S1x5632_1_0 : S2x5632.Slices ![1, 0] S1x5632
  shapeCasts_S1x5632_S5632 : S1x5632.ShapeCasts S5632
  bcast_S_S5632 : S_.BroadcastsInDim S5632 (![] : Fin 0 → Fin S5632.rank)

variable [Facts]

def fn {F : FTy → Type} [FloatOps F] (main_arg0 : FVec F S33792x2048 .f32) (main_arg1 : FVec F S2x2048 .f32) (main_arg2 : FVec F S2x2048x5632 .f32) (main_arg3 : FVec F S2x2048x5632 .f32) (main_arg4 : FVec F S2x3x5632 .f32) (main_arg5 : FVec F S2x5632 .f32) (main_arg6 : FVec F S2x5632x2048 .f32) (main_arg7 : FVec F S2048 .f32) : IVec S2048 1 × IVec S2048x5632 1 × IVec S3x5632 1 × IVec S5632 1 :=
  let main_v0 : FVec F S1x2048 .f32 := (extractStridedSlice S1x2048 ![1, 0] · slices_S2x2048_S1x2048_1_0) main_arg1
  let main_v1 : FVec F S2048 .f32 := shapeCast S2048 main_v0 shapeCasts_S1x2048_S2048
  let main_v2 : FVec F S2048 .f32 := Host.absf main_v1
  let main_cst : FVec F S_ .f32 := constant S_ .f32 0x7F800000#32
  let main_v3 : FVec F S2048 .f32 := broadcastInDim S2048 ![] bcast_S_S2048 main_cst
  let main_v4 : IVec S2048 1 := cmpf .olt main_v2 main_v3
  let main_v5 : FVec F S1x2048x5632 .f32 := (extractStridedSlice S1x2048x5632 ![1, 0, 0] · slices_S2x2048x5632_S1x2048x5632_1_0_0) main_arg2
  let main_v6 : FVec F S2048x5632 .f32 := shapeCast S2048x5632 main_v5 shapeCasts_S1x2048x5632_S2048x5632
  let main_v7 : FVec F S2048x5632 .f32 := Host.absf main_v6
  let main_cst_0 : FVec F S_ .f32 := constant S_ .f32 0x7F800000#32
  let main_v8 : FVec F S2048x5632 .f32 := broadcastInDim S2048x5632 ![] bcast_S_S2048x5632 main_cst_0
  let main_v9 : IVec S2048x5632 1 := cmpf .olt main_v7 main_v8
  let main_v10 : FVec F S1x3x5632 .f32 := (extractStridedSlice S1x3x5632 ![1, 0, 0] · slices_S2x3x5632_S1x3x5632_1_0_0) main_arg4
  let main_v11 : FVec F S3x5632 .f32 := shapeCast S3x5632 main_v10 shapeCasts_S1x3x5632_S3x5632
  let main_v12 : FVec F S3x5632 .f32 := Host.absf main_v11
  let main_cst_1 : FVec F S_ .f32 := constant S_ .f32 0x7F800000#32
  let main_v13 : FVec F S3x5632 .f32 := broadcastInDim S3x5632 ![] bcast_S_S3x5632 main_cst_1
  let main_v14 : IVec S3x5632 1 := cmpf .olt main_v12 main_v13
  let main_v15 : FVec F S1x5632 .f32 := (extractStridedSlice S1x5632 ![1, 0] · slices_S2x5632_S1x5632_1_0) main_arg5
  let main_v16 : FVec F S5632 .f32 := shapeCast S5632 main_v15 shapeCasts_S1x5632_S5632
  let main_v17 : FVec F S5632 .f32 := Host.absf main_v16
  let main_cst_2 : FVec F S_ .f32 := constant S_ .f32 0x7F800000#32
  let main_v18 : FVec F S5632 .f32 := broadcastInDim S5632 ![] bcast_S_S5632 main_cst_2
  let main_v19 : IVec S5632 1 := cmpf .olt main_v17 main_v18
  (main_v4, main_v9, main_v14, main_v19)
-- ==== Pre_finite_skip.lean ====
abbrev S2112x16384 : Shape := ⟨2, ![2112, 16384]⟩
abbrev S16x2112x1024 : Shape := ⟨3, ![16, 2112, 1024]⟩
abbrev S2x1024 : Shape := ⟨2, ![2, 1024]⟩
abbrev S2x1024x1024 : Shape := ⟨3, ![2, 1024, 1024]⟩
abbrev S_ : Shape := ⟨0, ![]⟩
abbrev S1x1024 : Shape := ⟨2, ![1, 1024]⟩
abbrev S1024 : Shape := ⟨1, ![1024]⟩

class Facts : Prop where
  bcast_S_S2112x16384 : S_.BroadcastsInDim S2112x16384 (![] : Fin 0 → Fin S2112x16384.rank)
  bcast_S_S16x2112x1024 : S_.BroadcastsInDim S16x2112x1024 (![] : Fin 0 → Fin S16x2112x1024.rank)
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)

variable [Facts]

def fn {F : FTy → Type} [FloatOps F] (main_arg0 : FVec F S2112x16384 .f32) (main_arg1 : FVec F S16x2112x1024 .f32) (main_arg2 : FVec F S2x1024 .f32) (main_arg3 : FVec F S2x1024x1024 .f32) (main_arg4 : FVec F S2x1024 .f32) (main_arg5 : FVec F S2x1024 .f32) : IVec S2112x16384 1 × IVec S16x2112x1024 1 × IVec S1024 1 :=
  let main_v0 : FVec F S2112x16384 .f32 := Host.absf main_arg0
  let main_cst : FVec F S_ .f32 := constant S_ .f32 0x7F800000#32
  let main_v1 : FVec F S2112x16384 .f32 := broadcastInDim S2112x16384 ![] bcast_S_S2112x16384 main_cst
  let main_v2 : IVec S2112x16384 1 := cmpf .olt main_v0 main_v1
  let main_v3 : FVec F S16x2112x1024 .f32 := Host.absf main_arg1
  let main_cst_0 : FVec F S_ .f32 := constant S_ .f32 0x7F800000#32
  let main_v4 : FVec F S16x2112x1024 .f32 := broadcastInDim S16x2112x1024 ![] bcast_S_S16x2112x1024 main_cst_0
  let main_v5 : IVec S16x2112x1024 1 := cmpf .olt main_v3 main_v4
  let main_v6 : FVec F S1x1024 .f32 := (extractStridedSlice S1x1024 ![0, 0] · slices_S2x1024_S1x1024_0_0) main_arg2
  let main_v7 : FVec F S1024 .f32 := shapeCast S1024 main_v6 shapeCasts_S1x1024_S1024
  let main_v8 : FVec F S1024 .f32 := Host.absf main_v7
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  (main_v2, main_v5, main_v10)
-- ==== Pre_padded_gate.lean ====
abbrev S33792x2048 : Shape := ⟨2, ![33792, 2048]⟩
abbrev S2x2048 : Shape := ⟨2, ![2, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x5632x2048 : Shape := ⟨3, ![2, 5632, 2048]⟩
abbrev S2048 : Shape := ⟨1, ![2048]⟩
abbrev S16x2112x2048 : Shape := ⟨3, ![16, 2112, 2048]⟩
abbrev S16x48x2048 : Shape := ⟨3, ![16, 48, 2048]⟩
abbrev S_ : Shape := ⟨0, ![]⟩
abbrev S1x2048 : Shape := ⟨2, ![1, 2048]⟩
abbrev S1x2048x5632 : Shape := ⟨3, ![1, 2048, 5632]⟩
abbrev S2048x5632 : Shape := ⟨2, ![2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩

class Facts : Prop where
  shapeCasts_S33792x2048_S16x2112x2048 : S33792x2048.ShapeCasts S16x2112x2048
  slices_S16x2112x2048_S16x48x2048_0_0_0 : S16x2112x2048.Slices ![0, 0, 0] S16x48x2048
  bcast_S_S16x48x2048 : S_.BroadcastsInDim S16x48x2048 (![] : Fin 0 → Fin S16x48x2048.rank)
  slices_S2x2048_S1x2048_0_0 : S2x2048.Slices ![0, 0] S1x2048
  shapeCasts_S1x2048_S2048 : S1x2048.ShapeCasts S2048
  bcast_S_S2048 : S_.BroadcastsInDim S2048 (![] : Fin 0 → Fin S2048.rank)
  slices_S2x2048x5632_S1x2048x5632_0_0_0 : S2x2048x5632.Slices ![0, 0, 0] S1x2048x5632
  shapeCasts_S1x2048x5632_S2048x5632 : S1x2048x5632.ShapeCasts S2048x5632
  bcast_S_S2048x5632 : S_.BroadcastsInDim S2048x5632 (![] : Fin 0 → Fin S2048x5632.rank)
  slices_S2x3x5632_S1x3x5632_0_0_0 : S2x3x5632.Slices ![0, 0, 0] S1x3x5632
  shapeCasts_S1x3x5632_S3x5632 : S1x3x5632.ShapeCasts S3x5632
  bcast_S_S3x5632 : S_.BroadcastsInDim S3x5632 (![] : Fin 0 → Fin S3x5632.rank)
  slices_S2x5632_S1x5632_0_0 : S2x5632.Slices ![0, 0] S1x5632
  shapeCasts_S1x5632_S5632 : S1x5632.ShapeCasts S5632
  bcast_S_S5632 : S_.BroadcastsInDim S5632 (![] : Fin 0 → Fin S5632.rank)

variable [Facts]

def fn_part1 {F : FTy → Type} [FloatOps F] (main_v3 : IVec S16x48x2048 1) (main_v8 : IVec S2048 1) (main_v13 : IVec S2048x5632 1) (main_v18 : IVec S3x5632 1) (main_v19 : FVec F S1x5632 .f32) : IVec S16x48x2048 1 × IVec S2048 1 × IVec S2048x5632 1 × IVec S3x5632 1 × IVec S5632 1 :=
  let main_v20 : FVec F S5632 .f32 := shapeCast S5632 main_v19 shapeCasts_S1x5632_S5632
  let main_v21 : FVec F S5632 .f32 := Host.absf main_v20
  let main_cst_3 : FVec F S_ .f32 := constant S_ .f32 0x7F800000#32
  let main_v22 : FVec F S5632 .f32 := broadcastInDim S5632 ![] bcast_S_S5632 main_cst_3
  let main_v23 : IVec S5632 1 := cmpf .olt main_v21 main_v22
  (main_v3, main_v8, main_v13, main_v18, main_v23)

def fn {F : FTy → Type} [FloatOps F] (main_arg0 : FVec F S33792x2048 .f32) (main_arg1 : FVec F S2x2048 .f32) (main_arg2 : FVec F S2x2048x5632 .f32) (main_arg3 : FVec F S2x2048x5632 .f32) (main_arg4 : FVec F S2x3x5632 .f32) (main_arg5 : FVec F S2x5632 .f32) (main_arg6 : FVec F S2x5632x2048 .f32) (main_arg7 : FVec F S2048 .f32) : IVec S16x48x2048 1 × IVec S2048 1 × IVec S2048x5632 1 × IVec S3x5632 1 × IVec S5632 1 :=
  let main_v0 : FVec F S16x2112x2048 .f32 := shapeCast S16x2112x2048 main_arg0 shapeCasts_S33792x2048_S16x2112x2048
  let main_v1 : FVec F S16x48x2048 .f32 := (extractStridedSlice S16x48x2048 ![0, 0, 0] · slices_S16x2112x2048_S16x48x2048_0_0_0) main_v0
  let main_cst : FVec F S_ .f32 := constant S_ .f32 0x00000000#32
  let main_v2 : FVec F S16x48x2048 .f32 := broadcastInDim S16x48x2048 ![] bcast_S_S16x48x2048 main_cst
  let main_v3 : IVec S16x48x2048 1 := cmpf .oeq main_v1 main_v2
  let main_v4 : FVec F S1x2048 .f32 := (extractStridedSlice S1x2048 ![0, 0] · slices_S2x2048_S1x2048_0_0) main_arg1
  let main_v5 : FVec F S2048 .f32 := shapeCast S2048 main_v4 shapeCasts_S1x2048_S2048
  let main_v6 : FVec F S2048 .f32 := Host.absf main_v5
  let main_cst_0 : FVec F S_ .f32 := constant S_ .f32 0x7F800000#32
  let main_v7 : FVec F S2048 .f32 := broadcastInDim S2048 ![] bcast_S_S2048 main_cst_0
  let main_v8 : IVec S2048 1 := cmpf .olt main_v6 main_v7
  let main_v9 : FVec F S1x2048x5632 .f32 := (extractStridedSlice S1x2048x5632 ![0, 0, 0] · slices_S2x2048x5632_S1x2048x5632_0_0_0) main_arg2
  let main_v10 : FVec F S2048x5632 .f32 := shapeCast S2048x5632 main_v9 shapeCasts_S1x2048x5632_S2048x5632
  let main_v11 : FVec F S2048x5632 .f32 := Host.absf main_v10
  let main_cst_1 : FVec F S_ .f32 := constant S_ .f32 0x7F800000#32
  let main_v12 : FVec F S2048x5632 .f32 := broadcastInDim S2048x5632 ![] bcast_S_S2048x5632 main_cst_1
  let main_v13 : IVec S2048x5632 1 := cmpf .olt main_v11 main_v12
  let main_v14 : FVec F S1x3x5632 .f32 := (extractStridedSlice S1x3x5632 ![0, 0, 0] · slices_S2x3x5632_S1x3x5632_0_0_0) main_arg4
  let main_v15 : FVec F S3x5632 .f32 := shapeCast S3x5632 main_v14 shapeCasts_S1x3x5632_S3x5632
  let main_v16 : FVec F S3x5632 .f32 := Host.absf main_v15
  let main_cst_2 : FVec F S_ .f32 := constant S_ .f32 0x7F800000#32
  let main_v17 : FVec F S3x5632 .f32 := broadcastInDim S3x5632 ![] bcast_S_S3x5632 main_cst_2
  let main_v18 : IVec S3x5632 1 := cmpf .olt main_v16 main_v17
  let main_v19 : FVec F S1x5632 .f32 := (extractStridedSlice S1x5632 ![0, 0] · slices_S2x5632_S1x5632_0_0) main_arg5
  fn_part1 (F := F) main_v3 main_v8 main_v13 main_v18 main_v19
-- ==== Kernel.lean ====
abbrev S2112x16384 : Shape := ⟨2, ![2112, 16384]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S_ : Shape := ⟨0, ![]⟩
abbrev S2x64x1 : Shape := ⟨3, ![2, 64, 1]⟩
abbrev S2x64x64x1 : Shape := ⟨4, ![2, 64, 64, 1]⟩
abbrev S64x64 : Shape := ⟨2, ![64, 64]⟩
abbrev S1x64x64 : Shape := ⟨3, ![1, 64, 64]⟩
abbrev S2x1x64x64 : Shape := ⟨4, ![2, 1, 64, 64]⟩
abbrev S2x16x64x64 : Shape := ⟨4, ![2, 16, 64, 64]⟩
abbrev S2x17x64x64 : Shape := ⟨4, ![2, 17, 64, 64]⟩
abbrev S2x16x64x64x1 : Shape := ⟨5, ![2, 16, 64, 64, 1]⟩
abbrev S2x1x64x64x16 : Shape := ⟨5, ![2, 1, 64, 64, 16]⟩
abbrev S2x16x64x64x16 : Shape := ⟨5, ![2, 16, 64, 64, 16]⟩
abbrev S2x64x16x16x16 : Shape := ⟨5, ![2, 64, 16, 16, 16]⟩
abbrev S64x16x256 : Shape := ⟨3, ![64, 16, 256]⟩
abbrev S2x64x16x256 : Shape := ⟨4, ![2, 64, 16, 256]⟩
abbrev S2x64x16x512 : Shape := ⟨4, ![2, 64, 16, 512]⟩
abbrev S2x64x1x16x256 : Shape := ⟨5, ![2, 64, 1, 16, 256]⟩
abbrev S2x64x16x16x256 : Shape := ⟨5, ![2, 64, 16, 16, 256]⟩
abbrev S2x32x2x256x256 : Shape := ⟨5, ![2, 32, 2, 256, 256]⟩
abbrev S2x64x1x16x64 : Shape := ⟨5, ![2, 64, 1, 16, 64]⟩
abbrev S2x64x16x1x64 : Shape := ⟨5, ![2, 64, 16, 1, 64]⟩
abbrev S2x64x16x16x64 : Shape := ⟨5, ![2, 64, 16, 16, 64]⟩
abbrev S2x32x2x256x64 : Shape := ⟨5, ![2, 32, 2, 256, 64]⟩
abbrev S2x32x1x256x64 : Shape := ⟨5, ![2, 32, 1, 256, 64]⟩
abbrev S2x32x256x64 : Shape := ⟨4, ![2, 32, 256, 64]⟩
abbrev S32x256x64 : Shape := ⟨3, ![32, 256, 64]⟩
abbrev S2x32x256x256 : Shape := ⟨4, ![2, 32, 256, 256]⟩
abbrev S2x32x512x256 : Shape := ⟨4, ![2, 32, 512, 256]⟩
abbrev S2x64x64x1x16 : Shape := ⟨5, ![2, 64, 64, 1, 16]⟩
abbrev S2x64x64x16x1 : Shape := ⟨5, ![2, 64, 64, 16, 1]⟩
abbrev S2x64x64x16x16 : Shape := ⟨5, ![2, 64, 64, 16, 16]⟩
abbrev S2x32x2x64x256 : Shape := ⟨5, ![2, 32, 2, 64, 256]⟩
abbrev S2x32x1x64x256 : Shape := ⟨5, ![2, 32, 1, 64, 256]⟩
abbrev S2x32x64x256 : Shape := ⟨4, ![2, 32, 64, 256]⟩
abbrev S32x64x256 : Shape := ⟨3, ![32, 64, 256]⟩
abbrev S2x32x64x512 : Shape := ⟨4, ![2, 32, 64, 512]⟩
abbrev S2x32x256x512 : Shape := ⟨4, ![2, 32, 256, 512]⟩
abbrev S2x32x128 : Shape := ⟨3, ![2, 32, 128]⟩
abbrev S2x32x1x128 : Shape := ⟨4, ![2, 32, 1, 128]⟩
abbrev S2x32x2x128 : Shape := ⟨4, ![2, 32, 2, 128]⟩
abbrev S2112x1024 : Shape := ⟨2, ![2112, 1024]⟩
abbrev S1x2x2x256x256 : Shape := ⟨5, ![1, 2, 2, 256, 256]⟩
abbrev S1x2x512x256 : Shape := ⟨4, ![1, 2, 512, 256]⟩
abbrev S1x2x256x512 : Shape := ⟨4, ![1, 2, 256, 512]⟩
abbrev S1x2x2x128 : Shape := ⟨4, ![1, 2, 2, 128]⟩
abbrev S2x2112x256 : Shape := ⟨3, ![2, 2112, 256]⟩
abbrev S2112x512 : Shape := ⟨2, ![2112, 512]⟩
abbrev S1x1x512x256 : Shape := ⟨4, ![1, 1, 512, 256]⟩
abbrev S512x256 : Shape := ⟨2, ![512, 256]⟩
abbrev S2112x256 : Shape := ⟨2, ![2112, 256]⟩
abbrev S1x2112x256 : Shape := ⟨3, ![1, 2112, 256]⟩
abbrev S1x1x1x128 : Shape := ⟨4, ![1, 1, 1, 128]⟩
abbrev S1x128 : Shape := ⟨2, ![1, 128]⟩
abbrev S16x128 : Shape := ⟨2, ![16, 128]⟩
abbrev S1x1x1x256x256 : Shape := ⟨5, ![1, 1, 1, 256, 256]⟩
abbrev S256x256 : Shape := ⟨2, ![256, 256]⟩
abbrev S1x16x128 : Shape := ⟨3, ![1, 16, 128]⟩
abbrev S1x1x256x512 : Shape := ⟨4, ![1, 1, 256, 512]⟩
abbrev S256x512 : Shape := ⟨2, ![256, 512]⟩

abbrev nBuf : Space → Nat
  | .hbm => 374
  | .vmem => 14
  | .smem => 0
  | _ => 0

abbrev hbmTy0_0 (i : Nat) : BufTy := match i % 128 with
  | 0 => ⟨S2112x16384, .bf16⟩
  | 1 => ⟨S2x64x64, .f32⟩
  | 2 => ⟨S2x64x64, .f32⟩
  | 3 => ⟨S2x64, .f32⟩
  | 4 => ⟨S2x64x64x16, .f32⟩
  | 5 => ⟨S2x64x64x16, .f32⟩
  | 6 => ⟨S2x64x16x64, .f32⟩
  | 7 => ⟨S2x64x16x64, .f32⟩
  | 8 => ⟨S_, .f32⟩
  | 9 => ⟨S2x64x64, .f32⟩
  | 10 => ⟨S2x64x64, .f32⟩
  | 11 => ⟨S2x64, .f32⟩
  | 12 => ⟨S2x64x1, .f32⟩
  | 13 => ⟨S2x64x64, .f32⟩
  | 14 => ⟨S2x64x64, .f32⟩
  | 15 => ⟨S2x64x64, .f32⟩
  | 16 => ⟨S2x64x64, .f32⟩
  | 17 => ⟨S2x64x64, .f32⟩
  | 18 => ⟨S2x64x64, .f32⟩
  | 19 => ⟨S2x64x64, .f32⟩
  | 20 => ⟨S2x64x64, .f32⟩
  | 21 => ⟨S2x64x64, .f32⟩
  | 22 => ⟨S2x64x64, .f32⟩
  | 23 => ⟨S2x64x64, .f32⟩
  | 24 => ⟨S2x64x64, .f32⟩
  | 25 => ⟨S2x64x64, .f32⟩
  | 26 => ⟨S2x64x64, .f32⟩
  | 27 => ⟨S_, .f32⟩
  | 28 => ⟨S2x64x64, .f32⟩
  | 29 => ⟨S2x64x64, .f32⟩
  | 30 => ⟨S2x64x64, .f32⟩
  | 31 => ⟨S2x64x64, .f32⟩
  | 32 => ⟨S2x64x64, .f32⟩
  | 33 => ⟨S2x64x64, .f32⟩
  | 34 => ⟨S2x64x64, .f32⟩
  | 35 => ⟨S2x64x64, .f32⟩
  | 36 => ⟨S2x64x64, .f32⟩
  | 37 => ⟨S2x64x64, .f32⟩
  | 38 => ⟨S2x64x64x1, .f32⟩
  | 39 => ⟨S2x64x64x16, .f32⟩
  | 40 => ⟨S2x64x64x16, .f32⟩
  | 41 => ⟨S2x64x64x1, .f32⟩
  | 42 => ⟨S2x64x64x16, .f32⟩
  | 43 => ⟨S2x64x64x16, .f32⟩
  | 44 => ⟨S2x64x64x16, .f32⟩
  | 45 => ⟨S2x64x64x1, .f32⟩
  | 46 => ⟨S2x64x64x16, .f32⟩
  | 47 => ⟨S2x64x64x16, .f32⟩
  | 48 => ⟨S2x64x64x1, .f32⟩
  | 49 => ⟨S2x64x64x16, .f32⟩
  | 50 => ⟨S2x64x64x16, .f32⟩
  | 51 => ⟨S2x64x64x16, .f32⟩
  | 52 => ⟨S_, .f32⟩
  | 53 => ⟨S64x64, .f32⟩
  | 54 => ⟨S_, .f32⟩
  | 55 => ⟨S64x64, .f32⟩
  | 56 => ⟨S1x64x64, .f32⟩
  | 57 => ⟨S2x64x64, .f32⟩
  | 58 => ⟨S2x64x64, .f32⟩
  | 59 => ⟨S1x64x64, .f32⟩
  | 60 => ⟨S2x64x64, .f32⟩
  | 61 => ⟨S2x64x64, .f32⟩
  | 62 => ⟨S2x64x64, .f32⟩
  | 63 => ⟨S1x64x64, .f32⟩
  | 64 => ⟨S2x64x64, .f32⟩
  | 65 => ⟨S2x64x64, .f32⟩
  | 66 => ⟨S1x64x64, .f32⟩
  | 67 => ⟨S2x64x64, .f32⟩
  | 68 => ⟨S2x64x64, .f32⟩
  | 69 => ⟨S2x64x64, .f32⟩
  | 70 => ⟨S2x64x64, .f32⟩
  | 71 => ⟨S2x64x64, .f32⟩
  | 72 => ⟨S2x64x64, .f32⟩
  | 73 => ⟨S2x64x64, .f32⟩
  | 74 => ⟨S2x64x64, .f32⟩
  | 75 => ⟨S2x64x64, .f32⟩
  | 76 => ⟨S2x64x64, .f32⟩
  | 77 => ⟨S2x64x64, .f32⟩
  | 78 => ⟨S2x64x64, .f32⟩
  | 79 => ⟨S2x64x64, .f32⟩
  | 80 => ⟨S2x64x64, .f32⟩
  | 81 => ⟨S2x64x64, .f32⟩
  | 82 => ⟨S2x64x64, .f32⟩
  | 83 => ⟨S2x64x64, .f32⟩
  | 84 => ⟨S2x64x64, .f32⟩
  | 85 => ⟨S2x64x64, .f32⟩
  | 86 => ⟨S2x64x64, .f32⟩
  | 87 => ⟨S2x64x64, .f32⟩
  | 88 => ⟨S2x64x64, .f32⟩
  | 89 => ⟨S2x64x64, .f32⟩
  | 90 => ⟨S2x64x64, .f32⟩
  | 91 => ⟨S2x64x64, .f32⟩
  | 92 => ⟨S2x64x64, .f32⟩
  | 93 => ⟨S2x64x64, .f32⟩
  | 94 => ⟨S2x64x64, .f32⟩
  | 95 => ⟨S2x64x64, .f32⟩
  | 96 => ⟨S2x64x64, .f32⟩
  | 97 => ⟨S2x64x64, .f32⟩
  | 98 => ⟨S2x64x64, .f32⟩
  | 99 => ⟨S2x64x64, .f32⟩
  | 100 => ⟨S2x64x64, .f32⟩
  | 101 => ⟨S2x64x64, .f32⟩
  | 102 => ⟨S2x64x64, .f32⟩
  | 103 => ⟨S2x64x64, .f32⟩
  | 104 => ⟨S2x64x64, .f32⟩
  | 105 => ⟨S2x64x64, .f32⟩
  | 106 => ⟨S2x64x64, .f32⟩
  | 107 => ⟨S2x64x64, .f32⟩
  | 108 => ⟨S2x64x64, .f32⟩
  | 109 => ⟨S2x64x64, .f32⟩
  | 110 => ⟨S2x64x64, .f32⟩
  | 111 => ⟨S2x64x64, .f32⟩
  | 112 => ⟨S2x64x64, .f32⟩
  | 113 => ⟨S2x64x64, .f32⟩
  | 114 => ⟨S2x64x64, .f32⟩
  | 115 => ⟨S2x64x64, .f32⟩
  | 116 => ⟨S2x64x64, .f32⟩
  | 117 => ⟨S2x64x64, .f32⟩
  | 118 => ⟨S2x64x64, .f32⟩
  | 119 => ⟨S2x64x64, .f32⟩
  | 120 => ⟨S2x64x64, .f32⟩
  | 121 => ⟨S2x64x64, .f32⟩
  | 122 => ⟨S2x64x64, .f32⟩
  | 123 => ⟨S2x64x64, .f32⟩
  | 124 => ⟨S2x64x64, .f32⟩
  | 125 => ⟨S2x64x64, .f32⟩
  | 126 => ⟨S2x64x64, .f32⟩
  | 127 => ⟨S2x64x64, .f32⟩
  | _ => ⟨S2112x16384, .bf16⟩

abbrev hbmTy0_1 (i : Nat) : BufTy := match i % 128 with
  | 0 => ⟨S2x64x64, .f32⟩
  | 1 => ⟨S2x64x64, .f32⟩
  | 2 => ⟨S2x64x64, .f32⟩
  | 3 => ⟨S2x64x64, .f32⟩
  | 4 => ⟨S2x64x64, .f32⟩
  | 5 => ⟨S2x64x64, .f32⟩
  | 6 => ⟨S2x64x64, .f32⟩
  | 7 => ⟨S2x64x64, .f32⟩
  | 8 => ⟨S2x64x64, .f32⟩
  | 9 => ⟨S2x64x64, .f32⟩
  | 10 => ⟨S2x64x64, .f32⟩
  | 11 => ⟨S2x64x64, .f32⟩
  | 12 => ⟨S2x64x64, .f32⟩
  | 13 => ⟨S2x64x64, .f32⟩
  | 14 => ⟨S2x64x64, .f32⟩
  | 15 => ⟨S2x64x64, .f32⟩
  | 16 => ⟨S2x64x64, .f32⟩
  | 17 => ⟨S2x64x64, .f32⟩
  | 18 => ⟨S2x64x64, .f32⟩
  | 19 => ⟨S2x64x64, .f32⟩
  | 20 => ⟨S2x64x64, .f32⟩
  | 21 => ⟨S2x64x64, .f32⟩
  | 22 => ⟨S2x64x64, .f32⟩
  | 23 => ⟨S2x64x64, .f32⟩
  | 24 => ⟨S2x64x64, .f32⟩
  | 25 => ⟨S2x64x64, .f32⟩
  | 26 => ⟨S2x64x64, .f32⟩
  | 27 => ⟨S2x64x64, .f32⟩
  | 28 => ⟨S2x64x64, .f32⟩
  | 29 => ⟨S2x64x64, .f32⟩
  | 30 => ⟨S2x64x64, .f32⟩
  | 31 => ⟨S2x64x64, .f32⟩
  | 32 => ⟨S2x64x64, .f32⟩
  | 33 => ⟨S2x1x64x64, .f32⟩
  | 34 => ⟨S2x1x64x64, .f32⟩
  | 35 => ⟨S2x1x64x64, .f32⟩
  | 36 => ⟨S2x1x64x64, .f32⟩
  | 37 => ⟨S2x1x64x64, .f32⟩
  | 38 => ⟨S2x1x64x64, .f32⟩
  | 39 => ⟨S2x1x64x64, .f32⟩
  | 40 => ⟨S2x1x64x64, .f32⟩
  | 41 => ⟨S2x1x64x64, .f32⟩
  | 42 => ⟨S2x1x64x64, .f32⟩
  | 43 => ⟨S2x1x64x64, .f32⟩
  | 44 => ⟨S2x1x64x64, .f32⟩
  | 45 => ⟨S2x1x64x64, .f32⟩
  | 46 => ⟨S2x1x64x64, .f32⟩
  | 47 => ⟨S2x1x64x64, .f32⟩
  | 48 => ⟨S2x1x64x64, .f32⟩
  | 49 => ⟨S2x16x64x64, .f32⟩
  | 50 => ⟨S2x1x64x64, .f32⟩
  | 51 => ⟨S2x17x64x64, .f32⟩
  | 52 => ⟨S2x64x64, .f32⟩
  | 53 => ⟨S2x1x64x64, .f32⟩
  | 54 => ⟨S2x1x64x64, .f32⟩
  | 55 => ⟨S2x1x64x64, .f32⟩
  | 56 => ⟨S2x1x64x64, .f32⟩
  | 57 => ⟨S2x1x64x64, .f32⟩
  | 58 => ⟨S2x1x64x64, .f32⟩
  | 59 => ⟨S2x1x64x64, .f32⟩
  | 60 => ⟨S2x1x64x64, .f32⟩
  | 61 => ⟨S2x1x64x64, .f32⟩
  | 62 => ⟨S2x1x64x64, .f32⟩
  | 63 => ⟨S2x1x64x64, .f32⟩
  | 64 => ⟨S2x1x64x64, .f32⟩
  | 65 => ⟨S2x1x64x64, .f32⟩
  | 66 => ⟨S2x1x64x64, .f32⟩
  | 67 => ⟨S2x1x64x64, .f32⟩
  | 68 => ⟨S2x1x64x64, .f32⟩
  | 69 => ⟨S2x16x64x64, .f32⟩
  | 70 => ⟨S2x1x64x64, .f32⟩
  | 71 => ⟨S2x17x64x64, .f32⟩
  | 72 => ⟨S2x16x64x64, .f32⟩
  | 73 => ⟨S2x16x64x64x1, .f32⟩
  | 74 => ⟨S2x16x64x64, .f32⟩
  | 75 => ⟨S2x16x64x64x1, .f32⟩
  | 76 => ⟨S2x1x64x64x16, .f32⟩
  | 77 => ⟨S2x16x64x64x16, .f32⟩
  | 78 => ⟨S2x16x64x64x16, .f32⟩
  | 79 => ⟨S2x16x64x64x16, .f32⟩
  | 80 => ⟨S2x1x64x64x16, .f32⟩
  | 81 => ⟨S2x16x64x64x16, .f32⟩
  | 82 => ⟨S2x16x64x64x16, .f32⟩
  | 83 => ⟨S2x16x64x64x16, .f32⟩
  | 84 => ⟨S2x16x64x64x16, .f32⟩
  | 85 => ⟨S2x1x64x64x16, .f32⟩
  | 86 => ⟨S2x16x64x64x16, .f32⟩
  | 87 => ⟨S2x16x64x64x16, .f32⟩
  | 88 => ⟨S2x16x64x64x16, .f32⟩
  | 89 => ⟨S2x1x64x64x16, .f32⟩
  | 90 => ⟨S2x16x64x64x16, .f32⟩
  | 91 => ⟨S2x16x64x64x16, .f32⟩
  | 92 => ⟨S2x16x64x64x16, .f32⟩
  | 93 => ⟨S2x16x64x64x16, .f32⟩
  | 94 => ⟨S2x64x16x16x16, .f32⟩
  | 95 => ⟨S2x64x16x16x16, .f32⟩
  | 96 => ⟨S2x64x16x16x16, .f32⟩
  | 97 => ⟨S2x64x16x16x16, .f32⟩
  | 98 => ⟨S2x64x16x16x16, .f32⟩
  | 99 => ⟨S_, .f32⟩
  | 100 => ⟨S64x16x256, .f32⟩
  | 101 => ⟨S2x64x16x256, .f32⟩
  | 102 => ⟨S2x64x16x256, .f32⟩
  | 103 => ⟨S2x64x16x512, .f32⟩
  | 104 => ⟨S2x64x16x256, .f32⟩
  | 105 => ⟨S2x64x16x256, .f32⟩
  | 106 => ⟨S2x64x16x256, .f32⟩
  | 107 => ⟨S2x64x16x256, .f32⟩
  | 108 => ⟨S2x64x16x256, .f32⟩
  | 109 => ⟨S2x64x16x256, .f32⟩
  | 110 => ⟨S2x64x16x256, .f32⟩
  | 111 => ⟨S2x64x16x256, .f32⟩
  | 112 => ⟨S2x64x16x256, .f32⟩
  | 113 => ⟨S2x64x16x256, .f32⟩
  | 114 => ⟨S2x64x16x256, .f32⟩
  | 115 => ⟨S2x64x16x256, .f32⟩
  | 116 => ⟨S2x64x16x256, .f32⟩
  | 117 => ⟨S2x64x16x256, .f32⟩
  | 118 => ⟨S2x64x16x256, .f32⟩
  | 119 => ⟨S2x64x16x256, .f32⟩
  | 120 => ⟨S2x64x1x16x256, .f32⟩
  | 121 => ⟨S2x64x1x16x256, .f32⟩
  | 122 => ⟨S2x64x1x16x256, .f32⟩
  | 123 => ⟨S2x64x1x16x256, .f32⟩
  | 124 => ⟨S2x64x1x16x256, .f32⟩
  | 125 => ⟨S2x64x1x16x256, .f32⟩
  | 126 => ⟨S2x64x1x16x256, .f32⟩
  | 127 => ⟨S2x64x1x16x256, .f32⟩
  | _ => ⟨S2112x16384, .bf16⟩

abbrev hbmTy0_2 (i : Nat) : BufTy := match i % 128 with
  | 0 => ⟨S2x64x1x16x256, .f32⟩
  | 1 => ⟨S2x64x1x16x256, .f32⟩
  | 2 => ⟨S2x64x1x16x256, .f32⟩
  | 3 => ⟨S2x64x1x16x256, .f32⟩
  | 4 => ⟨S2x64x1x16x256, .f32⟩
  | 5 => ⟨S2x64x1x16x256, .f32⟩
  | 6 => ⟨S2x64x1x16x256, .f32⟩
  | 7 => ⟨S2x64x1x16x256, .f32⟩
  | 8 => ⟨S2x64x16x16x256, .f32⟩
  | 9 => ⟨S2x32x2x256x256, .f32⟩
  | 10 => ⟨S2x64x16x64, .f32⟩
  | 11 => ⟨S2x64x1x16x64, .f32⟩
  | 12 => ⟨S2x64x16x64, .f32⟩
  | 13 => ⟨S2x64x1x16x64, .f32⟩
  | 14 => ⟨S2x16x64x64, .f32⟩
  | 15 => ⟨S2x16x64x64, .f32⟩
  | 16 => ⟨S2x64x16x64, .f32⟩
  | 17 => ⟨S2x64x16x1x64, .f32⟩
  | 18 => ⟨S2x16x64x64, .f32⟩
  | 19 => ⟨S2x16x64x64, .f32⟩
  | 20 => ⟨S2x64x16x64, .f32⟩
  | 21 => ⟨S2x64x16x1x64, .f32⟩
  | 22 => ⟨S2x64x16x16x64, .f32⟩
  | 23 => ⟨S2x64x16x16x64, .f32⟩
  | 24 => ⟨S2x64x16x16x64, .f32⟩
  | 25 => ⟨S2x64x16x16x64, .f32⟩
  | 26 => ⟨S2x64x16x16x64, .f32⟩
  | 27 => ⟨S2x64x16x16x64, .f32⟩
  | 28 => ⟨S2x64x16x16x64, .f32⟩
  | 29 => ⟨S2x32x2x256x64, .f32⟩
  | 30 => ⟨S2x64x16x16x64, .f32⟩
  | 31 => ⟨S2x64x16x16x64, .f32⟩
  | 32 => ⟨S2x64x16x16x64, .f32⟩
  | 33 => ⟨S2x64x16x16x64, .f32⟩
  | 34 => ⟨S2x64x16x16x64, .f32⟩
  | 35 => ⟨S2x64x16x16x64, .f32⟩
  | 36 => ⟨S2x64x16x16x64, .f32⟩
  | 37 => ⟨S2x32x2x256x64, .f32⟩
  | 38 => ⟨S2x32x1x256x64, .f32⟩
  | 39 => ⟨S2x32x256x64, .f32⟩
  | 40 => ⟨S_, .f32⟩
  | 41 => ⟨S32x256x64, .f32⟩
  | 42 => ⟨S2x32x1x256x64, .f32⟩
  | 43 => ⟨S2x32x256x64, .f32⟩
  | 44 => ⟨S2x32x1x256x64, .f32⟩
  | 45 => ⟨S2x32x256x64, .f32⟩
  | 46 => ⟨S2x32x256x64, .f32⟩
  | 47 => ⟨S2x32x256x64, .f32⟩
  | 48 => ⟨S2x32x256x256, .f32⟩
  | 49 => ⟨S2x32x1x256x64, .f32⟩
  | 50 => ⟨S2x32x256x64, .f32⟩
  | 51 => ⟨S2x32x1x256x64, .f32⟩
  | 52 => ⟨S2x32x256x64, .f32⟩
  | 53 => ⟨S2x32x256x64, .f32⟩
  | 54 => ⟨S2x32x256x64, .f32⟩
  | 55 => ⟨S2x32x256x256, .f32⟩
  | 56 => ⟨S2x32x512x256, .f32⟩
  | 57 => ⟨S2x64x64x16, .f32⟩
  | 58 => ⟨S2x64x64x1x16, .f32⟩
  | 59 => ⟨S2x64x64x16, .f32⟩
  | 60 => ⟨S2x64x64x1x16, .f32⟩
  | 61 => ⟨S2x16x64x64, .f32⟩
  | 62 => ⟨S2x64x64x16, .f32⟩
  | 63 => ⟨S2x64x64x16x1, .f32⟩
  | 64 => ⟨S2x16x64x64, .f32⟩
  | 65 => ⟨S2x64x64x16, .f32⟩
  | 66 => ⟨S2x64x64x16x1, .f32⟩
  | 67 => ⟨S2x64x64x16x16, .f32⟩
  | 68 => ⟨S2x64x64x16x16, .f32⟩
  | 69 => ⟨S2x64x64x16x16, .f32⟩
  | 70 => ⟨S2x64x64x16x16, .f32⟩
  | 71 => ⟨S2x64x64x16x16, .f32⟩
  | 72 => ⟨S2x64x64x16x16, .f32⟩
  | 73 => ⟨S2x64x64x16x16, .f32⟩
  | 74 => ⟨S2x32x2x64x256, .f32⟩
  | 75 => ⟨S2x64x64x16x16, .f32⟩
  | 76 => ⟨S2x64x64x16x16, .f32⟩
  | 77 => ⟨S2x64x64x16x16, .f32⟩
  | 78 => ⟨S2x64x64x16x16, .f32⟩
  | 79 => ⟨S2x64x64x16x16, .f32⟩
  | 80 => ⟨S2x64x64x16x16, .f32⟩
  | 81 => ⟨S2x64x64x16x16, .f32⟩
  | 82 => ⟨S2x32x2x64x256, .f32⟩
  | 83 => ⟨S2x32x2x64x256, .f32⟩
  | 84 => ⟨S2x32x1x64x256, .f32⟩
  | 85 => ⟨S2x32x64x256, .f32⟩
  | 86 => ⟨S_, .f32⟩
  | 87 => ⟨S32x64x256, .f32⟩
  | 88 => ⟨S2x32x1x64x256, .f32⟩
  | 89 => ⟨S2x32x64x256, .f32⟩
  | 90 => ⟨S2x32x64x256, .f32⟩
  | 91 => ⟨S2x32x64x512, .f32⟩
  | 92 => ⟨S2x32x1x64x256, .f32⟩
  | 93 => ⟨S2x32x64x256, .f32⟩
  | 94 => ⟨S2x32x64x256, .f32⟩
  | 95 => ⟨S2x32x64x512, .f32⟩
  | 96 => ⟨S2x32x1x64x256, .f32⟩
  | 97 => ⟨S2x32x64x256, .f32⟩
  | 98 => ⟨S2x32x64x256, .f32⟩
  | 99 => ⟨S2x32x64x512, .f32⟩
  | 100 => ⟨S2x32x1x64x256, .f32⟩
  | 101 => ⟨S2x32x64x256, .f32⟩
  | 102 => ⟨S2x32x64x256, .f32⟩
  | 103 => ⟨S2x32x64x512, .f32⟩
  | 104 => ⟨S2x32x256x512, .f32⟩
  | 105 => ⟨S2x1x64x64, .f32⟩
  | 106 => ⟨S2x64x64, .f32⟩
  | 107 => ⟨S2x32x128, .f32⟩
  | 108 => ⟨S2x1x64x64, .f32⟩
  | 109 => ⟨S2x64x64, .f32⟩
  | 110 => ⟨S2x32x128, .f32⟩
  | 111 => ⟨S2x32x1x128, .f32⟩
  | 112 => ⟨S2x32x1x128, .f32⟩
  | 113 => ⟨S2x32x2x128, .f32⟩
  | 114 => ⟨S2x32x2x256x256, .bf16⟩
  | 115 => ⟨S2x32x512x256, .bf16⟩
  | 116 => ⟨S2x32x256x512, .bf16⟩
  | 117 => ⟨S2112x16384, .f32⟩
  | _ => ⟨S2112x16384, .bf16⟩

abbrev hbmTy (i : Nat) : BufTy := match i / 128 with
  | 0 => hbmTy0_0 i
  | 1 => hbmTy0_1 i
  | 2 => hbmTy0_2 i
  | _ => ⟨S2112x16384, .bf16⟩

abbrev bufTy : (tb : Table) → Fin (tcTables nBuf tb) → BufTy
  | .hbm, ⟨i, _⟩ => hbmTy i
  | .local _ .vmem, ⟨0, _⟩ => ⟨S2112x1024, .bf16⟩
  | .local _ .vmem, ⟨1, _⟩ => ⟨S2112x1024, .bf16⟩
  | .local _ .vmem, ⟨2, _⟩ => ⟨S1x2x2x256x256, .bf16⟩
  | .local _ .vmem, ⟨3, _⟩ => ⟨S1x2x2x256x256, .bf16⟩
  | .local _ .vmem, ⟨4, _⟩ => ⟨S1x2x512x256, .bf16⟩
  | .local _ .vmem, ⟨5, _⟩ => ⟨S1x2x512x256, .bf16⟩
  | .local _ .vmem, ⟨6, _⟩ => ⟨S1x2x256x512, .bf16⟩
  | .local _ .vmem, ⟨7, _⟩ => ⟨S1x2x256x512, .bf16⟩
  | .local _ .vmem, ⟨8, _⟩ => ⟨S1x2x2x128, .f32⟩
  | .local _ .vmem, ⟨9, _⟩ => ⟨S1x2x2x128, .f32⟩
  | .local _ .vmem, ⟨10, _⟩ => ⟨S2112x1024, .f32⟩
  | .local _ .vmem, ⟨11, _⟩ => ⟨S2112x1024, .f32⟩
  | .local _ .vmem, ⟨12, _⟩ => ⟨S2x2112x256, .f32⟩
  | .local _ .vmem, ⟨13, _⟩ => ⟨S2x2112x256, .bf16⟩
  | _, _ => ⟨S2112x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_cst_3 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_v258 : Ref sig .tc := ⟨.hbm, 271, rfl⟩
abbrev main_v259 : Ref sig .tc := ⟨.hbm, 272, rfl⟩
abbrev main_v260 : Ref sig .tc := ⟨.hbm, 273, rfl⟩
abbrev main_v261 : Ref sig .tc := ⟨.hbm, 274, rfl⟩
abbrev main_v262 : Ref sig .tc := ⟨.hbm, 275, rfl⟩
abbrev main_v263 : Ref sig .tc := ⟨.hbm, 276, rfl⟩
abbrev main_v264 : Ref sig .tc := ⟨.hbm, 277, rfl⟩
abbrev main_v265 : Ref sig .tc := ⟨.hbm, 278, rfl⟩
abbrev main_v266 : Ref sig .tc := ⟨.hbm, 279, rfl⟩
abbrev main_v267 : Ref sig .tc := ⟨.hbm, 280, rfl⟩
abbrev main_v268 : Ref sig .tc := ⟨.hbm, 281, rfl⟩
abbrev main_v269 : Ref sig .tc := ⟨.hbm, 282, rfl⟩
abbrev main_v270 : Ref sig .tc := ⟨.hbm, 283, rfl⟩
abbrev main_v271 : Ref sig .tc := ⟨.hbm, 284, rfl⟩
abbrev main_v272 : Ref sig .tc := ⟨.hbm, 285, rfl⟩
abbrev main_v273 : Ref sig .tc := ⟨.hbm, 286, rfl⟩
abbrev main_v274 : Ref sig .tc := ⟨.hbm, 287, rfl⟩
abbrev main_v275 : Ref sig .tc := ⟨.hbm, 288, rfl⟩
abbrev main_v276 : Ref sig .tc := ⟨.hbm, 289, rfl⟩
abbrev main_v277 : Ref sig .tc := ⟨.hbm, 290, rfl⟩
abbrev main_v278 : Ref sig .tc := ⟨.hbm, 291, rfl⟩
abbrev main_v279 : Ref sig .tc := ⟨.hbm, 292, rfl⟩
abbrev main_v280 : Ref sig .tc := ⟨.hbm, 293, rfl⟩
abbrev main_v281 : Ref sig .tc := ⟨.hbm, 294, rfl⟩
abbrev main_v282 : Ref sig .tc := ⟨.hbm, 295, rfl⟩
abbrev main_cst_4 : Ref sig .tc := ⟨.hbm, 296, rfl⟩
abbrev main_v283 : Ref sig .tc := ⟨.hbm, 297, rfl⟩
abbrev main_v284 : Ref sig .tc := ⟨.hbm, 298, rfl⟩
abbrev main_v285 : Ref sig .tc := ⟨.hbm, 299, rfl⟩
abbrev main_v286 : Ref sig .tc := ⟨.hbm, 300, rfl⟩
abbrev main_v287 : Ref sig .tc := ⟨.hbm, 301, rfl⟩
abbrev main_v288 : Ref sig .tc := ⟨.hbm, 302, rfl⟩
abbrev main_v289 : Ref sig .tc := ⟨.hbm, 303, rfl⟩
abbrev main_v290 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩
abbrev main_v294 : Ref sig .tc := ⟨.hbm, 308, rfl⟩
abbrev main_v295 : Ref sig .tc := ⟨.hbm, 309, rfl⟩
abbrev main_v296 : Ref sig .tc := ⟨.hbm, 310, rfl⟩
abbrev main_v297 : Ref sig .tc := ⟨.hbm, 311, rfl⟩
abbrev main_v298 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_v302 : Ref sig .tc := ⟨.hbm, 316, rfl⟩
abbrev main_v303 : Ref sig .tc := ⟨.hbm, 317, rfl⟩
abbrev main_v304 : Ref sig .tc := ⟨.hbm, 318, rfl⟩
abbrev main_v305 : Ref sig .tc := ⟨.hbm, 319, rfl⟩
abbrev main_v306 : Ref sig .tc := ⟨.hbm, 320, rfl⟩
abbrev main_v307 : Ref sig .tc := ⟨.hbm, 321, rfl⟩
abbrev main_v308 : Ref sig .tc := ⟨.hbm, 322, rfl⟩
abbrev main_v309 : Ref sig .tc := ⟨.hbm, 323, rfl⟩
abbrev main_v310 : Ref sig .tc := ⟨.hbm, 324, rfl⟩
abbrev main_v311 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_v317 : Ref sig .tc := ⟨.hbm, 331, rfl⟩
abbrev main_v318 : Ref sig .tc := ⟨.hbm, 332, rfl⟩
abbrev main_v319 : Ref sig .tc := ⟨.hbm, 333, rfl⟩
abbrev main_v320 : Ref sig .tc := ⟨.hbm, 334, rfl⟩
abbrev main_v321 : Ref sig .tc := ⟨.hbm, 335, rfl⟩
abbrev main_v322 : Ref sig .tc := ⟨.hbm, 336, rfl⟩
abbrev main_v323 : Ref sig .tc := ⟨.hbm, 337, rfl⟩
abbrev main_v324 : Ref sig .tc := ⟨.hbm, 338, rfl⟩
abbrev main_v325 : Ref sig .tc := ⟨.hbm, 339, rfl⟩
abbrev main_v326 : Ref sig .tc := ⟨.hbm, 340, rfl⟩
abbrev main_v327 : Ref sig .tc := ⟨.hbm, 341, rfl⟩
abbrev main_cst_5 : Ref sig .tc := ⟨.hbm, 342, rfl⟩
abbrev main_v328 : Ref sig .tc := ⟨.hbm, 343, rfl⟩
abbrev main_v329 : Ref sig .tc := ⟨.hbm, 344, rfl⟩
abbrev main_v330 : Ref sig .tc := ⟨.hbm, 345, rfl⟩
abbrev main_v331 : Ref sig .tc := ⟨.hbm, 346, rfl⟩
abbrev main_v332 : Ref sig .tc := ⟨.hbm, 347, rfl⟩
abbrev main_v333 : Ref sig .tc := ⟨.hbm, 348, rfl⟩
abbrev main_v334 : Ref sig .tc := ⟨.hbm, 349, rfl⟩
abbrev main_v335 : Ref sig .tc := ⟨.hbm, 350, rfl⟩
abbrev main_v336 : Ref sig .tc := ⟨.hbm, 351, rfl⟩
abbrev main_v337 : Ref sig .tc := ⟨.hbm, 352, rfl⟩
abbrev main_v338 : Ref sig .tc := ⟨.hbm, 353, rfl⟩
abbrev main_v339 : Ref sig .tc := ⟨.hbm, 354, rfl⟩
abbrev main_v340 : Ref sig .tc := ⟨.hbm, 355, rfl⟩
abbrev main_v341 : Ref sig .tc := ⟨.hbm, 356, rfl⟩
abbrev main_v342 : Ref sig .tc := ⟨.hbm, 357, rfl⟩
abbrev main_v343 : Ref sig .tc := ⟨.hbm, 358, rfl⟩
abbrev main_v344 : Ref sig .tc := ⟨.hbm, 359, rfl⟩
abbrev main_v345 : Ref sig .tc := ⟨.hbm, 360, rfl⟩
abbrev main_v346 : Ref sig .tc := ⟨.hbm, 361, rfl⟩
abbrev main_v347 : Ref sig .tc := ⟨.hbm, 362, rfl⟩
abbrev main_v348 : Ref sig .tc := ⟨.hbm, 363, rfl⟩
abbrev main_v349 : Ref sig .tc := ⟨.hbm, 364, rfl⟩
abbrev main_v350 : Ref sig .tc := ⟨.hbm, 365, rfl⟩
abbrev main_v351 : Ref sig .tc := ⟨.hbm, 366, rfl⟩
abbrev main_v352 : Ref sig .tc := ⟨.hbm, 367, rfl⟩
abbrev main_v353 : Ref sig .tc := ⟨.hbm, 368, rfl⟩
abbrev main_v354 : Ref sig .tc := ⟨.hbm, 369, rfl⟩
abbrev main_v355 : Ref sig .tc := ⟨.hbm, 370, rfl⟩
abbrev main_v356 : Ref sig .tc := ⟨.hbm, 371, rfl⟩
abbrev main_v357 : Ref sig .tc := ⟨.hbm, 372, rfl⟩
abbrev main_v358 : Ref sig .tc := ⟨.hbm, 373, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x2x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2112x16384 : Shape := ⟨2, ![2112, 16384]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x64x64x16 : Shape := ⟨4, ![1, 64, 64, 16]⟩
abbrev S64x64x16 : Shape := ⟨3, ![64, 64, 16]⟩
abbrev S1x64x16x64 : Shape := ⟨4, ![1, 64, 16, 64]⟩
abbrev S64x16x64 : Shape := ⟨3, ![64, 16, 64]⟩
abbrev S132x16x64x16x16 : Shape := ⟨5, ![132, 16, 64, 16, 16]⟩
abbrev S132x16x16x64x16 : Shape := ⟨5, ![132, 16, 16, 64, 16]⟩
abbrev S2112x16x64x16 : Shape := ⟨4, ![2112, 16, 64, 16]⟩
abbrev S_ : Shape := ⟨0, ![]⟩
abbrev S64x1 : Shape := ⟨2, ![64, 1]⟩
abbrev S64x64x1 : Shape := ⟨3, ![64, 64, 1]⟩
abbrev S64x64x2112x16 : Shape := ⟨4, ![64, 64, 2112, 16]⟩
abbrev S2112x16x64x64 : Shape := ⟨4, ![2112, 16, 64, 64]⟩
abbrev S16x64x64 : Shape := ⟨3, ![16, 64, 64]⟩
abbrev S1x16x64x64 : Shape := ⟨4, ![1, 16, 64, 64]⟩
abbrev S64x16x2112x16 : Shape := ⟨4, ![64, 16, 2112, 16]⟩

abbrev nBuf : Space → Nat
  | .hbm => 138
  | .vmem => 0
  | .smem => 0
  | _ => 0

abbrev hbmTy0_0 (i : Nat) : BufTy := match i % 128 with
  | 0 => ⟨S2112x16384, .bf16⟩
  | 1 => ⟨S2x64x64, .f32⟩
  | 2 => ⟨S2x64x64, .f32⟩
  | 3 => ⟨S2x64, .f32⟩
  | 4 => ⟨S2x64x64x16, .f32⟩
  | 5 => ⟨S2x64x64x16, .f32⟩
  | 6 => ⟨S2x64x16x64, .f32⟩
  | 7 => ⟨S2x64x16x64, .f32⟩
  | 8 => ⟨S1x64x64, .f32⟩
  | 9 => ⟨S64x64, .f32⟩
  | 10 => ⟨S1x64x64, .f32⟩
  | 11 => ⟨S64x64, .f32⟩
  | 12 => ⟨S1x64, .f32⟩
  | 13 => ⟨S64, .f32⟩
  | 14 => ⟨S1x64x64x16, .f32⟩
  | 15 => ⟨S64x64x16, .f32⟩
  | 16 => ⟨S1x64x64x16, .f32⟩
  | 17 => ⟨S64x64x16, .f32⟩
  | 18 => ⟨S1x64x16x64, .f32⟩
  | 19 => ⟨S64x16x64, .f32⟩
  | 20 => ⟨S1x64x16x64, .f32⟩
  | 21 => ⟨S64x16x64, .f32⟩
  | 22 => ⟨S2112x16384, .f32⟩
  | 23 => ⟨S132x16x64x16x16, .f32⟩
  | 24 => ⟨S132x16x16x64x16, .f32⟩
  | 25 => ⟨S2112x16x64x16, .f32⟩
  | 26 => ⟨S_, .f32⟩
  | 27 => ⟨S64x64, .f32⟩
  | 28 => ⟨S64x64, .f32⟩
  | 29 => ⟨S64, .f32⟩
  | 30 => ⟨S64x1, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S_, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S64x64, .f32⟩
  | 55 => ⟨S64x64, .f32⟩
  | 56 => ⟨S64x64x1, .f32⟩
  | 57 => ⟨S64x64x16, .f32⟩
  | 58 => ⟨S64x64x16, .f32⟩
  | 59 => ⟨S64x64x1, .f32⟩
  | 60 => ⟨S64x64x16, .f32⟩
  | 61 => ⟨S64x64x16, .f32⟩
  | 62 => ⟨S64x64x16, .f32⟩
  | 63 => ⟨S64x64x1, .f32⟩
  | 64 => ⟨S64x64x16, .f32⟩
  | 65 => ⟨S64x64x16, .f32⟩
  | 66 => ⟨S64x64x1, .f32⟩
  | 67 => ⟨S64x64x16, .f32⟩
  | 68 => ⟨S64x64x16, .f32⟩
  | 69 => ⟨S64x64x16, .f32⟩
  | 70 => ⟨S64x64x2112x16, .f32⟩
  | 71 => ⟨S2112x16x64x64, .f32⟩
  | 72 => ⟨S64x64x2112x16, .f32⟩
  | 73 => ⟨S2112x16x64x64, .f32⟩
  | 74 => ⟨S_, .f32⟩
  | 75 => ⟨S16x64x64, .f32⟩
  | 76 => ⟨S_, .f32⟩
  | 77 => ⟨S2112x16x64x64, .f32⟩
  | 78 => ⟨S_, .f32⟩
  | 79 => ⟨S2112x16x64x64, .f32⟩
  | 80 => ⟨S_, .i32⟩
  | 81 => ⟨S2112x16x64x64, .f32⟩
  | 82 => ⟨S2112x16x64x64, .f32⟩
  | 83 => ⟨S64x64, .f32⟩
  | 84 => ⟨S64x64, .f32⟩
  | 85 => ⟨S_, .i32⟩
  | 86 => ⟨S16x64x64, .f32⟩
  | 87 => ⟨S16x64x64, .f32⟩
  | 88 => ⟨S2112x16x64x64, .f32⟩
  | 89 => ⟨S2112x16x64x64, .f32⟩
  | 90 => ⟨S_, .i32⟩
  | 91 => ⟨S_, .i1⟩
  | 92 => ⟨S_, .i32⟩
  | 93 => ⟨S_, .i32⟩
  | 94 => ⟨S_, .i32⟩
  | 95 => ⟨S1x16x64x64, .f32⟩
  | 96 => ⟨S16x64x64, .f32⟩
  | 97 => ⟨S_, .i32⟩
  | 98 => ⟨S_, .i32⟩
  | 99 => ⟨S_, .i32⟩
  | 100 => ⟨S1x16x64x64, .f32⟩
  | 101 => ⟨S16x64x64, .f32⟩
  | 102 => ⟨S1x64x64, .f32⟩
  | 103 => ⟨S16x64x64, .f32⟩
  | 104 => ⟨S16x64x64, .f32⟩
  | 105 => ⟨S1x64x64, .f32⟩
  | 106 => ⟨S16x64x64, .f32⟩
  | 107 => ⟨S16x64x64, .f32⟩
  | 108 => ⟨S16x64x64, .f32⟩
  | 109 => ⟨S16x64x64, .f32⟩
  | 110 => ⟨S1x64x64, .f32⟩
  | 111 => ⟨S16x64x64, .f32⟩
  | 112 => ⟨S16x64x64, .f32⟩
  | 113 => ⟨S1x64x64, .f32⟩
  | 114 => ⟨S16x64x64, .f32⟩
  | 115 => ⟨S16x64x64, .f32⟩
  | 116 => ⟨S16x64x64, .f32⟩
  | 117 => ⟨S16x64x64, .f32⟩
  | 118 => ⟨S1x16x64x64, .f32⟩
  | 119 => ⟨S_, .i32⟩
  | 120 => ⟨S_, .i32⟩
  | 121 => ⟨S_, .i32⟩
  | 122 => ⟨S2112x16x64x64, .f32⟩
  | 123 => ⟨S1x16x64x64, .f32⟩
  | 124 => ⟨S_, .i32⟩
  | 125 => ⟨S_, .i32⟩
  | 126 => ⟨S_, .i32⟩
  | 127 => ⟨S2112x16x64x64, .f32⟩
  | _ => ⟨S2112x16384, .bf16⟩

abbrev hbmTy0_1 (i : Nat) : BufTy := match i % 128 with
  | 0 => ⟨S_, .i32⟩
  | 1 => ⟨S_, .i32⟩
  | 2 => ⟨S64x16x2112x16, .f32⟩
  | 3 => ⟨S2112x16x64x16, .f32⟩
  | 4 => ⟨S64x16x2112x16, .f32⟩
  | 5 => ⟨S2112x16x64x16, .f32⟩
  | 6 => ⟨S2112x16x64x16, .f32⟩
  | 7 => ⟨S132x16x16x64x16, .f32⟩
  | 8 => ⟨S132x16x64x16x16, .f32⟩
  | 9 => ⟨S2112x16384, .f32⟩
  | _ => ⟨S2112x16384, .bf16⟩

abbrev hbmTy (i : Nat) : BufTy := match i / 128 with
  | 0 => hbmTy0_0 i
  | 1 => hbmTy0_1 i
  | _ => ⟨S2112x16384, .bf16⟩

abbrev bufTy : (tb : Table) → Fin (tcTables nBuf tb) → BufTy
  | .hbm, ⟨i, _⟩ => hbmTy i
  | _, _ => ⟨S2112x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_1 : Ref sig .tc := ⟨.hbm, 74, rfl⟩
abbrev main_v64 : Ref sig .tc := ⟨.hbm, 75, rfl⟩
abbrev main_cst_2 : Ref sig .tc := ⟨.hbm, 76, rfl⟩
abbrev main_v65 : Ref sig .tc := ⟨.hbm, 77, rfl⟩
abbrev main_cst_3 : Ref sig .tc := ⟨.hbm, 78, rfl⟩
abbrev main_v66 : Ref sig .tc := ⟨.hbm, 79, rfl⟩
abbrev main_c : Ref sig .tc := ⟨.hbm, 80, rfl⟩
abbrev main_v67_0 : Ref sig .tc := ⟨.hbm, 81, rfl⟩
abbrev main_v67_1 : Ref sig .tc := ⟨.hbm, 82, rfl⟩
abbrev main_v67_2 : Ref sig .tc := ⟨.hbm, 83, rfl⟩
abbrev main_v67_3 : Ref sig .tc := ⟨.hbm, 84, rfl⟩
abbrev main_v67_4 : Ref sig .tc := ⟨.hbm, 85, rfl⟩
abbrev main_v67_5 : Ref sig .tc := ⟨.hbm, 86, rfl⟩
abbrev main_v67_6 : Ref sig .tc := ⟨.hbm, 87, rfl⟩
abbrev main_v67_7 : Ref sig .tc := ⟨.hbm, 88, rfl⟩
abbrev main_v67_8 : Ref sig .tc := ⟨.hbm, 89, rfl⟩
abbrev main_while0c_c_12 : Ref sig .tc := ⟨.hbm, 90, rfl⟩
abbrev main_while0c_v76 : Ref sig .tc := ⟨.hbm, 91, rfl⟩
abbrev main_while0b_call0_c : Ref sig .tc := ⟨.hbm, 92, rfl⟩
abbrev main_while0b_call0_c_0 : Ref sig .tc := ⟨.hbm, 93, rfl⟩
abbrev main_while0b_call0_c_1 : Ref sig .tc := ⟨.hbm, 94, rfl⟩
abbrev main_while0b_call0_v0 : Ref sig .tc := ⟨.hbm, 95, rfl⟩
abbrev main_while0b_v76 : Ref sig .tc := ⟨.hbm, 96, rfl⟩
abbrev main_while0b_call1_c : Ref sig .tc := ⟨.hbm, 97, rfl⟩
abbrev main_while0b_call1_c_0 : Ref sig .tc := ⟨.hbm, 98, rfl⟩
abbrev main_while0b_call1_c_1 : Ref sig .tc := ⟨.hbm, 99, rfl⟩
abbrev main_while0b_call1_v0 : Ref sig .tc := ⟨.hbm, 100, rfl⟩
abbrev main_while0b_v77 : Ref sig .tc := ⟨.hbm, 101, rfl⟩
abbrev main_while0b_v78 : Ref sig .tc := ⟨.hbm, 102, rfl⟩
abbrev main_while0b_v79 : Ref sig .tc := ⟨.hbm, 103, rfl⟩
abbrev main_while0b_v80 : Ref sig .tc := ⟨.hbm, 104, rfl⟩
abbrev main_while0b_v81 : Ref sig .tc := ⟨.hbm, 105, rfl⟩
abbrev main_while0b_v82 : Ref sig .tc := ⟨.hbm, 106, rfl⟩
abbrev main_while0b_v83 : Ref sig .tc := ⟨.hbm, 107, rfl⟩
abbrev main_while0b_v84 : Ref sig .tc := ⟨.hbm, 108, rfl⟩
abbrev main_while0b_v85 : Ref sig .tc := ⟨.hbm, 109, rfl⟩
abbrev main_while0b_v86 : Ref sig .tc := ⟨.hbm, 110, rfl⟩
abbrev main_while0b_v87 : Ref sig .tc := ⟨.hbm, 111, rfl⟩
abbrev main_while0b_v88 : Ref sig .tc := ⟨.hbm, 112, rfl⟩
abbrev main_while0b_v89 : Ref sig .tc := ⟨.hbm, 113, rfl⟩
abbrev main_while0b_v90 : Ref sig .tc := ⟨.hbm, 114, rfl⟩
abbrev main_while0b_v91 : Ref sig .tc := ⟨.hbm, 115, rfl⟩
abbrev main_while0b_v92 : Ref sig .tc := ⟨.hbm, 116, rfl⟩
abbrev main_while0b_v93 : Ref sig .tc := ⟨.hbm, 117, rfl⟩
abbrev main_while0b_call2_v0 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_c_1 : Ref sig .tc := ⟨.hbm, 121, rfl⟩
abbrev main_while0b_v94 : Ref sig .tc := ⟨.hbm, 122, rfl⟩
abbrev main_while0b_call3_v0 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_call3_c_1 : Ref sig .tc := ⟨.hbm, 126, rfl⟩
abbrev main_while0b_v95 : Ref sig .tc := ⟨.hbm, 127, rfl⟩
abbrev main_while0b_c_12 : Ref sig .tc := ⟨.hbm, 128, rfl⟩
abbrev main_while0b_v96 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩

abbrev nD : Nat := 1
abbrev τ : Topo := Topo.v7x

variable {F : FTy → Type} [FloatOps F]

abbrev main_while0_count : Scf.Loop 32 := ⟨0#32, 2112#32, 1#32⟩
-- ==== Kernel2.lean ====
abbrev S33792x2048 : Shape := ⟨2, ![33792, 2048]⟩
abbrev S2x2048 : Shape := ⟨2, ![2, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x5632x2048 : Shape := ⟨3, ![2, 5632, 2048]⟩
abbrev S2048 : Shape := ⟨1, ![2048]⟩
abbrev S1x2048 : Shape := ⟨2, ![1, 2048]⟩
abbrev S2x1x5632 : Shape := ⟨3, ![2, 1, 5632]⟩
abbrev S32768x2048 : Shape := ⟨2, ![32768, 2048]⟩
abbrev S1024x2048 : Shape := ⟨2, ![1024, 2048]⟩
abbrev S16x2048 : Shape := ⟨2, ![16, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S1040x2048 : Shape := ⟨2, ![1040, 2048]⟩
abbrev S16 : Shape := ⟨1, ![16]⟩
abbrev S16x1 : Shape := ⟨2, ![16, 1]⟩
abbrev S512x2048 : Shape := ⟨2, ![512, 2048]⟩
abbrev S512 : Shape := ⟨1, ![512]⟩
abbrev S512x1 : Shape := ⟨2, ![512, 1]⟩
abbrev S528x2048 : Shape := ⟨2, ![528, 2048]⟩
abbrev S2048x512 : Shape := ⟨2, ![2048, 512]⟩
abbrev S528x512 : Shape := ⟨2, ![528, 512]⟩
abbrev S512x512 : Shape := ⟨2, ![512, 512]⟩
abbrev S3x512 : Shape := ⟨2, ![3, 512]⟩
abbrev S1x512 : Shape := ⟨2, ![1, 512]⟩
abbrev S1024 : Shape := ⟨1, ![1024]⟩
abbrev S1024x1 : Shape := ⟨2, ![1024, 1]⟩

abbrev nBuf : Space → Nat
  | .hbm => 17
  | .vmem => 19
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x3x5632, .f32⟩
  | .hbm, ⟨5, _⟩ => ⟨S2x5632, .f32⟩
  | .hbm, ⟨6, _⟩ => ⟨S2x5632x2048, .f32⟩
  | .hbm, ⟨7, _⟩ => ⟨S2048, .f32⟩
  | .hbm, ⟨8, _⟩ => ⟨S2x2048x5632, .bf16⟩
  | .hbm, ⟨9, _⟩ => ⟨S2x2048x5632, .bf16⟩
  | .hbm, ⟨10, _⟩ => ⟨S2x5632x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2x1x5632, .f32⟩
  | .hbm, ⟨15, _⟩ => ⟨S1x2048, .f32⟩
  | .hbm, ⟨16, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x3x512, .f32⟩
  | .local _ .vmem, ⟨10, _⟩ => ⟨S1x3x512, .f32⟩
  | .local _ .vmem, ⟨11, _⟩ => ⟨S1x1x512, .f32⟩
  | .local _ .vmem, ⟨12, _⟩ => ⟨S1x1x512, .f32⟩
  | .local _ .vmem, ⟨13, _⟩ => ⟨S1x512x2048, .bf16⟩
  | .local _ .vmem, ⟨14, _⟩ => ⟨S1x512x2048, .bf16⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1040x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 2, 11], ![false, false, false]⟩

def k0_mult1 (i : grid0.Coords) : BitVec 32 :=
  let arg0 : BitVec 32 := BitVec.ofNat 32 (i 0).val
  let c2112_i32 : BitVec 32 := 2112#32
  let v0 : BitVec 32 := Scalar.muli arg0 c2112_i32
  let c64_i32 : BitVec 32 := 64#32
  let v1 : BitVec 32 := Scalar.addi v0 c64_i32
  let arg1 : BitVec 32 := BitVec.ofNat 32 (i 1).val
  let c1024_i32 : BitVec 32 := 1024#32
  let v2 : BitVec 32 := Scalar.muli arg1 c1024_i32
  let v3 : BitVec 32 := Scalar.addi v1 v2
  let c0_i32 : BitVec 32 := 0#32
  let v4 : BitVec 32 := Scalar.subi v3 c0_i32
  v4
def k0_mult2 (i : grid0.Coords) : BitVec 32 :=
  let arg0 : BitVec 32 := BitVec.ofNat 32 (i 0).val
  let c2112_i32 : BitVec 32 := 2112#32
  let v0 : BitVec 32 := Scalar.muli arg0 c2112_i32
  let c64_i32 : BitVec 32 := 64#32
  let v1 : BitVec 32 := Scalar.addi v0 c64_i32
  let arg1 : BitVec 32 := BitVec.ofNat 32 (i 1).val
  let c1024_i32 : BitVec 32 := 1024#32
  let v2 : BitVec 32 := Scalar.muli arg1 c1024_i32
  let v3 : BitVec 32 := Scalar.addi v1 v2
  let c16_i32 : BitVec 32 := 16#32
  let v4 : BitVec 32 := Scalar.subi v3 c16_i32
  v4
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c10_i32 : BitVec 32 := 10#32
  let v6 : BitVec 1 := Scalar.cmpi .eq arg2 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2112_i32 : BitVec 32 := 2112#32
  let v0 : BitVec 32 := Scalar.muli arg0 c2112_i32
  let c64_i32 : BitVec 32 := 64#32
  let v1 : BitVec 32 := Scalar.addi v0 c64_i32
  let c1024_i32 : BitVec 32 := 1024#32
  let v2 : BitVec 32 := Scalar.muli arg1 c1024_i32
  let v3 : BitVec 32 := Scalar.addi v1 v2
  let c0_i32 : BitVec 32 := 0#32
  let v4 : BitVec 32 := Scalar.subi v3 c0_i32
  let v5 : BitVec 32 := v4
  let c0_i32_0 : BitVec 32 := 0#32
  let c0_i32_1 : BitVec 32 := 0#32
  ![v5.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2112_i32 : BitVec 32 := 2112#32
  let v0 : BitVec 32 := Scalar.muli arg0 c2112_i32
  let c64_i32 : BitVec 32 := 64#32
  let v1 : BitVec 32 := Scalar.addi v0 c64_i32
  let c1024_i32 : BitVec 32 := 1024#32
  let v2 : BitVec 32 := Scalar.muli arg1 c1024_i32
  let v3 : BitVec 32 := Scalar.addi v1 v2
  let c16_i32 : BitVec 32 := 16#32
  let v4 : BitVec 32 := Scalar.subi v3 c16_i32
  let v5 : BitVec 32 := v4
  let c0_i32 : BitVec 32 := 0#32
  let c0_i32_0 : BitVec 32 := 0#32
  ![v5.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S33792x2048 : Shape := ⟨2, ![33792, 2048]⟩
abbrev S2x2048 : Shape := ⟨2, ![2, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x5632x2048 : Shape := ⟨3, ![2, 5632, 2048]⟩
abbrev S2048 : Shape := ⟨1, ![2048]⟩
abbrev S16x2112x2048 : Shape := ⟨3, ![16, 2112, 2048]⟩
abbrev S16x2064x2048 : Shape := ⟨3, ![16, 2064, 2048]⟩
abbrev S1x2048 : Shape := ⟨2, ![1, 2048]⟩
abbrev S_ : Shape := ⟨0, ![]⟩
abbrev S16x2064 : Shape := ⟨2, ![16, 2064]⟩
abbrev S16x2064x1 : Shape := ⟨3, ![16, 2064, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x5632x2048 : Shape := ⟨3, ![1, 5632, 2048]⟩
abbrev S5632x2048 : Shape := ⟨2, ![5632, 2048]⟩
abbrev S16x2064x5632 : Shape := ⟨3, ![16, 2064, 5632]⟩
abbrev S16x2066x5632 : Shape := ⟨3, ![16, 2066, 5632]⟩
abbrev S1x1x5632 : Shape := ⟨3, ![1, 1, 5632]⟩
abbrev S16x2048x2048 : Shape := ⟨3, ![16, 2048, 2048]⟩
abbrev S16x2048 : Shape := ⟨2, ![16, 2048]⟩
abbrev S16x2048x1 : Shape := ⟨3, ![16, 2048, 1]⟩
abbrev S32768x2048 : Shape := ⟨2, ![32768, 2048]⟩

abbrev nBuf : Space → Nat
  | .hbm => 96
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x3x5632, .f32⟩
  | .hbm, ⟨5, _⟩ => ⟨S2x5632, .f32⟩
  | .hbm, ⟨6, _⟩ => ⟨S2x5632x2048, .f32⟩
  | .hbm, ⟨7, _⟩ => ⟨S2048, .f32⟩
  | .hbm, ⟨8, _⟩ => ⟨S16x2112x2048, .f32⟩
  | .hbm, ⟨9, _⟩ => ⟨S16x2064x2048, .f32⟩
  | .hbm, ⟨10, _⟩ => ⟨S1x2048, .f32⟩
  | .hbm, ⟨11, _⟩ => ⟨S2048, .f32⟩
  | .hbm, ⟨12, _⟩ => ⟨S16x2064x2048, .f32⟩
  | .hbm, ⟨13, _⟩ => ⟨S_, .f32⟩
  | .hbm, ⟨14, _⟩ => ⟨S16x2064, .f32⟩
  | .hbm, ⟨15, _⟩ => ⟨S16x2064x1, .f32⟩
  | .hbm, ⟨16, _⟩ => ⟨S_, .f32⟩
  | .hbm, ⟨17, _⟩ => ⟨S16x2064x1, .f32⟩
  | .hbm, ⟨18, _⟩ => ⟨S16x2064x1, .f32⟩
  | .hbm, ⟨19, _⟩ => ⟨S_, .f32⟩
  | .hbm, ⟨20, _⟩ => ⟨S16x2064x1, .f32⟩
  | .hbm, ⟨21, _⟩ => ⟨S16x2064x1, .f32⟩
  | .hbm, ⟨22, _⟩ => ⟨S16x2064x1, .f32⟩
  | .hbm, ⟨23, _⟩ => ⟨S16x2064x2048, .f32⟩
  | .hbm, ⟨24, _⟩ => ⟨S16x2064x2048, .f32⟩
  | .hbm, ⟨25, _⟩ => ⟨S1x1x2048, .f32⟩
  | .hbm, ⟨26, _⟩ => ⟨S16x2064x2048, .f32⟩
  | .hbm, ⟨27, _⟩ => ⟨S16x2064x2048, .f32⟩
  | .hbm, ⟨28, _⟩ => ⟨S1x2048x5632, .f32⟩
  | .hbm, ⟨29, _⟩ => ⟨S2048x5632, .f32⟩
  | .hbm, ⟨30, _⟩ => ⟨S1x2048x5632, .f32⟩
  | .hbm, ⟨31, _⟩ => ⟨S2048x5632, .f32⟩
  | .hbm, ⟨32, _⟩ => ⟨S1x3x5632, .f32⟩
  | .hbm, ⟨33, _⟩ => ⟨S3x5632, .f32⟩
  | .hbm, ⟨34, _⟩ => ⟨S1x5632, .f32⟩
  | .hbm, ⟨35, _⟩ => ⟨S5632, .f32⟩
  | .hbm, ⟨36, _⟩ => ⟨S1x5632x2048, .f32⟩
  | .hbm, ⟨37, _⟩ => ⟨S5632x2048, .f32⟩
  | .hbm, ⟨38, _⟩ => ⟨S16x2064x5632, .f32⟩
  | .hbm, ⟨39, _⟩ => ⟨S_, .i32⟩
  | .hbm, ⟨40, _⟩ => ⟨S_, .f32⟩
  | .hbm, ⟨41, _⟩ => ⟨S16x2066x5632, .f32⟩
  | .hbm, ⟨42, _⟩ => ⟨S1x5632, .f32⟩
  | .hbm, ⟨43, _⟩ => ⟨S5632, .f32⟩
  | .hbm, ⟨44, _⟩ => ⟨S16x2064x5632, .f32⟩
  | .hbm, ⟨45, _⟩ => ⟨S1x1x5632, .f32⟩
  | .hbm, ⟨46, _⟩ => ⟨S16x2064x5632, .f32⟩
  | .hbm, ⟨47, _⟩ => ⟨S16x2064x5632, .f32⟩
  | .hbm, ⟨48, _⟩ => ⟨S1x1x5632, .f32⟩
  | .hbm, ⟨49, _⟩ => ⟨S16x2064x5632, .f32⟩
  | .hbm, ⟨50, _⟩ => ⟨S16x2064x5632, .f32⟩
  | .hbm, ⟨51, _⟩ => ⟨S1x5632, .f32⟩
  | .hbm, ⟨52, _⟩ => ⟨S5632, .f32⟩
  | .hbm, ⟨53, _⟩ => ⟨S16x2064x5632, .f32⟩
  | .hbm, ⟨54, _⟩ => ⟨S1x1x5632, .f32⟩
  | .hbm, ⟨55, _⟩ => ⟨S16x2064x5632, .f32⟩
  | .hbm, ⟨56, _⟩ => ⟨S16x2064x5632, .f32⟩
  | .hbm, ⟨57, _⟩ => ⟨S16x2064x5632, .f32⟩
  | .hbm, ⟨58, _⟩ => ⟨S1x5632, .f32⟩
  | .hbm, ⟨59, _⟩ => ⟨S5632, .f32⟩
  | .hbm, ⟨60, _⟩ => ⟨S16x2064x5632, .f32⟩
  | .hbm, ⟨61, _⟩ => ⟨S1x1x5632, .f32⟩
  | .hbm, ⟨62, _⟩ => ⟨S16x2064x5632, .f32⟩
  | .hbm, ⟨63, _⟩ => ⟨S16x2064x5632, .f32⟩
  | .hbm, ⟨64, _⟩ => ⟨S16x2064x5632, .f32⟩
  | .hbm, ⟨65, _⟩ => ⟨S16x2064x5632, .f32⟩
  | .hbm, ⟨66, _⟩ => ⟨S16x2064x5632, .f32⟩
  | .hbm, ⟨67, _⟩ => ⟨S_, .f32⟩
  | .hbm, ⟨68, _⟩ => ⟨S16x2064x5632, .f32⟩
  | .hbm, ⟨69, _⟩ => ⟨S16x2064x5632, .f32⟩
  | .hbm, ⟨70, _⟩ => ⟨S_, .f32⟩
  | .hbm, ⟨71, _⟩ => ⟨S16x2064x5632, .f32⟩
  | .hbm, ⟨72, _⟩ => ⟨S16x2064x5632, .f32⟩
  | .hbm, ⟨73, _⟩ => ⟨S16x2064x5632, .f32⟩
  | .hbm, ⟨74, _⟩ => ⟨S16x2064x5632, .f32⟩
  | .hbm, ⟨75, _⟩ => ⟨S16x2064x5632, .f32⟩
  | .hbm, ⟨76, _⟩ => ⟨S16x2064x2048, .f32⟩
  | .hbm, ⟨77, _⟩ => ⟨S16x2064x2048, .f32⟩
  | .hbm, ⟨78, _⟩ => ⟨S16x2048x2048, .f32⟩
  | .hbm, ⟨79, _⟩ => ⟨S16x2048x2048, .f32⟩
  | .hbm, ⟨80, _⟩ => ⟨S_, .f32⟩
  | .hbm, ⟨81, _⟩ => ⟨S16x2048, .f32⟩
  | .hbm, ⟨82, _⟩ => ⟨S16x2048x1, .f32⟩
  | .hbm, ⟨83, _⟩ => ⟨S_, .f32⟩
  | .hbm, ⟨84, _⟩ => ⟨S16x2048x1, .f32⟩
  | .hbm, ⟨85, _⟩ => ⟨S16x2048x1, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S16x2048x1, .f32⟩
  | .hbm, ⟨90, _⟩ => ⟨S16x2048x2048, .f32⟩
  | .hbm, ⟨91, _⟩ => ⟨S16x2048x2048, .f32⟩
  | .hbm, ⟨92, _⟩ => ⟨S1x1x2048, .f32⟩
  | .hbm, ⟨93, _⟩ => ⟨S16x2048x2048, .f32⟩
  | .hbm, ⟨94, _⟩ => ⟨S16x2048x2048, .f32⟩
  | .hbm, ⟨95, _⟩ => ⟨S32768x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_2 : Ref sig .tc := ⟨.hbm, 80, rfl⟩
abbrev main_v59 : Ref sig .tc := ⟨.hbm, 81, rfl⟩
abbrev main_v60 : Ref sig .tc := ⟨.hbm, 82, rfl⟩
abbrev main_cst_3 : Ref sig .tc := ⟨.hbm, 83, rfl⟩
abbrev main_v61 : Ref sig .tc := ⟨.hbm, 84, rfl⟩
abbrev main_v62 : Ref sig .tc := ⟨.hbm, 85, rfl⟩
abbrev main_cst_4 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel3.lean ====
abbrev S33792x2048 : Shape := ⟨2, ![33792, 2048]⟩
abbrev S2x2048 : Shape := ⟨2, ![2, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x5632x2048 : Shape := ⟨3, ![2, 5632, 2048]⟩
abbrev S2048 : Shape := ⟨1, ![2048]⟩
abbrev S1x2048 : Shape := ⟨2, ![1, 2048]⟩
abbrev S2x1x5632 : Shape := ⟨3, ![2, 1, 5632]⟩
abbrev S1056x2048 : Shape := ⟨2, ![1056, 2048]⟩
abbrev S16x2048 : Shape := ⟨2, ![16, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S1072x2048 : Shape := ⟨2, ![1072, 2048]⟩
abbrev S16 : Shape := ⟨1, ![16]⟩
abbrev S16x1 : Shape := ⟨2, ![16, 1]⟩
abbrev S528x2048 : Shape := ⟨2, ![528, 2048]⟩
abbrev S528 : Shape := ⟨1, ![528]⟩
abbrev S528x1 : Shape := ⟨2, ![528, 1]⟩
abbrev S544x2048 : Shape := ⟨2, ![544, 2048]⟩
abbrev S2048x512 : Shape := ⟨2, ![2048, 512]⟩
abbrev S544x512 : Shape := ⟨2, ![544, 512]⟩
abbrev S528x512 : Shape := ⟨2, ![528, 512]⟩
abbrev S3x512 : Shape := ⟨2, ![3, 512]⟩
abbrev S1x512 : Shape := ⟨2, ![1, 512]⟩
abbrev S512x2048 : Shape := ⟨2, ![512, 2048]⟩

abbrev nBuf : Space → Nat
  | .hbm => 17
  | .vmem => 19
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x3x5632, .f32⟩
  | .hbm, ⟨5, _⟩ => ⟨S2x5632, .f32⟩
  | .hbm, ⟨6, _⟩ => ⟨S2x5632x2048, .f32⟩
  | .hbm, ⟨7, _⟩ => ⟨S2048, .f32⟩
  | .hbm, ⟨8, _⟩ => ⟨S2x2048x5632, .bf16⟩
  | .hbm, ⟨9, _⟩ => ⟨S2x2048x5632, .bf16⟩
  | .hbm, ⟨10, _⟩ => ⟨S2x5632x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2x1x5632, .f32⟩
  | .hbm, ⟨15, _⟩ => ⟨S1x2048, .f32⟩
  | .hbm, ⟨16, _⟩ => ⟨S33792x2048, .f32⟩
  | .local _ .vmem, ⟨0, _⟩ => ⟨S1056x2048, .f32⟩
  | .local _ .vmem, ⟨1, _⟩ => ⟨S1056x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x3x512, .f32⟩
  | .local _ .vmem, ⟨10, _⟩ => ⟨S1x3x512, .f32⟩
  | .local _ .vmem, ⟨11, _⟩ => ⟨S1x1x512, .f32⟩
  | .local _ .vmem, ⟨12, _⟩ => ⟨S1x1x512, .f32⟩
  | .local _ .vmem, ⟨13, _⟩ => ⟨S1x512x2048, .bf16⟩
  | .local _ .vmem, ⟨14, _⟩ => ⟨S1x512x2048, .bf16⟩
  | .local _ .vmem, ⟨15, _⟩ => ⟨S1x2048, .f32⟩
  | .local _ .vmem, ⟨16, _⟩ => ⟨S1056x2048, .f32⟩
  | .local _ .vmem, ⟨17, _⟩ => ⟨S1056x2048, .f32⟩
  | .local _ .vmem, ⟨18, _⟩ => ⟨S1072x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.muli arg0 c66_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1056x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S33792x2048 : Shape := ⟨2, ![33792, 2048]⟩
abbrev S2x2048 : Shape := ⟨2, ![2, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x5632x2048 : Shape := ⟨3, ![2, 5632, 2048]⟩
abbrev S2048 : Shape := ⟨1, ![2048]⟩
abbrev S16x2112x2048 : Shape := ⟨3, ![16, 2112, 2048]⟩
abbrev S16x2064x2048 : Shape := ⟨3, ![16, 2064, 2048]⟩
abbrev S1x2048 : Shape := ⟨2, ![1, 2048]⟩
abbrev S_ : Shape := ⟨0, ![]⟩
abbrev S16x2064 : Shape := ⟨2, ![16, 2064]⟩
abbrev S16x2064x1 : Shape := ⟨3, ![16, 2064, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x5632x2048 : Shape := ⟨3, ![1, 5632, 2048]⟩
abbrev S5632x2048 : Shape := ⟨2, ![5632, 2048]⟩
abbrev S16x2064x5632 : Shape := ⟨3, ![16, 2064, 5632]⟩
abbrev S16x2066x5632 : Shape := ⟨3, ![16, 2066, 5632]⟩
abbrev S1x1x5632 : Shape := ⟨3, ![1, 1, 5632]⟩

abbrev nBuf : Space → Nat
  | .hbm => 82
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x3x5632, .f32⟩
  | .hbm, ⟨5, _⟩ => ⟨S2x5632, .f32⟩
  | .hbm, ⟨6, _⟩ => ⟨S2x5632x2048, .f32⟩
  | .hbm, ⟨7, _⟩ => ⟨S2048, .f32⟩
  | .hbm, ⟨8, _⟩ => ⟨S16x2112x2048, .f32⟩
  | .hbm, ⟨9, _⟩ => ⟨S16x2064x2048, .f32⟩
  | .hbm, ⟨10, _⟩ => ⟨S1x2048, .f32⟩
  | .hbm, ⟨11, _⟩ => ⟨S2048, .f32⟩
  | .hbm, ⟨12, _⟩ => ⟨S16x2064x2048, .f32⟩
  | .hbm, ⟨13, _⟩ => ⟨S_, .f32⟩
  | .hbm, ⟨14, _⟩ => ⟨S16x2064, .f32⟩
  | .hbm, ⟨15, _⟩ => ⟨S16x2064x1, .f32⟩
  | .hbm, ⟨16, _⟩ => ⟨S_, .f32⟩
  | .hbm, ⟨17, _⟩ => ⟨S16x2064x1, .f32⟩
  | .hbm, ⟨18, _⟩ => ⟨S16x2064x1, .f32⟩
  | .hbm, ⟨19, _⟩ => ⟨S_, .f32⟩
  | .hbm, ⟨20, _⟩ => ⟨S16x2064x1, .f32⟩
  | .hbm, ⟨21, _⟩ => ⟨S16x2064x1, .f32⟩
  | .hbm, ⟨22, _⟩ => ⟨S16x2064x1, .f32⟩
  | .hbm, ⟨23, _⟩ => ⟨S16x2064x2048, .f32⟩
  | .hbm, ⟨24, _⟩ => ⟨S16x2064x2048, .f32⟩
  | .hbm, ⟨25, _⟩ => ⟨S1x1x2048, .f32⟩
  | .hbm, ⟨26, _⟩ => ⟨S16x2064x2048, .f32⟩
  | .hbm, ⟨27, _⟩ => ⟨S16x2064x2048, .f32⟩
  | .hbm, ⟨28, _⟩ => ⟨S1x2048x5632, .f32⟩
  | .hbm, ⟨29, _⟩ => ⟨S2048x5632, .f32⟩
  | .hbm, ⟨30, _⟩ => ⟨S1x2048x5632, .f32⟩
  | .hbm, ⟨31, _⟩ => ⟨S2048x5632, .f32⟩
  | .hbm, ⟨32, _⟩ => ⟨S1x3x5632, .f32⟩
  | .hbm, ⟨33, _⟩ => ⟨S3x5632, .f32⟩
  | .hbm, ⟨34, _⟩ => ⟨S1x5632, .f32⟩
  | .hbm, ⟨35, _⟩ => ⟨S5632, .f32⟩
  | .hbm, ⟨36, _⟩ => ⟨S1x5632x2048, .f32⟩
  | .hbm, ⟨37, _⟩ => ⟨S5632x2048, .f32⟩
  | .hbm, ⟨38, _⟩ => ⟨S16x2064x5632, .f32⟩
  | .hbm, ⟨39, _⟩ => ⟨S_, .i32⟩
  | .hbm, ⟨40, _⟩ => ⟨S_, .f32⟩
  | .hbm, ⟨41, _⟩ => ⟨S16x2066x5632, .f32⟩
  | .hbm, ⟨42, _⟩ => ⟨S1x5632, .f32⟩
  | .hbm, ⟨43, _⟩ => ⟨S5632, .f32⟩
  | .hbm, ⟨44, _⟩ => ⟨S16x2064x5632, .f32⟩
  | .hbm, ⟨45, _⟩ => ⟨S1x1x5632, .f32⟩
  | .hbm, ⟨46, _⟩ => ⟨S16x2064x5632, .f32⟩
  | .hbm, ⟨47, _⟩ => ⟨S16x2064x5632, .f32⟩
  | .hbm, ⟨48, _⟩ => ⟨S1x1x5632, .f32⟩
  | .hbm, ⟨49, _⟩ => ⟨S16x2064x5632, .f32⟩
  | .hbm, ⟨50, _⟩ => ⟨S16x2064x5632, .f32⟩
  | .hbm, ⟨51, _⟩ => ⟨S1x5632, .f32⟩
  | .hbm, ⟨52, _⟩ => ⟨S5632, .f32⟩
  | .hbm, ⟨53, _⟩ => ⟨S16x2064x5632, .f32⟩
  | .hbm, ⟨54, _⟩ => ⟨S1x1x5632, .f32⟩
  | .hbm, ⟨55, _⟩ => ⟨S16x2064x5632, .f32⟩
  | .hbm, ⟨56, _⟩ => ⟨S16x2064x5632, .f32⟩
  | .hbm, ⟨57, _⟩ => ⟨S16x2064x5632, .f32⟩
  | .hbm, ⟨58, _⟩ => ⟨S1x5632, .f32⟩
  | .hbm, ⟨59, _⟩ => ⟨S5632, .f32⟩
  | .hbm, ⟨60, _⟩ => ⟨S16x2064x5632, .f32⟩
  | .hbm, ⟨61, _⟩ => ⟨S1x1x5632, .f32⟩
  | .hbm, ⟨62, _⟩ => ⟨S16x2064x5632, .f32⟩
  | .hbm, ⟨63, _⟩ => ⟨S16x2064x5632, .f32⟩
  | .hbm, ⟨64, _⟩ => ⟨S16x2064x5632, .f32⟩
  | .hbm, ⟨65, _⟩ => ⟨S16x2064x5632, .f32⟩
  | .hbm, ⟨66, _⟩ => ⟨S16x2064x5632, .f32⟩
  | .hbm, ⟨67, _⟩ => ⟨S_, .f32⟩
  | .hbm, ⟨68, _⟩ => ⟨S16x2064x5632, .f32⟩
  | .hbm, ⟨69, _⟩ => ⟨S16x2064x5632, .f32⟩
  | .hbm, ⟨70, _⟩ => ⟨S_, .f32⟩
  | .hbm, ⟨71, _⟩ => ⟨S16x2064x5632, .f32⟩
  | .hbm, ⟨72, _⟩ => ⟨S16x2064x5632, .f32⟩
  | .hbm, ⟨73, _⟩ => ⟨S16x2064x5632, .f32⟩
  | .hbm, ⟨74, _⟩ => ⟨S16x2064x5632, .f32⟩
  | .hbm, ⟨75, _⟩ => ⟨S16x2064x5632, .f32⟩
  | .hbm, ⟨76, _⟩ => ⟨S16x2064x2048, .f32⟩
  | .hbm, ⟨77, _⟩ => ⟨S16x2064x2048, .f32⟩
  | .hbm, ⟨78, _⟩ => ⟨S_, .i32⟩
  | .hbm, ⟨79, _⟩ => ⟨S_, .f32⟩
  | .hbm, ⟨80, _⟩ => ⟨S16x2112x2048, .f32⟩
  | .hbm, ⟨81, _⟩ => ⟨S33792x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_2 : Ref sig .tc := ⟨.hbm, 78, rfl⟩
abbrev main_call2_v0 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel4.lean ====
abbrev S33792x2048 : Shape := ⟨2, ![33792, 2048]⟩
abbrev S16x2048 : Shape := ⟨2, ![16, 2048]⟩
abbrev S16x2112x1024 : Shape := ⟨3, ![16, 2112, 1024]⟩
abbrev S2x2048x2048 : Shape := ⟨3, ![2, 2048, 2048]⟩
abbrev S_ : Shape := ⟨0, ![]⟩
abbrev S48x2048 : Shape := ⟨2, ![48, 2048]⟩
abbrev S64x2048 : Shape := ⟨2, ![64, 2048]⟩
abbrev S2x2x1024x2048 : Shape := ⟨4, ![2, 2, 1024, 2048]⟩
abbrev S33792x1024 : Shape := ⟨2, ![33792, 1024]⟩
abbrev S704x2048 : Shape := ⟨2, ![704, 2048]⟩
abbrev S704x1024 : Shape := ⟨2, ![704, 1024]⟩
abbrev S1x2x1024x2048 : Shape := ⟨4, ![1, 2, 1024, 2048]⟩
abbrev S1x1x1024x2048 : Shape := ⟨4, ![1, 1, 1024, 2048]⟩
abbrev S1024x2048 : Shape := ⟨2, ![1024, 2048]⟩

abbrev nBuf : Space → Nat
  | .hbm => 13
  | .vmem => 10
  | .smem => 0
  | _ => 0

abbrev bufTy : (tb : Table) → Fin (tcTables nBuf tb) → BufTy
  | .hbm, ⟨0, _⟩ => ⟨S33792x2048, .f32⟩
  | .hbm, ⟨1, _⟩ => ⟨S16x2048, .f32⟩
  | .hbm, ⟨2, _⟩ => ⟨S16x2112x1024, .bf16⟩
  | .hbm, ⟨3, _⟩ => ⟨S16x2112x1024, .bf16⟩
  | .hbm, ⟨4, _⟩ => ⟨S2x2048x2048, .f32⟩
  | .hbm, ⟨5, _⟩ => ⟨S_, .f32⟩
  | .hbm, ⟨6, _⟩ => ⟨S48x2048, .f32⟩
  | .hbm, ⟨7, _⟩ => ⟨S64x2048, .f32⟩
  | .hbm, ⟨8, _⟩ => ⟨S2x2048x2048, .bf16⟩
  | .hbm, ⟨9, _⟩ => ⟨S2x2x1024x2048, .bf16⟩
  | .hbm, ⟨10, _⟩ => ⟨S33792x1024, .bf16⟩
  | .hbm, ⟨11, _⟩ => ⟨S33792x1024, .bf16⟩
  | .hbm, ⟨12, _⟩ => ⟨S33792x2048, .f32⟩
  | .local _ .vmem, ⟨0, _⟩ => ⟨S704x2048, .f32⟩
  | .local _ .vmem, ⟨1, _⟩ => ⟨S704x2048, .f32⟩
  | .local _ .vmem, ⟨2, _⟩ => ⟨S64x2048, .f32⟩
  | .local _ .vmem, ⟨3, _⟩ => ⟨S704x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .bf16⟩
  | .local _ .vmem, ⟨7, _⟩ => ⟨S1x2x1024x2048, .bf16⟩
  | .local _ .vmem, ⟨8, _⟩ => ⟨S704x2048, .f32⟩
  | .local _ .vmem, ⟨9, _⟩ => ⟨S704x2048, .f32⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S704x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S704x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S33792x2048 : Shape := ⟨2, ![33792, 2048]⟩
abbrev S16x2048 : Shape := ⟨2, ![16, 2048]⟩
abbrev S16x2112x1024 : Shape := ⟨3, ![16, 2112, 1024]⟩
abbrev S2x2048x2048 : Shape := ⟨3, ![2, 2048, 2048]⟩
abbrev S16x2112x2048 : Shape := ⟨3, ![16, 2112, 2048]⟩
abbrev S1x2048x2048 : Shape := ⟨3, ![1, 2048, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S16x2048, .f32⟩
  | .hbm, ⟨2, _⟩ => ⟨S16x2112x1024, .bf16⟩
  | .hbm, ⟨3, _⟩ => ⟨S16x2112x1024, .bf16⟩
  | .hbm, ⟨4, _⟩ => ⟨S2x2048x2048, .f32⟩
  | .hbm, ⟨5, _⟩ => ⟨S16x2112x1024, .f32⟩
  | .hbm, ⟨6, _⟩ => ⟨S16x2112x1024, .f32⟩
  | .hbm, ⟨7, _⟩ => ⟨S16x2112x2048, .f32⟩
  | .hbm, ⟨8, _⟩ => ⟨S16x2112x2048, .f32⟩
  | .hbm, ⟨9, _⟩ => ⟨S1x2048x2048, .f32⟩
  | .hbm, ⟨10, _⟩ => ⟨S2048x2048, .f32⟩
  | .hbm, ⟨11, _⟩ => ⟨S16x2112x2048, .f32⟩
  | .hbm, ⟨12, _⟩ => ⟨S16x2112x2048, .f32⟩
  | .hbm, ⟨13, _⟩ => ⟨S33792x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S16x2048x2048 : Shape := ⟨3, ![16, 2048, 2048]⟩
abbrev S16x2048 : Shape := ⟨2, ![16, 2048]⟩
abbrev S16x2112x1024 : Shape := ⟨3, ![16, 2112, 1024]⟩
abbrev S2x2048x2048 : Shape := ⟨3, ![2, 2048, 2048]⟩
abbrev S_ : Shape := ⟨0, ![]⟩
abbrev S48x2048 : Shape := ⟨2, ![48, 2048]⟩
abbrev S64x2048 : Shape := ⟨2, ![64, 2048]⟩
abbrev S32768x2048 : Shape := ⟨2, ![32768, 2048]⟩
abbrev S2x2x1024x2048 : Shape := ⟨4, ![2, 2, 1024, 2048]⟩
abbrev S33792x1024 : Shape := ⟨2, ![33792, 1024]⟩
abbrev S33792x2048 : Shape := ⟨2, ![33792, 2048]⟩
abbrev S704x2048 : Shape := ⟨2, ![704, 2048]⟩
abbrev S704x1024 : Shape := ⟨2, ![704, 1024]⟩
abbrev S1x2x1024x2048 : Shape := ⟨4, ![1, 2, 1024, 2048]⟩
abbrev S1x1x1024x2048 : Shape := ⟨4, ![1, 1, 1024, 2048]⟩
abbrev S1024x2048 : Shape := ⟨2, ![1024, 2048]⟩
abbrev S640x2048 : Shape := ⟨2, ![640, 2048]⟩

abbrev nBuf : Space → Nat
  | .hbm => 14
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S16x2048, .f32⟩
  | .hbm, ⟨2, _⟩ => ⟨S16x2112x1024, .bf16⟩
  | .hbm, ⟨3, _⟩ => ⟨S16x2112x1024, .bf16⟩
  | .hbm, ⟨4, _⟩ => ⟨S2x2048x2048, .f32⟩
  | .hbm, ⟨5, _⟩ => ⟨S_, .f32⟩
  | .hbm, ⟨6, _⟩ => ⟨S48x2048, .f32⟩
  | .hbm, ⟨7, _⟩ => ⟨S64x2048, .f32⟩
  | .hbm, ⟨8, _⟩ => ⟨S32768x2048, .f32⟩
  | .hbm, ⟨9, _⟩ => ⟨S2x2048x2048, .bf16⟩
  | .hbm, ⟨10, _⟩ => ⟨S2x2x1024x2048, .bf16⟩
  | .hbm, ⟨11, _⟩ => ⟨S33792x1024, .bf16⟩
  | .hbm, ⟨12, _⟩ => ⟨S33792x1024, .bf16⟩
  | .hbm, ⟨13, _⟩ => ⟨S33792x2048, .f32⟩
  | .local _ .vmem, ⟨0, _⟩ => ⟨S704x2048, .f32⟩
  | .local _ .vmem, ⟨1, _⟩ => ⟨S704x2048, .f32⟩
  | .local _ .vmem, ⟨2, _⟩ => ⟨S64x2048, .f32⟩
  | .local _ .vmem, ⟨3, _⟩ => ⟨S704x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .bf16⟩
  | .local _ .vmem, ⟨7, _⟩ => ⟨S1x2x1024x2048, .bf16⟩
  | .local _ .vmem, ⟨8, _⟩ => ⟨S704x2048, .f32⟩
  | .local _ .vmem, ⟨9, _⟩ => ⟨S704x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  let arg1 : BitVec 32 := BitVec.ofNat 32 (i 1).val
  let c704_i32 : BitVec 32 := 704#32
  let v1 : BitVec 32 := Scalar.muli arg1 c704_i32
  let c64_i32 : BitVec 32 := 64#32
  let v2 : BitVec 32 := Scalar.subi v1 c64_i32
  let c0_i32 : BitVec 32 := 0#32
  let v3 : BitVec 32 := Scalar.maxsi v2 c0_i32
  let v4 : BitVec 32 := Scalar.addi v0 v3
  v4
def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_11 : BitVec 32 := 0#32
  let v13 : BitVec 1 := Scalar.cmpi .ne v12 c0_i32_11
  v13

def k0_cond2 (i : grid0.Coords) : BitVec 1 :=
  let arg1 : BitVec 32 := BitVec.ofNat 32 (i 1).val
  let c0_i32_12 : BitVec 32 := 0#32
  let v14 : BitVec 1 := Scalar.cmpi .ne arg1 c0_i32_12
  let v15 : BitVec 32 := Scalar.extui v14
  let c0_i32_13 : BitVec 32 := 0#32
  let v16 : BitVec 1 := Scalar.cmpi .ne v15 c0_i32_13
  v16

def cc0_transform_0 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c704_i32 : BitVec 32 := 704#32
  let v1 : BitVec 32 := Scalar.muli arg1 c704_i32
  let c64_i32 : BitVec 32 := 64#32
  let v2 : BitVec 32 := Scalar.subi v1 c64_i32
  let c0_i32 : BitVec 32 := 0#32
  let v3 : BitVec 32 := Scalar.maxsi v2 c0_i32
  let v4 : BitVec 32 := Scalar.addi v0 v3
  let v5 : BitVec 32 := v4
  let c0_i32_0 : BitVec 32 := 0#32
  let c0_i32_1 : BitVec 32 := 0#32
  ![v5.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S704x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S704x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16x2048x2048 : Shape := ⟨3, ![16, 2048, 2048]⟩
abbrev S16x2048 : Shape := ⟨2, ![16, 2048]⟩
abbrev S16x2112x1024 : Shape := ⟨3, ![16, 2112, 1024]⟩
abbrev S2x2048x2048 : Shape := ⟨3, ![2, 2048, 2048]⟩
abbrev S1x16x2048 : Shape := ⟨3, ![1, 16, 2048]⟩
abbrev S16x16x2048 : Shape := ⟨3, ![16, 16, 2048]⟩
abbrev S16x2064x2048 : Shape := ⟨3, ![16, 2064, 2048]⟩
abbrev S_ : Shape := ⟨0, ![]⟩
abbrev S16x2112x2048 : Shape := ⟨3, ![16, 2112, 2048]⟩
abbrev S1x2048x2048 : Shape := ⟨3, ![1, 2048, 2048]⟩
abbrev S2048x2048 : Shape := ⟨2, ![2048, 2048]⟩
abbrev S33792x2048 : Shape := ⟨2, ![33792, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048, .f32⟩
  | .hbm, ⟨2, _⟩ => ⟨S16x2112x1024, .bf16⟩
  | .hbm, ⟨3, _⟩ => ⟨S16x2112x1024, .bf16⟩
  | .hbm, ⟨4, _⟩ => ⟨S2x2048x2048, .f32⟩
  | .hbm, ⟨5, _⟩ => ⟨S1x16x2048, .f32⟩
  | .hbm, ⟨6, _⟩ => ⟨S16x16x2048, .f32⟩
  | .hbm, ⟨7, _⟩ => ⟨S16x2064x2048, .f32⟩
  | .hbm, ⟨8, _⟩ => ⟨S_, .i32⟩
  | .hbm, ⟨9, _⟩ => ⟨S_, .f32⟩
  | .hbm, ⟨10, _⟩ => ⟨S16x2112x2048, .f32⟩
  | .hbm, ⟨11, _⟩ => ⟨S16x2112x1024, .f32⟩
  | .hbm, ⟨12, _⟩ => ⟨S16x2112x1024, .f32⟩
  | .hbm, ⟨13, _⟩ => ⟨S16x2112x2048, .f32⟩
  | .hbm, ⟨14, _⟩ => ⟨S1x2048x2048, .f32⟩
  | .hbm, ⟨15, _⟩ => ⟨S2048x2048, .f32⟩
  | .hbm, ⟨16, _⟩ => ⟨S16x2112x2048, .f32⟩
  | .hbm, ⟨17, _⟩ => ⟨S16x2112x2048, .f32⟩
  | .hbm, ⟨18, _⟩ => ⟨S33792x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel6.lean ====
abbrev S2112x16384 : Shape := ⟨2, ![2112, 16384]⟩
abbrev S16x2112x1024 : Shape := ⟨3, ![16, 2112, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S48x16384 : Shape := ⟨2, ![48, 16384]⟩
abbrev S16x48x1024 : Shape := ⟨3, ![16, 48, 1024]⟩
abbrev S1x1024x1024 : Shape := ⟨3, ![1, 1024, 1024]⟩
abbrev S8x896x128 : Shape := ⟨3, ![8, 896, 128]⟩
abbrev S16x128 : Shape := ⟨2, ![16, 128]⟩
abbrev S1x16x128 : Shape := ⟨3, ![1, 16, 128]⟩
abbrev S1x48x128 : Shape := ⟨3, ![1, 48, 128]⟩
abbrev S48x128 : Shape := ⟨2, ![48, 128]⟩
abbrev S48x1024 : Shape := ⟨2, ![48, 1024]⟩
abbrev S768x1024 : Shape := ⟨2, ![768, 1024]⟩
abbrev S1024x1024 : Shape := ⟨2, ![1024, 1024]⟩
abbrev S768 : Shape := ⟨1, ![768]⟩
abbrev S768x1 : Shape := ⟨2, ![768, 1]⟩

abbrev nBuf : Space → Nat
  | .hbm => 17
  | .vmem => 11
  | .smem => 0
  | _ => 0

abbrev bufTy : (tb : Table) → Fin (tcTables nBuf tb) → BufTy
  | .hbm, ⟨0, _⟩ => ⟨S2112x16384, .f32⟩
  | .hbm, ⟨1, _⟩ => ⟨S16x2112x1024, .f32⟩
  | .hbm, ⟨2, _⟩ => ⟨S2x1024, .f32⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S1x1024, .f32⟩
  | .hbm, ⟨7, _⟩ => ⟨S1024, .f32⟩
  | .hbm, ⟨8, _⟩ => ⟨S2x1024x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16x2112x1024, .bf16⟩
  | .local _ .vmem, ⟨0, _⟩ => ⟨S48x16384, .f32⟩
  | .local _ .vmem, ⟨1, _⟩ => ⟨S48x16384, .f32⟩
  | .local _ .vmem, ⟨2, _⟩ => ⟨S16x48x1024, .f32⟩
  | .local _ .vmem, ⟨3, _⟩ => ⟨S16x48x1024, .f32⟩
  | .local _ .vmem, ⟨4, _⟩ => ⟨S1x1024, .f32⟩
  | .local _ .vmem, ⟨5, _⟩ => ⟨S1x1024x1024, .bf16⟩
  | .local _ .vmem, ⟨6, _⟩ => ⟨S1x1024, .f32⟩
  | .local _ .vmem, ⟨7, _⟩ => ⟨S1x1024, .f32⟩
  | .local _ .vmem, ⟨8, _⟩ => ⟨S16x48x1024, .bf16⟩
  | .local _ .vmem, ⟨9, _⟩ => ⟨S16x48x1024, .bf16⟩
  | .local _ .vmem, ⟨10, _⟩ => ⟨S8x896x128, .f32⟩
  | _, _ => ⟨S2112x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S48x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x48x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x48x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
variable {F : FTy → Type} [FloatOps F] [Named F]
def κ : String → Option EReal := fun
  | "gelu_cube" => some ((80338380498831 / 2251799813685248 : ℝ) : EReal)
  | _ => none
-- ==== Reference6Ideal.lean ====
abbrev S2112x16384 : Shape := ⟨2, ![2112, 16384]⟩
abbrev S16x2112x1024 : Shape := ⟨3, ![16, 2112, 1024]⟩
abbrev S2x1024 : Shape := ⟨2, ![2, 1024]⟩
abbrev S2x1024x1024 : Shape := ⟨3, ![2, 1024, 1024]⟩
abbrev S132x16x64x16x16 : Shape := ⟨5, ![132, 16, 64, 16, 16]⟩
abbrev S16x132x16x64x16 : Shape := ⟨5, ![16, 132, 16, 64, 16]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1x1024x1024 : Shape := ⟨3, ![1, 1024, 1024]⟩
abbrev S1024x1024 : Shape := ⟨2, ![1024, 1024]⟩
abbrev S16x2112 : Shape := ⟨2, ![16, 2112]⟩
abbrev S16x2112x1 : Shape := ⟨3, ![16, 2112, 1]⟩

abbrev nBuf : Space → Nat
  | .hbm => 68
  | .vmem => 0
  | .smem => 0
  | _ => 0

abbrev bufTy : (tb : Table) → Fin (tcTables nBuf tb) → BufTy
  | .hbm, ⟨0, _⟩ => ⟨S2112x16384, .f32⟩
  | .hbm, ⟨1, _⟩ => ⟨S16x2112x1024, .f32⟩
  | .hbm, ⟨2, _⟩ => ⟨S2x1024, .f32⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S132x16x64x16x16, .f32⟩
  | .hbm, ⟨7, _⟩ => ⟨S16x132x16x64x16, .f32⟩
  | .hbm, ⟨8, _⟩ => ⟨S16x2112x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S16x2112x1024, .f32⟩
  | .hbm, ⟨13, _⟩ => ⟨S16x2112x1024, .f32⟩
  | .hbm, ⟨14, _⟩ => ⟨S16x2112x1024, .f32⟩
  | .hbm, ⟨15, _⟩ => ⟨S16x2112x1024, .f32⟩
  | .hbm, ⟨16, _⟩ => ⟨S16x2112x1024, .f32⟩
  | .hbm, ⟨17, _⟩ => ⟨S_, .f32⟩
  | .hbm, ⟨18, _⟩ => ⟨S16x2112x1024, .f32⟩
  | .hbm, ⟨19, _⟩ => ⟨S16x2112x1024, .f32⟩
  | .hbm, ⟨20, _⟩ => ⟨S16x2112x1024, .f32⟩
  | .hbm, ⟨21, _⟩ => ⟨S_, .f32⟩
  | .hbm, ⟨22, _⟩ => ⟨S16x2112x1024, .f32⟩
  | .hbm, ⟨23, _⟩ => ⟨S16x2112x1024, .f32⟩
  | .hbm, ⟨24, _⟩ => ⟨S16x2112x1024, .f32⟩
  | .hbm, ⟨25, _⟩ => ⟨S_, .f32⟩
  | .hbm, ⟨26, _⟩ => ⟨S16x2112x1024, .f32⟩
  | .hbm, ⟨27, _⟩ => ⟨S16x2112x1024, .f32⟩
  | .hbm, ⟨28, _⟩ => ⟨S_, .f32⟩
  | .hbm, ⟨29, _⟩ => ⟨S16x2112x1024, .f32⟩
  | .hbm, ⟨30, _⟩ => ⟨S16x2112x1024, .f32⟩
  | .hbm, ⟨31, _⟩ => ⟨S16x2112x1024, .f32⟩
  | .hbm, ⟨32, _⟩ => ⟨S1x1024x1024, .f32⟩
  | .hbm, ⟨33, _⟩ => ⟨S1024x1024, .f32⟩
  | .hbm, ⟨34, _⟩ => ⟨S16x2112x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S16x2112x1024, .f32⟩
  | .hbm, ⟨39, _⟩ => ⟨S16x2112x1024, .f32⟩
  | .hbm, ⟨40, _⟩ => ⟨S16x2112x1024, .f32⟩
  | .hbm, ⟨41, _⟩ => ⟨S16x2112x1024, .f32⟩
  | .hbm, ⟨42, _⟩ => ⟨S_, .f32⟩
  | .hbm, ⟨43, _⟩ => ⟨S16x2112x1024, .f32⟩
  | .hbm, ⟨44, _⟩ => ⟨S16x2112x1024, .f32⟩
  | .hbm, ⟨45, _⟩ => ⟨S_, .f32⟩
  | .hbm, ⟨46, _⟩ => ⟨S16x2112x1024, .f32⟩
  | .hbm, ⟨47, _⟩ => ⟨S16x2112x1024, .f32⟩
  | .hbm, ⟨48, _⟩ => ⟨S16x2112x1024, .f32⟩
  | .hbm, ⟨49, _⟩ => ⟨S1x1024, .f32⟩
  | .hbm, ⟨50, _⟩ => ⟨S1024, .f32⟩
  | .hbm, ⟨51, _⟩ => ⟨S16x2112x1024, .f32⟩
  | .hbm, ⟨52, _⟩ => ⟨S_, .f32⟩
  | .hbm, ⟨53, _⟩ => ⟨S16x2112, .f32⟩
  | .hbm, ⟨54, _⟩ => ⟨S16x2112x1, .f32⟩
  | .hbm, ⟨55, _⟩ => ⟨S_, .f32⟩
  | .hbm, ⟨56, _⟩ => ⟨S16x2112x1, .f32⟩
  | .hbm, ⟨57, _⟩ => ⟨S16x2112x1, .f32⟩
  | .hbm, ⟨58, _⟩ => ⟨S_, .f32⟩
  | .hbm, ⟨59, _⟩ => ⟨S16x2112x1, .f32⟩
  | .hbm, ⟨60, _⟩ => ⟨S16x2112x1, .f32⟩
  | .hbm, ⟨61, _⟩ => ⟨S16x2112x1, .f32⟩
  | .hbm, ⟨62, _⟩ => ⟨S16x2112x1024, .f32⟩
  | .hbm, ⟨63, _⟩ => ⟨S16x2112x1024, .f32⟩
  | .hbm, ⟨64, _⟩ => ⟨S1x1x1024, .f32⟩
  | .hbm, ⟨65, _⟩ => ⟨S16x2112x1024, .f32⟩
  | .hbm, ⟨66, _⟩ => ⟨S16x2112x1024, .f32⟩
  | .hbm, ⟨67, _⟩ => ⟨S16x2112x1024, .bf16⟩
  | _, _ => ⟨S2112x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Proof.Ffn.Math.lean ====
module

public import Idealize.ShloMosaic.Lib.Pointwise

/-
The mathematics of one gated-convolution feed-forward layer on extended reals, one row at a time. The kernel's blocks
(Proof.Ffn.Cases) and the reference's whole arrays (Proof.Ffn.Ref) are both read as these functions.
-/

@[expose] public section

noncomputable section

namespace Cert.Ffn

open Idealize.ShloMosaic

/-- A row of the residual stream. -/
abbrev Row := Fin 2048 → EReal

/-- Root-mean-square normalisation of the row `x` with gain `g`. -/
def rms (x g : Row) : Row := fun j =>
  x j * Ideal.rsqrt (Ideal.div (∑ k, x k * x k) (Ideal.ofBits .f32 0x45000000#32) + Ideal.ofBits .f32 0x358637BD#32) * g j

/-- The convolution of width three: bias `b`, taps `w`, applied to the gate projection two rows back, one row back and here. -/
def conv (b : EReal) (w : Fin 3 → EReal) (a2 a1 a0 : EReal) : EReal := b + w 0 * a2 + w 1 * a1 + w 2 * a0

/-- The kernel's gate: half plus half times tanh, half being half of the argument. -/
def gate (z : EReal) : EReal :=
  Ideal.ofBits .f32 0x3F000000#32 * z + Ideal.ofBits .f32 0x3F000000#32 * z * Ideal.tanh (Ideal.ofBits .f32 0x3F000000#32 * z)

/-- One block of hidden channels: what `K` channels add to one entry of a row. `n2`, `n1`, `n0` are the normalised rows two
    back, one back and here; `wg k`, `wu k` the columns of the two projections; `wd k` the entry of the projection down. -/
def part {K : ℕ} (n2 n1 n0 : Row) (wg wu : Fin K → Row) (w : Fin K → Fin 3 → EReal) (b wd : Fin K → EReal) : EReal :=
  ∑ k, gate (conv (b k) (w k) (∑ d, n2 d * wg k d) (∑ d, n1 d * wg k d) (∑ d, n0 d * wg k d)) * (∑ d, n0 d * wu k d) * wd k

end Cert.Ffn
-- ==== Proof.Ffn.Cases.lean ====
module

public import proofs.«01_k».proof.Proof.Gen.Kernel2Ideal.Value
public import proofs.«01_k».proof.Proof.Ffn.Math
public import Idealize.ShloMosaic.Lib.Pointwise

/-
What the kernel's body leaves at one point of its grid, in the three cases of its branches: the first block of hidden
channels (A), a block in between (B), the last block (C).
-/

@[expose] public section

noncomputable section

namespace Cert.Ffn

open Idealize.ShloMosaic Idealize.ShloMosaic.TcCoe Idealize.SL.Sem
open Cert.Kernel2Ideal Cert.Kernel2Ideal.Gen

/-- The normalised rows a first point stores: sixteen rows before the tile, then the tile's 1024 rows. -/
def normed (x0 : Vec Ideal S1024x2048 .f32) (x1 : Vec Ideal S16x2048 .f32) (x2 : Vec Ideal S1x2048 .f32) : Vec Ideal S1040x2048 .bf16 :=
  fun y => if h : (y 0).val < 16 then rms (fun k => x1 (ix2 ⟨(y 0).val, h⟩ k)) (fun k => x2 (ix2 0 k)) (y 1)
    else rms (fun k => x0 (ix2 ⟨(y 0).val - 16, by have : (y 0).val < 1040 := (y 0).isLt; omega⟩ k)) (fun k => x2 (ix2 0 k)) (y 1)

/-- What one block of hidden channels adds to entry `j` of row `r` of the tile, from the stored normalised rows. -/
def blockPart (hn : Vec Ideal S1040x2048 .bf16) (x3 x4 : Vec Ideal S1x2048x512 .bf16) (x5 : Vec Ideal S1x3x512 .f32)
    (x6 : Vec Ideal S1x1x512 .f32) (x7 : Vec Ideal S1x512x2048 .bf16) (r : Fin 1024) (j : Fin 2048) : EReal :=
  part (fun d => hn (ix2 ⟨r.val + 14, by omega⟩ d)) (fun d => hn (ix2 ⟨r.val + 15, by omega⟩ d))
    (fun d => hn (ix2 ⟨r.val + 16, by omega⟩ d)) (fun k d => x3 (ix3 0 d k)) (fun k d => x4 (ix3 0 d k))
    (fun k t => x5 (ix3 0 t k)) (fun k => x6 (ix3 0 0 k)) (fun k => x7 (ix3 0 k j))

/-- Each of the sixteen rows before the tile is stored normalised. -/
theorem pay4_apply (x : Vec Ideal S16x2048 .f32) (g : Vec Ideal S1x2048 .f32) (r : Fin 16) (j : Fin 2048) :
    k0_pay4 x g (ix2 r j) = rms (fun k => x (ix2 r k)) (fun k => g (ix2 0 k)) j := by pointwise [k0_pay4, rms]
/-- Each row of the tile's first half is stored normalised. -/
theorem pay5_apply (x : Vec Ideal S512x2048 .f32) (g : Vec Ideal S1x2048 .f32) (r : Fin 512) (j : Fin 2048) :
    k0_pay5 x g (ix2 r j) = rms (fun k => x (ix2 r k)) (fun k => g (ix2 0 k)) j := by pointwise [k0_pay5, rms]
/-- Each row of the tile's second half is stored normalised. -/
theorem pay6_apply (x : Vec Ideal S512x2048 .f32) (g : Vec Ideal S1x2048 .f32) (r : Fin 512) (j : Fin 2048) :
    k0_pay6 x g (ix2 r j) = rms (fun k => x (ix2 r k)) (fun k => g (ix2 0 k)) j := by pointwise [k0_pay6, rms]
/-- A last point writes the tile normalised. -/
theorem pay3_apply (x : Vec Ideal S1024x2048 .f32) (g : Vec Ideal S1x2048 .f32) (r : Fin 1024) (j : Fin 2048) :
    k0_pay3 x g (ix2 r j) = rms (fun k => x (ix2 r k)) (fun k => g (ix2 0 k)) j := by pointwise [k0_pay3, rms]

section Halves

variable (x : Vec Ideal S512x2048 .f32) (hn : Vec Ideal S528x2048 .bf16) (wg wu : Vec Ideal S1x2048x512 .bf16)
  (cw : Vec Ideal S1x3x512 .f32) (cb : Vec Ideal S1x1x512 .f32) (wd : Vec Ideal S1x512x2048 .bf16) (r : Fin 512) (j : Fin 2048)

/-- What half a tile's block of hidden channels adds to entry `j` of its row `r`, `hn` the half's normalised rows. -/
def halfPart : EReal :=
  part (fun d => hn (ix2 ⟨r.val + 14, by omega⟩ d)) (fun d => hn (ix2 ⟨r.val + 15, by omega⟩ d))
    (fun d => hn (ix2 ⟨r.val + 16, by omega⟩ d)) (fun k d => wg (ix3 0 d k)) (fun k d => wu (ix3 0 d k))
    (fun k t => cw (ix3 0 t k)) (fun k => cb (ix3 0 0 k)) (fun k => wd (ix3 0 k j))

/-- Two rows back in the rolled rows. -/
theorem rot2 : (⟨(16 + r.val + 528 - 2) % 528, Nat.mod_lt _ (by omega)⟩ : Fin 528) = ⟨r.val + 14, by omega⟩ := Fin.ext (by simp only; omega)
/-- One row back in the rolled rows. -/
theorem rot1 : (⟨(16 + r.val + 528 - 1) % 528, Nat.mod_lt _ (by omega)⟩ : Fin 528) = ⟨r.val + 15, by omega⟩ := Fin.ext (by simp only; omega)
/-- A row of the tile behind the sixteen rows before it. -/
theorem rot0 : (⟨16 + r.val, by omega⟩ : Fin 528) = ⟨r.val + 16, by omega⟩ := Fin.ext (by simp only; omega)

/-- What a first point stores for the first half. -/
theorem first_A : k0_pay12 x (k0_pay7 hn wg) (k0_pay8 hn wu) (k0_pay9 cw) (k0_pay10 cb) (k0_pay11 cw) 2#32 wd (ix2 r j)
    = x (ix2 r j) + halfPart hn wg wu cw cb wd r j := by
  pointwise [k0_pay12, k0_pay7, k0_pay8, k0_pay9, k0_pay10, k0_pay11, halfPart, part, gate, conv]
  simp only [rot2, rot1, rot0]

/-- What a first point stores for the second half. -/
theorem second_A : k0_pay1 x (k0_pay13 hn wg) (k0_pay14 hn wu) cw cb wd (ix2 r j)
    = x (ix2 r j) + halfPart hn wg wu cw cb wd r j := by
  pointwise [k0_pay1, k0_pay13, k0_pay14, halfPart, part, gate, conv]
  simp only [rot2, rot1, rot0]

/-- What a later point stores for the first half. -/
theorem first_B : k0_pay17 (k0_pay15 x) (k0_pay16 hn wg wu cw cb) wd (ix2 r j)
    = x (ix2 r j) + halfPart hn wg wu cw cb wd r j := by
  pointwise [k0_pay17, k0_pay15, k0_pay16, halfPart, part, gate, conv]
  simp only [rot2, rot1, rot0]

/-- What a later point stores for the second half. -/
theorem second_B : k0_pay2 (k0_pay18 x) (k0_pay19 hn wg) (k0_pay20 hn wu) (k0_pay22 hn wg cw cb) (k0_pay23 cw) wd (ix2 r j)
    = x (ix2 r j) + halfPart hn wg wu cw cb wd r j := by
  pointwise [k0_pay2, k0_pay18, k0_pay19, k0_pay20, k0_pay21, k0_pay22, k0_pay23, halfPart, part, gate, conv]
  simp only [rot2, rot1, rot0]

end Halves

section Runs

variable (c : Dev nD) (i : grid0.Coords) (arg3 : Memref sig .tc .vmem S1024x2048 .f32) (harg3 : arg3.IsWhole)
  (arg4 : Memref sig .tc .vmem S16x2048 .f32) (harg4 : arg4.IsWhole) (arg5 : Memref sig .tc .vmem S1x2048 .f32) (harg5 : arg5.IsWhole)
  (arg6 : Memref sig .tc .vmem S1x2048x512 .bf16) (harg6 : arg6.IsWhole) (arg7 : Memref sig .tc .vmem S1x2048x512 .bf16) (harg7 : arg7.IsWhole)
  (arg8 : Memref sig .tc .vmem S1x3x512 .f32) (harg8 : arg8.IsWhole) (arg9 : Memref sig .tc .vmem S1x1x512 .f32) (harg9 : arg9.IsWhole)
  (arg10 : Memref sig .tc .vmem S1x512x2048 .bf16) (harg10 : arg10.IsWhole) (arg11 : Memref sig .tc .vmem S1x2048 .f32) (harg11 : arg11.IsWhole)
  (arg12 : Memref sig .tc .vmem S1024x2048 .f32) (harg12 : arg12.IsWhole) (arg13 : Memref sig .tc .vmem S1040x2048 .bf16) (harg13 : arg13.IsWhole)
  (x0 : Vec Ideal S1024x2048 .f32) (x1 : Vec Ideal S16x2048 .f32) (x2 : Vec Ideal S1x2048 .f32) (x3 : Vec Ideal S1x2048x512 .bf16)
  (x4 : Vec Ideal S1x2048x512 .bf16) (x5 : Vec Ideal S1x3x512 .f32) (x6 : Vec Ideal S1x1x512 .f32) (x7 : Vec Ideal S1x512x2048 .bf16)
  (x8 : Vec Ideal S1x2048 .f32) (xo : Vec Ideal S1024x2048 .f32) (xs : Vec Ideal S1040x2048 .bf16)

/-- Two offsets of zero. -/
theorem hz2 : (![0, 0] : Fin 2 → Nat) = fun _ => 0 := funext fun a => by fin_cases a <;> rfl
/-- Three offsets of zero. -/
theorem hz3 : (![0, 0, 0] : Fin 3 → Nat) = fun _ => 0 := funext fun a => by fin_cases a <;> rfl

/-- The tile `x` with one block of hidden channels added, `hn` the stored normalised rows. -/
def grown (x : Vec Ideal S1024x2048 .f32) (hn : Vec Ideal S1040x2048 .bf16) (x3 x4 : Vec Ideal S1x2048x512 .bf16)
    (x5 : Vec Ideal S1x3x512 .f32) (x6 : Vec Ideal S1x1x512 .f32) (x7 : Vec Ideal S1x512x2048 .bf16) : Vec Ideal S1024x2048 .f32 :=
  fun y => x y + blockPart hn x3 x4 x5 x6 x7 (y 0) (y 1)

/-- The index in a matrix of an index in one of its boxes. -/
theorem box_emb {N M a b k n : ℕ} (inb : ∀ d, (![a, b] : Fin 2 → ℕ) d + (![k, n] : Fin 2 → ℕ) d ≤ (⟨2, ![N, M]⟩ : Shape).size d)
    (p : Fin k) (q : Fin n) :
    (Rect.unit (s := ⟨2, ![N, M]⟩) ![a, b] ![k, n] inb).emb (ix2 p q)
      = ix2 ⟨a + p.val, lt_of_lt_of_le (Nat.add_lt_add_left p.isLt a) (inb 0)⟩ ⟨b + q.val, lt_of_lt_of_le (Nat.add_lt_add_left q.isLt b) (inb 1)⟩ := by
  funext d
  match d with
  | ⟨0, _⟩ => exact Fin.ext (show a + 1 * p.val = a + p.val by omega)
  | ⟨1, _⟩ => exact Fin.ext (show b + 1 * q.val = b + q.val by omega)

/-- A load of a box of a matrix, read at an index. -/
theorem box_ld {N M a b k n : ℕ} {e : EltTy} (X : Vec Ideal ⟨2, ![N, M]⟩ e)
    (inb : ∀ d, (![a, b] : Fin 2 → ℕ) d + (![k, n] : Fin 2 → ℕ) d ≤ (⟨2, ![N, M]⟩ : Shape).size d) (p : Fin k) (q : Fin n) :
    View.ld X (Rect.unit (s := ⟨2, ![N, M]⟩) ![a, b] ![k, n] inb) (ix2 p q)
      = X (ix2 ⟨a + p.val, lt_of_lt_of_le (Nat.add_lt_add_left p.isLt a) (inb 0)⟩ ⟨b + q.val, lt_of_lt_of_le (Nat.add_lt_add_left q.isLt b) (inb 1)⟩) :=
  congrArg X (box_emb inb p q)

/-- The three pieces a first point stores into the scratch. -/
def pieces : List (View.Piece (Elt Ideal) S1040x2048 .bf16) :=
  [⟨Rect.unit ![528, 0] ![512, 2048] inb_S1040x2048_S512x2048_528_0,
      k0_pay6 (View.ld x0 (Rect.unit ![512, 0] ![512, 2048] inb_S1024x2048_S512x2048_512_0)) x2⟩,
    ⟨Rect.unit ![16, 0] ![512, 2048] inb_S1040x2048_S512x2048_16_0,
      k0_pay5 (View.ld x0 (Rect.unit ![0, 0] ![512, 2048] inb_S1024x2048_S512x2048_0_0)) x2⟩,
    ⟨Rect.unit ![0, 0] ![16, 2048] inb_S1040x2048_S16x2048_0_0,
      k0_pay4 x1 x2⟩]

/-- Each piece is the normalised rows at the piece's place. -/
theorem pieces_normed : ∀ p ∈ pieces x0 x1 x2, ∀ x : p.1.shape.Idx, p.2 x = normed x0 x1 x2 (p.1.emb x) := by
  intro p hp
  simp only [pieces, List.mem_cons, List.not_mem_nil, or_false] at hp
  rcases hp with rfl | rfl | rfl <;> intro x <;> dsimp only
  · obtain ⟨p, q, rfl⟩ : ∃ (p : Fin 512) (q : Fin 2048), x = ix2 p q := ⟨x 0, x 1, eq_ix2 x⟩
    rw [box_emb, pay6_apply]
    unfold normed
    rw [dif_neg (by show ¬ (528 + p.val < 16); omega)]
    congr 1
    · funext k
      exact (box_ld _ _ _ _).trans (congrArg x0 (congrArg₂ ix2 (Fin.ext (show 512 + p.val = 528 + p.val - 16 by omega)) (Fin.ext (Nat.zero_add _))))
    · exact Fin.ext (Nat.zero_add _).symm
  · obtain ⟨p, q, rfl⟩ : ∃ (p : Fin 512) (q : Fin 2048), x = ix2 p q := ⟨x 0, x 1, eq_ix2 x⟩
    rw [box_emb, pay5_apply]
    unfold normed
    rw [dif_neg (by show ¬ (16 + p.val < 16); omega)]
    congr 1
    · funext k
      exact (box_ld _ _ _ _).trans (congrArg x0 (congrArg₂ ix2 (Fin.ext (show 0 + p.val = 16 + p.val - 16 by omega)) (Fin.ext (Nat.zero_add _))))
    · exact Fin.ext (Nat.zero_add _).symm
  · obtain ⟨p, q, rfl⟩ : ∃ (p : Fin 16) (q : Fin 2048), x = ix2 p q := ⟨x 0, x 1, eq_ix2 x⟩
    rw [box_emb, pay4_apply]
    unfold normed
    rw [dif_pos (by show 0 + p.val < 16; omega)]
    congr 1
    · funext k
      exact congrArg x1 (congrArg₂ ix2 (Fin.ext (Nat.zero_add _).symm) rfl)
    · exact Fin.ext (Nat.zero_add _).symm

/-- They cover the scratch. -/
theorem pieces_cover (y : S1040x2048.Idx) : ∃ p ∈ pieces x0 x1 x2, y ∈ p.1.set :=
  View.cover_of_tiledBy (pieces x0 x1 x2) ![16, 2048] (by sl_kernel_rfl) y

/-- Read as one array they are the normalised rows. -/
theorem canon_pieces : View.canon (pieces x0 x1 x2) = normed x0 x1 x2 :=
  funext fun y => View.canon_apply_of_pieces (normed x0 x1 x2) _ (pieces_normed x0 x1 x2) y (pieces_cover x0 x1 x2 y)

/-- A half tile with its addition is the tile with its addition at the half's place: the half from row `o` on. -/
theorem half_grown (o : ℕ) (X : Vec Ideal S1024x2048 .f32) (hn : Vec Ideal S1040x2048 .bf16)
    (inb : ∀ d, (![o, 0] : Fin 2 → ℕ) d + (![512, 2048] : Fin 2 → ℕ) d ≤ S1024x2048.size d)
    (inb' : ∀ d, (![o, 0] : Fin 2 → ℕ) d + (![528, 2048] : Fin 2 → ℕ) d ≤ S1040x2048.size d) (p : Fin 512) (q : Fin 2048) :
    View.ld X (Rect.unit (s := S1024x2048) ![o, 0] ![512, 2048] inb) (ix2 p q)
        + halfPart (View.ld hn (Rect.unit (s := S1040x2048) ![o, 0] ![528, 2048] inb')) x3 x4 x5 x6 x7 p q
      = grown X hn x3 x4 x5 x6 x7 ((Rect.unit (s := S1024x2048) ![o, 0] ![512, 2048] inb).emb (ix2 p q)) := by
  have hr : ∀ (s : Fin 528) (d : Fin 2048), View.ld hn (Rect.unit (s := S1040x2048) ![o, 0] ![528, 2048] inb') (ix2 s d)
      = hn (ix2 ⟨o + s.val, lt_of_lt_of_le (Nat.add_lt_add_left s.isLt o) (inb' 0)⟩ d) := fun s d =>
    (box_ld hn inb' s d).trans (congrArg hn (congrArg₂ ix2 rfl (Fin.ext (Nat.zero_add _))))
  rw [box_emb]
  unfold grown
  refine congrArg₂ (· + ·) (box_ld X inb p q) ?_
  unfold halfPart blockPart
  simp only [hr, ← Nat.add_assoc, Nat.zero_add]
  rfl

/-- The two pieces a first point stores: each half of the input's tile with its addition. -/
def first : List (View.Piece (Elt Ideal) S1024x2048 .f32) :=
  [⟨Rect.unit ![512, 0] ![512, 2048] inb_S1024x2048_S512x2048_512_0,
      k0_pay1 (View.ld x0 (Rect.unit ![512, 0] ![512, 2048] inb_S1024x2048_S512x2048_512_0))
        (k0_pay13 (View.ld xs (Rect.unit ![512, 0] ![528, 2048] inb_S1040x2048_S528x2048_512_0)) x3)
        (k0_pay14 (View.ld xs (Rect.unit ![512, 0] ![528, 2048] inb_S1040x2048_S528x2048_512_0)) x4) x5 x6 x7⟩,
    ⟨Rect.unit ![0, 0] ![512, 2048] inb_S1024x2048_S512x2048_0_0,
      k0_pay12 (View.ld x0 (Rect.unit ![0, 0] ![512, 2048] inb_S1024x2048_S512x2048_0_0))
        (k0_pay7 (View.ld xs (Rect.unit ![0, 0] ![528, 2048] inb_S1040x2048_S528x2048_0_0)) x3)
        (k0_pay8 (View.ld xs (Rect.unit ![0, 0] ![528, 2048] inb_S1040x2048_S528x2048_0_0)) x4)
        (k0_pay9 x5) (k0_pay10 x6) (k0_pay11 x5) 2#32 x7⟩]

/-- The two pieces a later point stores: each half of the tile `xo` with its addition. -/
def later : List (View.Piece (Elt Ideal) S1024x2048 .f32) :=
  [⟨Rect.unit ![512, 0] ![512, 2048] inb_S1024x2048_S512x2048_512_0,
      k0_pay2 (k0_pay18 (View.ld xo (Rect.unit ![512, 0] ![512, 2048] inb_S1024x2048_S512x2048_512_0)))
        (k0_pay19 (View.ld xs (Rect.unit ![512, 0] ![528, 2048] inb_S1040x2048_S528x2048_512_0)) x3)
        (k0_pay20 (View.ld xs (Rect.unit ![512, 0] ![528, 2048] inb_S1040x2048_S528x2048_512_0)) x4)
        (k0_pay22 (View.ld xs (Rect.unit ![512, 0] ![528, 2048] inb_S1040x2048_S528x2048_512_0)) x3 x5 x6)
        (k0_pay23 x5) x7⟩,
    ⟨Rect.unit ![0, 0] ![512, 2048] inb_S1024x2048_S512x2048_0_0,
      k0_pay17 (k0_pay15 (View.ld xo (Rect.unit ![0, 0] ![512, 2048] inb_S1024x2048_S512x2048_0_0)))
        (k0_pay16 (View.ld xs (Rect.unit ![0, 0] ![528, 2048] inb_S1040x2048_S528x2048_0_0)) x3 x4 x5 x6) x7⟩]

/-- Each piece is the tile with its addition, at the piece's place. -/
theorem later_grown : ∀ p ∈ later x3 x4 x5 x6 x7 xo xs, ∀ x : p.1.shape.Idx, p.2 x = grown xo xs x3 x4 x5 x6 x7 (p.1.emb x) := by
  intro p hp
  simp only [later, List.mem_cons, List.not_mem_nil, or_false] at hp
  rcases hp with rfl | rfl <;> intro x <;> dsimp only <;>
    obtain ⟨p, q, rfl⟩ : ∃ (p : Fin 512) (q : Fin 2048), x = ix2 p q := ⟨x 0, x 1, eq_ix2 x⟩
  · exact (second_B _ _ _ _ _ _ _ p q).trans (half_grown x3 x4 x5 x6 x7 512 xo xs _ _ p q)
  · exact (first_B _ _ _ _ _ _ _ p q).trans (half_grown x3 x4 x5 x6 x7 0 xo xs _ _ p q)

/-- They cover the tile. -/
theorem later_cover (y : S1024x2048.Idx) : ∃ p ∈ later x3 x4 x5 x6 x7 xo xs, y ∈ p.1.set :=
  View.cover_of_tiledBy (later x3 x4 x5 x6 x7 xo xs) ![512, 2048] (by sl_kernel_rfl) y

/-- Read as one array they are the tile with its addition. -/
theorem canon_later : View.canon (later x3 x4 x5 x6 x7 xo xs) = grown xo xs x3 x4 x5 x6 x7 :=
  funext fun y => View.canon_apply_of_pieces _ _ (later_grown x3 x4 x5 x6 x7 xo xs) y (later_cover x3 x4 x5 x6 x7 xo xs y)

/-- A first point leaves the normalised rows in the scratch. -/
theorem sout_A (hc0 : cond0_0 i) (hc1 : ¬cond0_1 i) (hc2 : ¬cond0_2 i) :
    sout0_A_0 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8
      = normed x0 x1 x2 := by
  unfold sout0_A_0
  have hcov := scover0_A_0 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8
  rw [View.read_writes_eq_canon _ _ _ hcov]
  funext y
  refine View.canon_apply_of_pieces (normed x0 x1 x2) _ ?_ y (hcov y)
  clear hcov
  unfold kernelRun0_A
  dsimp only
  sl_unfold_words
  simp only [View.readAt_eq_ld, harg3.read_unread, harg4.read_unread, harg5.read_unread, View.ld_unit_zero (S := S16x2048) hz2,
    View.ld_unit_zero (S := S1x2048) hz2]
  exact pieces_normed x0 x1 x2

/-- A first point leaves the input's tile with the first block of hidden channels added. -/
theorem out_A (hc0 : cond0_0 i) (hc1 : ¬cond0_1 i) (hc2 : ¬cond0_2 i) :
    out0_A_9 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8
      = grown x0 (normed x0 x1 x2) x3 x4 x5 x6 x7 := by
  unfold out0_A_9
  have hcov := cover0_A_9 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8
  rw [View.read_writes_eq_canon _ _ _ hcov]
  funext y
  refine View.canon_apply_of_pieces (grown x0 (normed x0 x1 x2) x3 x4 x5 x6 x7) _ ?_ y (hcov y)
  clear hcov
  unfold kernelRun0_A
  dsimp only
  sl_unfold_words
  simp only [View.readAt_eq_ld, harg3.read_unread, harg4.read_unread, harg5.read_unread, harg6.read_unread, harg7.read_unread,
    harg8.read_unread, harg9.read_unread, harg10.read_unread, harg11.read_unread, View.ld_unit_zero (S := S16x2048) hz2,
    View.ld_unit_zero (S := S1x2048) hz2, View.ld_unit_zero (S := S1x2048x512) hz3, View.ld_unit_zero (S := S1x3x512) hz3,
    View.ld_unit_zero (S := S1x1x512) hz3, View.ld_unit_zero (S := S1x512x2048) hz3, View.readCov_eq_canon']
  change ∀ p ∈ first x0 x3 x4 x5 x6 x7 (View.canon (pieces x0 x1 x2)), _
  rw [canon_pieces]
  intro p hp
  simp only [first, List.mem_cons, List.not_mem_nil, or_false] at hp
  rcases hp with rfl | rfl <;> intro x <;> dsimp only <;>
    obtain ⟨p, q, rfl⟩ : ∃ (p : Fin 512) (q : Fin 2048), x = ix2 p q := ⟨x 0, x 1, eq_ix2 x⟩
  · exact (second_A _ _ _ _ _ _ _ p q).trans (half_grown x3 x4 x5 x6 x7 512 x0 _ _ _ p q)
  · exact (first_A _ _ _ _ _ _ _ p q).trans (half_grown x3 x4 x5 x6 x7 0 x0 _ _ _ p q)

/-- A point in between leaves the tile it found with its block of hidden channels added. -/
theorem out_B (hc0 : ¬cond0_0 i) (hc1 : cond0_1 i) (hc2 : ¬cond0_2 i) :
    out0_B_9 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 xo xs
      = grown xo xs x3 x4 x5 x6 x7 := by
  unfold out0_B_9
  have hcov := cover0_B_9 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 xo xs
  rw [View.read_writes_eq_canon _ _ _ hcov]
  funext y
  refine View.canon_apply_of_pieces (grown xo xs x3 x4 x5 x6 x7) _ ?_ y (hcov y)
  clear hcov
  unfold kernelRun0_B
  dsimp only
  sl_unfold_words
  simp only [View.readAt_eq_ld, harg3.read_unread, harg4.read_unread, harg5.read_unread, harg6.read_unread, harg7.read_unread,
    harg8.read_unread, harg9.read_unread, harg10.read_unread, harg12.read_unread, harg13.read_unread, harg11.read_unread, View.ld_unit_zero (S := S16x2048) hz2,
    View.ld_unit_zero (S := S1x2048) hz2, View.ld_unit_zero (S := S1x2048x512) hz3, View.ld_unit_zero (S := S1x3x512) hz3,
    View.ld_unit_zero (S := S1x1x512) hz3, View.ld_unit_zero (S := S1x512x2048) hz3, View.readCov_eq_canon']
  exact later_grown x3 x4 x5 x6 x7 xo xs

/-- A last point leaves the tile it found with the last block of hidden channels added, normalised. -/
theorem out_C (hc0 : ¬cond0_0 i) (hc1 : cond0_1 i) (hc2 : cond0_2 i) :
    out0_C_9 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 xo xs
      = k0_pay3 (grown xo xs x3 x4 x5 x6 x7) x8 := by
  unfold out0_C_9
  have hcov := cover0_C_9 c i arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 xo xs
  rw [View.read_writes_eq_canon _ _ _ hcov]
  clear hcov
  unfold kernelRun0_C
  dsimp only
  sl_unfold_words
  simp only [View.readAt_eq_ld, harg3.read_unread, harg4.read_unread, harg5.read_unread, harg6.read_unread, harg7.read_unread,
    harg8.read_unread, harg9.read_unread, harg10.read_unread, harg12.read_unread, harg13.read_unread, harg11.read_unread, View.ld_unit_zero (S := S16x2048) hz2,
    View.ld_unit_zero (S := S1x2048) hz2, View.ld_unit_zero (S := S1x2048x512) hz3, View.ld_unit_zero (S := S1x3x512) hz3,
    View.ld_unit_zero (S := S1x1x512) hz3, View.ld_unit_zero (S := S1x512x2048) hz3, View.readCov_eq_canon']
  refine (View.canon_cons_unit_zero (S := S1024x2048) hz2 _ _ _).trans (congrArg (fun z => k0_pay3 z x8) ?_)
  exact (View.ld_unit_zero (S := S1024x2048) hz2 _ (View.canon (later x3 x4 x5 x6 x7 xo xs))).trans (canon_later x3 x4 x5 x6 x7 xo xs)

end Runs

end Cert.Ffn
-- ==== Proof.Ffn.Blocks.lean ====
module

public import proofs.«01_k».proof.Proof.Gen.Kernel2Ideal.Value
public import proofs.«01_k».proof.Proof.Ffn.Math
public import Idealize.ShloMosaic.Lib.Pointwise

/-
The blocks the kernel's windows stage at a point of its grid, as entries of the launched arrays. Point `t` is block
`t % 11` of hidden channels of tile `t / 11`; tile `T` is half `T % 2` of sequence `T / 2`.
-/

@[expose] public section

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

/-- The residual stream as launched. -/
abbrev argH : Vec Ideal S33792x2048 .f32 := m ((c : Thread nD τ).loc main_arg0)
/-- The gains of the layers' normalisations. -/
abbrev argNorm : Vec Ideal S2x2048 .f32 := m ((c : Thread nD τ).loc main_arg1)
/-- The layers' gate projections. -/
abbrev argGate : Vec Ideal S2x2048x5632 .f32 := m ((c : Thread nD τ).loc main_arg2)
/-- The layers' projections up. -/
abbrev argUp : Vec Ideal S2x2048x5632 .f32 := m ((c : Thread nD τ).loc main_arg3)
/-- The layers' convolution taps. -/
abbrev argConv : Vec Ideal S2x3x5632 .f32 := m ((c : Thread nD τ).loc main_arg4)
/-- The layers' convolution biases. -/
abbrev argBias : Vec Ideal S2x5632 .f32 := m ((c : Thread nD τ).loc main_arg5)
/-- The layers' projections down. -/
abbrev argDown : Vec Ideal S2x5632x2048 .f32 := m ((c : Thread nD τ).loc main_arg6)
/-- The gain of the last normalisation. -/
abbrev argFinal : Vec Ideal S2048 .f32 := m ((c : Thread nD τ).loc main_arg7)

/-- The cast of the gate projections is themselves. -/
theorem V_v0 : (V m c main_v0 : Vec Ideal S2x2048x5632 .bf16) = argGate m c := by
  dsimp only [V, hostOps0]; after_results; rfl
/-- The cast of the projections up is themselves. -/
theorem V_v1 : (V m c main_v1 : Vec Ideal S2x2048x5632 .bf16) = argUp m c := by
  dsimp only [V, hostOps0]; after_results; rfl
/-- The cast of the projections down is themselves. -/
theorem V_v2 : (V m c main_v2 : Vec Ideal S2x5632x2048 .bf16) = argDown m c := by
  dsimp only [V, hostOps0]; after_results; rfl
/-- The layer's gain, as the call takes it. -/
theorem V_v5 (j : Fin 2048) : (V m c main_v5 : Vec Ideal S1x2048 .f32) (ix2 0 j) = argNorm m c (ix2 1 j) := by
  dsimp only [V, hostOps0]; after_results; pointwise
/-- The biases, as the call takes them. -/
theorem V_v6 (j : Fin 5632) (l : Fin 2) : (V m c main_v6 : Vec Ideal S2x1x5632 .f32) (ix3 l 0 j) = argBias m c (ix2 l j) := by
  dsimp only [V, hostOps0]; after_results; pointwise
/-- The last normalisation's gain, as the call takes it. -/
theorem V_v7 (j : Fin 2048) : (V m c main_v7 : Vec Ideal S1x2048 .f32) (ix2 0 j) = argFinal m c (ix1 j) := by
  dsimp only [V, hostOps0]; after_results; pointwise

/-- The first row of a point's tile. -/
theorem idx0 : ∀ t : Fin cfg0.N, cc0_transform_0 (grid0.coords t) (0 : Fin 2) = t.val / 22 * 2112 + 64 + t.val / 11 % 2 * 1024
    ∧ cc0_transform_0 (grid0.coords t) (1 : Fin 2) = 0 := (by decide +kernel : ∀ t : Fin grid0.N, _)
/-- The first of the sixteen rows before the tile of a point. -/
theorem idx1 : ∀ t : Fin cfg0.N, cc0_transform_1 (grid0.coords t) (0 : Fin 2) = t.val / 22 * 2112 + 48 + t.val / 11 % 2 * 1024
    ∧ cc0_transform_1 (grid0.coords t) (1 : Fin 2) = 0 := (by decide +kernel : ∀ t : Fin grid0.N, _)
/-- The gain's block. -/
theorem idx2 : ∀ t : Fin cfg0.N, win0_2.index t (0 : Fin 2) = 0 ∧ win0_2.index t (1 : Fin 2) = 0 := (by decide +kernel : ∀ t : Fin grid0.N, _)
/-- The gate projection's block. -/
theorem idx3 : ∀ t : Fin cfg0.N, win0_3.index t (0 : Fin 3) = 1 ∧ win0_3.index t (1 : Fin 3) = 0 ∧ win0_3.index t (2 : Fin 3) = t.val % 11 :=
  (by decide +kernel : ∀ t : Fin grid0.N, _)
/-- The block of the projection up. -/
theorem idx4 : ∀ t : Fin cfg0.N, win0_4.index t (0 : Fin 3) = 1 ∧ win0_4.index t (1 : Fin 3) = 0 ∧ win0_4.index t (2 : Fin 3) = t.val % 11 :=
  (by decide +kernel : ∀ t : Fin grid0.N, _)
/-- The taps' block. -/
theorem idx5 : ∀ t : Fin cfg0.N, win0_5.index t (0 : Fin 3) = 1 ∧ win0_5.index t (1 : Fin 3) = 0 ∧ win0_5.index t (2 : Fin 3) = t.val % 11 :=
  (by decide +kernel : ∀ t : Fin grid0.N, _)
/-- The biases' block. -/
theorem idx6 : ∀ t : Fin cfg0.N, win0_6.index t (0 : Fin 3) = 1 ∧ win0_6.index t (1 : Fin 3) = 0 ∧ win0_6.index t (2 : Fin 3) = t.val % 11 :=
  (by decide +kernel : ∀ t : Fin grid0.N, _)
/-- The block of the projection down. -/
theorem idx7 : ∀ t : Fin cfg0.N, win0_7.index t (0 : Fin 3) = 1 ∧ win0_7.index t (1 : Fin 3) = t.val % 11 ∧ win0_7.index t (2 : Fin 3) = 0 :=
  (by decide +kernel : ∀ t : Fin grid0.N, _)
/-- The last gain's block. -/
theorem idx8 : ∀ t : Fin cfg0.N, win0_8.index t (0 : Fin 2) = 0 ∧ win0_8.index t (1 : Fin 2) = 0 := (by decide +kernel : ∀ t : Fin grid0.N, _)

/-- There are 352 points. -/
theorem lt352 : t.val < 352 := lt_of_lt_of_eq t.isLt N_0

/-- The tile. -/
theorem blk0 (r : Fin 1024) (j : Fin 2048) : (iblk m c 0 t : Vec Ideal S1024x2048 .f32) (ix2 r j)
    = argH m c (ix2 ⟨t.val / 22 * 2112 + 64 + t.val / 11 % 2 * 1024 + r.val, by have := lt352 t; omega⟩ j) := by
  unfold iblk
  rw [View.read_apply]
  show V m c main_arg0 _ = _
  rw [V_main_arg0]
  congr 1
  funext a
  apply Fin.ext
  obtain ⟨h0, h1⟩ := idx0 t
  match a with
  | ⟨0, _⟩ => show cc0_transform_0 (grid0.coords t) (0 : Fin 2) + 1 * r.val = _; rw [h0]; show _ = _ + r.val; omega
  | ⟨1, _⟩ => show cc0_transform_0 (grid0.coords t) (1 : Fin 2) + 1 * j.val = j.val; rw [h1]; omega

/-- The rows before the tile. -/
theorem blk1 (r : Fin 16) (j : Fin 2048) : (iblk m c 1 t : Vec Ideal S16x2048 .f32) (ix2 r j)
    = argH m c (ix2 ⟨t.val / 22 * 2112 + 48 + t.val / 11 % 2 * 1024 + r.val, by have := lt352 t; omega⟩ j) := by
  unfold iblk
  rw [View.read_apply]
  show V m c main_arg0 _ = _
  rw [V_main_arg0]
  congr 1
  funext a
  apply Fin.ext
  obtain ⟨h0, h1⟩ := idx1 t
  match a with
  | ⟨0, _⟩ => show cc0_transform_1 (grid0.coords t) (0 : Fin 2) + 1 * r.val = _; rw [h0]; show _ = _ + r.val; omega
  | ⟨1, _⟩ => show cc0_transform_1 (grid0.coords t) (1 : Fin 2) + 1 * j.val = j.val; rw [h1]; omega

/-- The layer's gain. -/
theorem blk2 (j : Fin 2048) : (iblk m c 2 t : Vec Ideal S1x2048 .f32) (ix2 0 j) = argNorm m c (ix2 1 j) := by
  rw [← V_v5]
  unfold iblk
  rw [View.read_apply]
  show V m c main_v5 _ = _
  congr 1
  funext a
  apply Fin.ext
  obtain ⟨h0, h1⟩ := idx2 t
  match a with
  | ⟨0, _⟩ => show win0_2.index t (0 : Fin 2) * 1 + 1 * 0 = 0; rw [h0]
  | ⟨1, _⟩ => show win0_2.index t (1 : Fin 2) * 2048 + 1 * j.val = j.val; rw [h1]; omega

/-- The last normalisation's gain. -/
theorem blk8 (j : Fin 2048) : (iblk m c 8 t : Vec Ideal S1x2048 .f32) (ix2 0 j) = argFinal m c (ix1 j) := by
  rw [← V_v7]
  unfold iblk
  rw [View.read_apply]
  show V m c main_v7 _ = _
  congr 1
  funext a
  apply Fin.ext
  obtain ⟨h0, h1⟩ := idx8 t
  match a with
  | ⟨0, _⟩ => show win0_8.index t (0 : Fin 2) * 1 + 1 * 0 = 0; rw [h0]
  | ⟨1, _⟩ => show win0_8.index t (1 : Fin 2) * 2048 + 1 * j.val = j.val; rw [h1]; omega

/-- A block of columns of the gate projection. -/
theorem blk3 (d : Fin 2048) (k : Fin 512) : (iblk m c 3 t : Vec Ideal S1x2048x512 .bf16) (ix3 0 d k)
    = argGate m c (ix3 1 d ⟨t.val % 11 * 512 + k.val, by omega⟩) := by
  rw [← V_v0]
  unfold iblk
  rw [View.read_apply]
  show V m c main_v0 _ = _
  congr 1
  funext a
  apply Fin.ext
  obtain ⟨h0, h1, h2⟩ := idx3 t
  match a with
  | ⟨0, _⟩ => show win0_3.index t (0 : Fin 3) * 1 + 1 * 0 = 1; rw [h0]
  | ⟨1, _⟩ => show win0_3.index t (1 : Fin 3) * 2048 + 1 * d.val = d.val; rw [h1]; omega
  | ⟨2, _⟩ => show win0_3.index t (2 : Fin 3) * 512 + 1 * k.val = t.val % 11 * 512 + k.val; rw [h2]; omega

/-- A block of columns of the projection up. -/
theorem blk4 (d : Fin 2048) (k : Fin 512) : (iblk m c 4 t : Vec Ideal S1x2048x512 .bf16) (ix3 0 d k)
    = argUp m c (ix3 1 d ⟨t.val % 11 * 512 + k.val, by omega⟩) := by
  rw [← V_v1]
  unfold iblk
  rw [View.read_apply]
  show V m c main_v1 _ = _
  congr 1
  funext a
  apply Fin.ext
  obtain ⟨h0, h1, h2⟩ := idx4 t
  match a with
  | ⟨0, _⟩ => show win0_4.index t (0 : Fin 3) * 1 + 1 * 0 = 1; rw [h0]
  | ⟨1, _⟩ => show win0_4.index t (1 : Fin 3) * 2048 + 1 * d.val = d.val; rw [h1]; omega
  | ⟨2, _⟩ => show win0_4.index t (2 : Fin 3) * 512 + 1 * k.val = t.val % 11 * 512 + k.val; rw [h2]; omega

/-- A block of taps. -/
theorem blk5 (i : Fin 3) (k : Fin 512) : (iblk m c 5 t : Vec Ideal S1x3x512 .f32) (ix3 0 i k)
    = argConv m c (ix3 1 i ⟨t.val % 11 * 512 + k.val, by omega⟩) := by
  unfold iblk
  rw [View.read_apply]
  show V m c main_arg4 _ = _
  rw [V_main_arg4]
  congr 1
  funext a
  apply Fin.ext
  obtain ⟨h0, h1, h2⟩ := idx5 t
  match a with
  | ⟨0, _⟩ => show win0_5.index t (0 : Fin 3) * 1 + 1 * 0 = 1; rw [h0]
  | ⟨1, _⟩ => show win0_5.index t (1 : Fin 3) * 3 + 1 * i.val = i.val; rw [h1]; omega
  | ⟨2, _⟩ => show win0_5.index t (2 : Fin 3) * 512 + 1 * k.val = t.val % 11 * 512 + k.val; rw [h2]; omega

/-- A block of biases. -/
theorem blk6 (k : Fin 512) : (iblk m c 6 t : Vec Ideal S1x1x512 .f32) (ix3 0 0 k)
    = argBias m c (ix2 1 ⟨t.val % 11 * 512 + k.val, by omega⟩) := by
  rw [← V_v6]
  unfold iblk
  rw [View.read_apply]
  show V m c main_v6 _ = _
  congr 1
  funext a
  apply Fin.ext
  obtain ⟨h0, h1, h2⟩ := idx6 t
  match a with
  | ⟨0, _⟩ => show win0_6.index t (0 : Fin 3) * 1 + 1 * 0 = 1; rw [h0]
  | ⟨1, _⟩ => show win0_6.index t (1 : Fin 3) * 1 + 1 * 0 = 0; rw [h1]
  | ⟨2, _⟩ => show win0_6.index t (2 : Fin 3) * 512 + 1 * k.val = t.val % 11 * 512 + k.val; rw [h2]; omega

/-- A block of rows of the projection down. -/
theorem blk7 (k : Fin 512) (j : Fin 2048) : (iblk m c 7 t : Vec Ideal S1x512x2048 .bf16) (ix3 0 k j)
    = argDown m c (ix3 1 ⟨t.val % 11 * 512 + k.val, by omega⟩ j) := by
  rw [← V_v2]
  unfold iblk
  rw [View.read_apply]
  show V m c main_v2 _ = _
  congr 1
  funext a
  apply Fin.ext
  obtain ⟨h0, h1, h2⟩ := idx7 t
  match a with
  | ⟨0, _⟩ => show win0_7.index t (0 : Fin 3) * 1 + 1 * 0 = 1; rw [h0]
  | ⟨1, _⟩ => show win0_7.index t (1 : Fin 3) * 512 + 1 * k.val = t.val % 11 * 512 + k.val; rw [h1]; omega
  | ⟨2, _⟩ => show win0_7.index t (2 : Fin 3) * 2048 + 1 * j.val = j.val; rw [h2]; omega

end Cert.Ffn
-- ==== Proof.Ffn.Fold.lean ====
module

public import proofs.«01_k».proof.Proof.Ffn.Cases
public import proofs.«01_k».proof.Proof.Ffn.Blocks

/-
The eleven points of a tile: the stored normalised rows stay, the tile grows by one block of hidden channels a point, and
the last point normalises it. `G9_apply` states the kernel's whole result entry by entry.
-/

@[expose] public section

noncomputable section

namespace Cert.Ffn

open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ) (c : Dev nD)

/-- Row `p` of the 1040 rows of tile `T` (sixteen before it, then its own 1024), normalised. -/
def nrow (T : Fin 32) (p : Fin 1040) : Row :=
  rms (fun d => argH m c (ix2 ⟨T.val / 2 * 2112 + 48 + T.val % 2 * 1024 + p.val, by omega⟩ d)) (fun d => argNorm m c (ix2 1 d))

/-- What block `f` of 512 hidden channels adds to entry `j` of row `r` of tile `T`. -/
def added (T : Fin 32) (r : Fin 1024) (j : Fin 2048) (f : Fin 11) : EReal :=
  part (K := 512) (nrow m c T ⟨r.val + 14, by omega⟩) (nrow m c T ⟨r.val + 15, by omega⟩) (nrow m c T ⟨r.val + 16, by omega⟩)
    (fun k d => argGate m c (ix3 1 d ⟨f.val * 512 + k.val, by omega⟩)) (fun k d => argUp m c (ix3 1 d ⟨f.val * 512 + k.val, by omega⟩))
    (fun k i => argConv m c (ix3 1 i ⟨f.val * 512 + k.val, by omega⟩)) (fun k => argBias m c (ix2 1 ⟨f.val * 512 + k.val, by omega⟩))
    (fun k => argDown m c (ix3 1 ⟨f.val * 512 + k.val, by omega⟩ j))

/-- Entry `j` of row `r` of tile `T` of the residual stream. -/
def start (T : Fin 32) (r : Fin 1024) (j : Fin 2048) : EReal :=
  argH m c (ix2 ⟨T.val / 2 * 2112 + 64 + T.val % 2 * 1024 + r.val, by omega⟩ j)

/-- The tile a point belongs to. -/
abbrev tileOf (t : Fin cfg0.N) : Fin 32 := ⟨t.val / 11, by have := lt352 t; omega⟩
/-- The block of hidden channels a point adds. -/
abbrev blockOf (t : Fin cfg0.N) : Fin 11 := ⟨t.val % 11, Nat.mod_lt _ (by omega)⟩

/-- The rows a first point stores. -/
theorem normed_blk (t : Fin cfg0.N) : normed (iblk m c 0 t) (iblk m c 1 t) (iblk m c 2 t)
    = fun y => nrow m c (tileOf t) (y 0) (y 1) := by
  funext y
  obtain ⟨p, q, rfl⟩ : ∃ (p : Fin 1040) (q : Fin 2048), y = ix2 p q := ⟨y 0, y 1, eq_ix2 y⟩
  have ht := lt352 t
  unfold normed nrow
  have hg : (fun k : Fin 2048 => (iblk m c 2 t : Vec Ideal S1x2048 .f32) (ix2 0 k)) = fun d => argNorm m c (ix2 1 d) :=
    funext fun k => blk2 m c t k
  by_cases hp : p.val < 16
  · rw [dif_pos (show ((ix2 p q : S1040x2048.Idx) 0).val < 16 from hp)]
    refine congrFun (congrArg₂ rms (funext fun d => (blk1 m c t _ d).trans (congrArg (argH m c) (congrArg₂ ix2 (Fin.ext ?_) rfl))) hg) q
    show t.val / 22 * 2112 + 48 + t.val / 11 % 2 * 1024 + p.val = t.val / 11 / 2 * 2112 + 48 + t.val / 11 % 2 * 1024 + p.val
    omega
  · rw [dif_neg (show ¬ ((ix2 p q : S1040x2048.Idx) 0).val < 16 from hp)]
    refine congrFun (congrArg₂ rms (funext fun d => (blk0 m c t _ d).trans (congrArg (argH m c) (congrArg₂ ix2 (Fin.ext ?_) rfl))) hg) q
    show t.val / 22 * 2112 + 64 + t.val / 11 % 2 * 1024 + (p.val - 16) = t.val / 11 / 2 * 2112 + 48 + t.val / 11 % 2 * 1024 + p.val
    omega

/-- A tile with a point's block of hidden channels added. -/
theorem grown_blk (t : Fin cfg0.N) (T : Fin 32) (X : Vec Ideal S1024x2048 .f32) (r : Fin 1024) (j : Fin 2048) :
    grown X (fun y => nrow m c T (y 0) (y 1)) (iblk m c 3 t) (iblk m c 4 t) (iblk m c 5 t) (iblk m c 6 t) (iblk m c 7 t) (ix2 r j)
      = X (ix2 r j) + added m c T r j (blockOf t) := by
  unfold grown blockPart added
  refine congrArg (X (ix2 r j) + ·) ?_
  have e3 : (fun (k : Fin 512) (d : Fin 2048) => (iblk m c 3 t : Vec Ideal S1x2048x512 .bf16) (ix3 0 d k))
      = fun k d => argGate m c (ix3 1 d ⟨t.val % 11 * 512 + k.val, by omega⟩) := funext fun k => funext fun d => blk3 m c t d k
  have e4 : (fun (k : Fin 512) (d : Fin 2048) => (iblk m c 4 t : Vec Ideal S1x2048x512 .bf16) (ix3 0 d k))
      = fun k d => argUp m c (ix3 1 d ⟨t.val % 11 * 512 + k.val, by omega⟩) := funext fun k => funext fun d => blk4 m c t d k
  have e5 : (fun (k : Fin 512) (i : Fin 3) => (iblk m c 5 t : Vec Ideal S1x3x512 .f32) (ix3 0 i k))
      = fun k i => argConv m c (ix3 1 i ⟨t.val % 11 * 512 + k.val, by omega⟩) := funext fun k => funext fun i => blk5 m c t i k
  have e6 : (fun (k : Fin 512) => (iblk m c 6 t : Vec Ideal S1x1x512 .f32) (ix3 0 0 k))
      = fun k => argBias m c (ix2 1 ⟨t.val % 11 * 512 + k.val, by omega⟩) := funext fun k => blk6 m c t k
  have e7 : (fun (k : Fin 512) => (iblk m c 7 t : Vec Ideal S1x512x2048 .bf16) (ix3 0 k j))
      = fun k => argDown m c (ix3 1 ⟨t.val % 11 * 512 + k.val, by omega⟩ j) := funext fun k => blk7 m c t k j
  show part _ _ _ (fun (k : Fin 512) (d : Fin 2048) => (iblk m c 3 t : Vec Ideal S1x2048x512 .bf16) (ix3 0 d k)) _ _ _ _ = _
  rw [e3, e4, e5, e6]
  exact congrArg (part _ _ _ _ _ _ _) e7

/-- The tile before its last point's normalisation, `n + 1` blocks of hidden channels added. -/
def tile (T : Fin 32) (n : ℕ) (hn : n < 11) : Vec Ideal S1024x2048 .f32 := fun y =>
  start m c T (y 0) (y 1) + ∑ f : Fin (n + 1), added m c T (y 0) (y 1) ⟨f.val, by omega⟩

/-- A later point adds the next block. -/
theorem grown_tile (t : Fin cfg0.N) (n : ℕ) (hn : n + 1 < 11) (h : t.val % 11 = n + 1) :
    grown (tile m c (tileOf t) n (by omega)) (fun y => nrow m c (tileOf t) (y 0) (y 1)) (iblk m c 3 t) (iblk m c 4 t) (iblk m c 5 t)
      (iblk m c 6 t) (iblk m c 7 t) = tile m c (tileOf t) (n + 1) hn := by
  funext y
  obtain ⟨r, j, rfl⟩ : ∃ (p : Fin 1024) (q : Fin 2048), y = ix2 p q := ⟨y 0, y 1, eq_ix2 y⟩
  rw [grown_blk]
  unfold tile
  rw [Fin.sum_univ_castSucc (n := n + 1), ← add_assoc]
  refine congrArg (_ + ·) (congrArg (added m c (tileOf t) r j) (Fin.ext ?_))
  exact h

/-- A first point adds the first block. -/
theorem grown_start (t : Fin cfg0.N) (h : t.val % 11 = 0) :
    grown (iblk m c 0 t) (fun y => nrow m c (tileOf t) (y 0) (y 1)) (iblk m c 3 t) (iblk m c 4 t) (iblk m c 5 t)
      (iblk m c 6 t) (iblk m c 7 t) = tile m c (tileOf t) 0 (by omega) := by
  funext y
  obtain ⟨r, j, rfl⟩ : ∃ (p : Fin 1024) (q : Fin 2048), y = ix2 p q := ⟨y 0, y 1, eq_ix2 y⟩
  rw [grown_blk, blk0]
  unfold tile start
  have ht := lt352 t
  refine congrArg₂ (· + ·) (congrArg (argH m c) (congrArg₂ ix2 (Fin.ext ?_) rfl)) ?_
  · show t.val / 22 * 2112 + 64 + t.val / 11 % 2 * 1024 + r.val = t.val / 11 / 2 * 2112 + 64 + t.val / 11 % 2 * 1024 + r.val
    omega
  · rw [Fin.sum_univ_one]
    exact congrArg (added m c (tileOf t) r j) (Fin.ext h)

/-- After block `f < 10` of tile `T` the output's buffer holds the tile so far and the scratch its normalised rows. -/
theorem outs_eq (T : Fin 32) : ∀ (f : ℕ) (hf : f < 10) (hN : 11 * T.val + f < cfg0.N),
    outsAt0 m c (11 * T.val + f) hN = (tile m c T f (by omega), fun y => nrow m c T (y 0) (y 1)) := by
  intro f
  induction f with
  | zero =>
    intro _ hN
    have hT : tileOf ⟨11 * T.val + 0, hN⟩ = T := Fin.ext (show (11 * T.val + 0) / 11 = T.val by omega)
    rw [outsAt0_A m c ⟨11 * T.val + 0, hN⟩ (by show (11 * T.val + 0) % 11 = 0; omega) (by show ¬ 1 ≤ (11 * T.val + 0) % 11; omega)
      (by show ¬ (11 * T.val + 0) % 11 = 10; omega), out_A, sout_A, normed_blk,
      grown_start m c _ (by show (11 * T.val + 0) % 11 = 0; omega), hT]
  | succ f ih =>
    intro hf hN
    have hT : tileOf ⟨11 * T.val + (f + 1), hN⟩ = T := Fin.ext (show (11 * T.val + (f + 1)) / 11 = T.val by omega)
    have hp : outsAt0 m c (11 * T.val + (f + 1) - 1) (Nat.lt_of_le_of_lt (Nat.sub_le _ _) hN)
        = (tile m c T f (by omega), fun y => nrow m c T (y 0) (y 1)) := ih (by omega) (by omega)
    rw [outsAt0_B m c ⟨11 * T.val + (f + 1), hN⟩ (by show ¬ (11 * T.val + (f + 1)) % 11 = 0; omega)
      (by show 1 ≤ (11 * T.val + (f + 1)) % 11; omega) (by show ¬ (11 * T.val + (f + 1)) % 11 = 10; omega), out_B]
    unfold sout0_B_0
    dsimp only
    rw [hp]
    dsimp only
    have hg := grown_tile m c ⟨11 * T.val + (f + 1), hN⟩ f (by omega) (by show (11 * T.val + (f + 1)) % 11 = f + 1; omega)
    rw [hT] at hg
    rw [hg]

/-- After the last block the output's buffer holds the normalised tile. -/
theorem outs_last (T : Fin 32) (hN : 11 * T.val + 10 < cfg0.N) (r : Fin 1024) (j : Fin 2048) :
    (outsAt0 m c (11 * T.val + 10) hN).1 (ix2 r j)
      = rms (fun k => start m c T r k + ∑ f, added m c T r k f) (fun k => argFinal m c (ix1 k)) j := by
  have hT : tileOf ⟨11 * T.val + 10, hN⟩ = T := Fin.ext (show (11 * T.val + 10) / 11 = T.val by omega)
  have hp : outsAt0 m c (11 * T.val + 10 - 1) (Nat.lt_of_le_of_lt (Nat.sub_le _ _) hN)
      = (tile m c T 9 (by omega), fun y => nrow m c T (y 0) (y 1)) := outs_eq m c T 9 (by omega) (by omega)
  rw [outsAt0_C m c ⟨11 * T.val + 10, hN⟩ (by show ¬ (11 * T.val + 10) % 11 = 0; omega)
    (by show 1 ≤ (11 * T.val + 10) % 11; omega) (by show (11 * T.val + 10) % 11 = 10; omega), out_C]
  dsimp only
  rw [hp]
  dsimp only
  have hg := grown_tile m c ⟨11 * T.val + 10, hN⟩ 9 (by omega) (by show (11 * T.val + 10) % 11 = 10; omega)
  rw [hT] at hg
  rw [hg, pay3_apply]
  exact congrFun (congrArg₂ rms rfl (funext fun k => blk8 m c _ k)) j

/-- The kernel's result: row `R` of 32768 is row `R % 1024` of tile `R / 1024`. -/
theorem G9_apply (R : Fin 32768) (j : Fin 2048) :
    (G9 m c : Vec Ideal S32768x2048 .f32) (ix2 R j)
      = rms (fun k => start m c ⟨R.val / 1024, by omega⟩ ⟨R.val % 1024, by omega⟩ k
          + ∑ f, added m c ⟨R.val / 1024, by omega⟩ ⟨R.val % 1024, by omega⟩ k f) (fun k => argFinal m c (ix1 k)) j := by
  have hr : pt9Of (ix2 R j) = 11 * (⟨R.val / 1024, by omega⟩ : Fin 32).val + 10 := by
    show 11 * (1 * (R.val / 1024 - 0) + 1 * (j.val / 2048 - 0)) + 10 = 11 * (R.val / 1024) + 10
    omega
  have hlt : 11 * (⟨R.val / 1024, by omega⟩ : Fin 32).val + 10 < cfg0.N := by
    rw [show cfg0.N = 352 from N_0]; show 11 * (R.val / 1024) + 10 < 352; omega
  have hl : loc9Of (ix2 R j) = ix2 ⟨R.val % 1024, by omega⟩ j := by
    funext a
    match a with
    | ⟨0, _⟩ => rfl
    | ⟨1, _⟩ => exact Fin.ext (Nat.mod_eq_of_lt j.isLt)
  rw [← outs_last m c ⟨R.val / 1024, by omega⟩ hlt, outsAt0_sweep]
  unfold G9
  rw [dif_pos (by rw [hr]; exact hlt), hl]
  simp only [hr]

end Cert.Ffn
-- ==== Proof.Ffn.Finite.lean ====
module

public import proofs.«01_k».proof.Proof.Ffn.Math

/-
Where the numbers are real. A normalised row is real whatever the row holds, so the argument of the gate is real as soon as
the gain, the gate weights, the taps and the bias are; and on a real argument the kernel's gate is the logistic one.
-/

@[expose] public section

noncomputable section

namespace Cert.Ffn

open Idealize.ShloMosaic

/-- An extended real that is a real number. -/
def IsReal (x : EReal) : Prop := ∃ r : ℝ, x = (r : EReal)

/-- Sums of reals are real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- Products of reals are real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- Finite sums of reals are real. -/
theorem IsReal.sum {n : ℕ} {f : Fin n → EReal} (h : ∀ i, IsReal (f i)) : IsReal (∑ i, f i) := by
  choose g hg using h
  exact ⟨∑ i, g i, by simp only [hg]; exact (map_sum (⟨⟨Real.toEReal, rfl⟩, EReal.coe_add⟩ : ℝ →+ EReal) g _).symm⟩

/-- An extended real smaller in size than the float word of infinity is real. -/
theorem isReal_of_abs_lt {x : EReal} (h : max x (-x) < ⊤) : IsReal x := by
  induction x with
  | bot => simp at h
  | top => simp at h
  | coe r => exact ⟨r, rfl⟩

/-- The float word of 2048. -/
theorem width_val : Ideal.ofBits .f32 0x45000000#32 = ((2048 : ℝ) : EReal) := by
  simp [Ideal.ofBits, Ideal.ieee, -EReal.coe_mul]; norm_num

/-- The float word of 1e-6 is a positive real. -/
theorem eps_val : ∃ e : ℝ, 0 < e ∧ Ideal.ofBits .f32 0x358637BD#32 = (e : EReal) := by
  refine ⟨_, ?_, by simp [Ideal.ofBits, Ideal.ieee, -EReal.coe_mul]; rfl⟩
  norm_num

/-- The float word of one half. -/
theorem half_val : Ideal.ofBits .f32 0x3F000000#32 = ((1 / 2 : ℝ) : EReal) := by
  simp [Ideal.ofBits, Ideal.ieee, -EReal.coe_mul]; norm_num

/-- A square is not negative. -/
theorem sq_nonneg' (x : EReal) : 0 ≤ x * x := by
  induction x with
  | bot => simp
  | top => simp
  | coe r => rw [← EReal.coe_mul]; exact_mod_cast mul_self_nonneg r

/-- A normalised row with a real gain is real: an infinite entry makes the mean square infinite and the whole row zero. -/
theorem rms_real (x g : Row) (hg : ∀ k, IsReal (g k)) (j : Fin 2048) : IsReal (rms x g j) := by
  obtain ⟨e, he, hE⟩ := eps_val
  unfold rms
  rw [width_val, hE, Ideal.div_coe (by norm_num)]
  by_cases hx : ∀ k, IsReal (x k)
  · choose r hr using hx
    have hs : (∑ k, x k * x k) = ((∑ k, r k * r k : ℝ) : EReal) := by
      simp only [hr, ← EReal.coe_mul]
      exact (map_sum (⟨⟨Real.toEReal, rfl⟩, EReal.coe_add⟩ : ℝ →+ EReal) _ _).symm
    have h0 : 0 ≤ ∑ k, r k * r k := Finset.sum_nonneg fun k _ => mul_self_nonneg _
    have hp : 0 < (∑ k, r k * r k) * (1 / 2048) + e := by positivity
    refine IsReal.mul (IsReal.mul ⟨_, hr j⟩ ?_) (hg j)
    rw [hs, ← EReal.coe_mul, ← EReal.coe_add, Ideal.rsqrt_coe, if_neg (not_lt.mpr hp.le), if_neg hp.ne']
    exact ⟨_, rfl⟩
  · obtain ⟨k, hk⟩ := not_forall.mp hx
    have ht : x k * x k = ⊤ := by
      generalize x k = y at hk ⊢
      induction y with
      | bot => rfl
      | top => rfl
      | coe r => exact absurd ⟨r, rfl⟩ hk
    have hs : (∑ k, x k * x k) = ⊤ := top_le_iff.mp (ht ▸ Finset.single_le_sum (f := fun k => x k * x k)
      (fun i _ => sq_nonneg' (x i)) (Finset.mem_univ k))
    rw [hs, EReal.top_mul_coe_of_pos (by norm_num), EReal.top_add_coe, Ideal.rsqrt_top, mul_zero, zero_mul]
    exact ⟨0, rfl⟩

/-- The argument of the gate is real. -/
theorem conv_real {b a2 a1 a0 : EReal} {w : Fin 3 → EReal} (hb : IsReal b) (hw : ∀ i, IsReal (w i)) (h2 : IsReal a2)
    (h1 : IsReal a1) (h0 : IsReal a0) : IsReal (conv b w a2 a1 a0) :=
  ((hb.add ((hw 0).mul h2)).add ((hw 1).mul h1)).add ((hw 2).mul h0)

/-- On reals: half plus half times tanh of half is the logistic gate. -/
theorem half_tanh (u : ℝ) : u + u * Real.tanh u = 2 * u * (1 + Real.exp (-(2 * u)))⁻¹ := by
  have hab : Real.exp u * Real.exp (-u) = 1 := by rw [← Real.exp_add]; simp
  have hb : Real.exp (-(2 * u)) = Real.exp (-u) * Real.exp (-u) := by rw [← Real.exp_add]; ring_nf
  rw [Real.tanh_eq_sinh_div_cosh, Real.sinh_eq, Real.cosh_eq, hb]
  have pa := Real.exp_pos u
  have pb := Real.exp_pos (-u)
  generalize Real.exp u = a at *
  generalize Real.exp (-u) = b at *
  have h1 : a + b ≠ 0 := by positivity
  have h2 : 1 + b * b ≠ 0 := by positivity
  field_simp
  linear_combination (2 * u * b) * hab

/-- The logistic gate `z · 1 / (1 + e^{-z})`. -/
def silu (z : EReal) : EReal := z * Ideal.div 1 (1 + Ideal.exp (-z))

/-- On a real argument the kernel's gate is the logistic gate. -/
theorem gate_eq_silu {z : EReal} (hz : IsReal z) : gate z = silu z := by
  obtain ⟨r, rfl⟩ := hz
  unfold gate silu
  have hl : Ideal.div 1 (1 + Ideal.exp (-(r : EReal))) = (((1 + Real.exp (-r))⁻¹ : ℝ) : EReal) := Ideal.logistic_coe r
  rw [hl, half_val]
  simp only [← EReal.coe_mul, Ideal.tanh_coe, ← EReal.coe_add]
  have h := half_tanh (1 / 2 * r)
  rw [show 2 * (1 / 2 * r) = r by ring] at h
  exact congrArg _ h

/-- The float word of infinity is the top of the extended reals. -/
theorem inf_val : Ideal.ofBits .f32 0x7F800000#32 = ⊤ := by simp [Ideal.ofBits, Ideal.ieee]

/-- One entry of a mask of finite numbers that is one says the entry is real. -/
theorem isReal_of_mask {x : EReal} (h : Ideal.cmp .olt (max x (-x)) (Ideal.ofBits .f32 0x7F800000#32) = 1#1) : IsReal x := by
  rw [inf_val] at h
  exact isReal_of_abs_lt (by
    by_contra hc
    simp [Ideal.cmp, hc] at h)

end Cert.Ffn
-- ==== Proof.Ffn.Ref.lean ====
module

public import proofs.«01_k».proof.Proof.Gen.Reference2Ideal.Read
public import proofs.«01_k».proof.Proof.Ffn.Finite

/-
The reference's result, read entry by entry: the last feed-forward layer and the last normalisation of row `R` of the
result, which is position `R % 2048` behind the sixteen memory positions of sequence `R / 2048`.
-/

@[expose] public section

noncomputable section

namespace Cert.Ffn

open Idealize.ShloMosaic Idealize.ShloMosaic.TcCoe Idealize.SL.Sem
open Cert.Reference2Ideal Cert.Reference2Ideal.Read

section
variable (x0 : Vec Ideal S33792x2048 .f32) (x1 : Vec Ideal S2x2048 .f32) (x2 x3 : Vec Ideal S2x2048x5632 .f32)
  (x4 : Vec Ideal S2x3x5632 .f32) (x5 : Vec Ideal S2x5632 .f32) (x6 : Vec Ideal S2x5632x2048 .f32) (x7 : Vec Ideal S2048 .f32)

/-- Row `t` of sequence `b`, normalised with the gain of the second layer. -/
def refRow (b : Fin 16) (t : Fin 2064) : Row :=
  rms (fun k => x0 (ix2 (⟨b.val * 2112 + (48 + t.val), by omega⟩ : Fin 33792) k)) (fun k => x1 (ix2 (1 : Fin 2) k))

/-- The reference's normalised rows. -/
theorem normed_apply (b : Fin 16) (t : Fin 2064) (d : Fin 2048) :
    val_main_v16 (F := Ideal) x0 x1 (ix3 b t d) = refRow x0 x1 b t d := by
  unfold refRow rms
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]

/-- Behind its two leading rows the padded gate projection is the gate projection two rows earlier. -/
theorem padded_apply (b : Fin 16) (t : ℕ) (ht : t < 2064) (p : Fin 2066) (hp : p.val = t + 2) (k : Fin 5632) :
    val_main_v28 (F := Ideal) x0 x1 x2 (ix3 b p k) = ∑ d, refRow x0 x1 b ⟨t, ht⟩ d * x2 (ix3 (1 : Fin 2) d k) := by
  pointwise [val_main_v28, val_main_v27, val_main_v18, val_main_v17]
  rw [dif_pos (by omega)]
  refine Finset.sum_congr rfl fun d _ => ?_
  rw [← normed_apply]
  congr 3
  exact Fin.ext (by dsimp only; omega)

/-- The reference's convolution at a row with two rows before it. -/
theorem conv_apply (b : Fin 16) (t : Fin 2064) (ht : 2 ≤ t.val) (k : Fin 5632) :
    val_main_v51 (F := Ideal) x0 x1 x2 x4 x5 (ix3 b t k)
      = conv (x5 (ix2 (1 : Fin 2) k)) (fun i => x4 (ix3 (1 : Fin 2) i k))
          (∑ d, refRow x0 x1 b ⟨t.val - 2, by omega⟩ d * x2 (ix3 (1 : Fin 2) d k))
          (∑ d, refRow x0 x1 b ⟨t.val - 1, by omega⟩ d * x2 (ix3 (1 : Fin 2) d k))
          (∑ d, refRow x0 x1 b t d * x2 (ix3 (1 : Fin 2) d k)) := by
  unfold conv
  pointwise [val_main_v51, val_main_v50, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v32, val_main_v31, val_main_v30, val_main_v29, val_main_v21,
    val_main_v22, val_main_v23, val_main_v24]
  rw [padded_apply x0 x1 x2 b (t.val - 2) (by omega) _ (by dsimp only; omega),
    padded_apply x0 x1 x2 b (t.val - 1) (by omega) _ (by dsimp only; omega),
    padded_apply x0 x1 x2 b t.val (by omega) _ (by dsimp only; omega)]

/-- What the feed-forward layer adds to entry `j` of row `t` of sequence `b`. -/
def refAdded (b : Fin 16) (t : Fin 2064) (j : Fin 2048) : EReal :=
  ∑ k : Fin 5632, silu (conv (x5 (ix2 (1 : Fin 2) k)) (fun i => x4 (ix3 (1 : Fin 2) i k))
      (∑ d, refRow x0 x1 b ⟨t.val - 2, by omega⟩ d * x2 (ix3 (1 : Fin 2) d k))
      (∑ d, refRow x0 x1 b ⟨t.val - 1, by omega⟩ d * x2 (ix3 (1 : Fin 2) d k))
      (∑ d, refRow x0 x1 b t d * x2 (ix3 (1 : Fin 2) d k)))
    * (∑ d, refRow x0 x1 b t d * x3 (ix3 (1 : Fin 2) d k)) * x6 (ix3 (1 : Fin 2) k j)

/-- The residual stream behind the feed-forward layer. -/
theorem layer_apply (b : Fin 16) (t : Fin 2064) (ht : 2 ≤ t.val) (j : Fin 2048) :
    val_main_v56 (F := Ideal) x0 x1 x2 x3 x4 x5 x6 (ix3 b t j)
      = x0 (ix2 (⟨b.val * 2112 + (48 + t.val), by omega⟩ : Fin 33792) j) + refAdded x0 x1 x2 x3 x4 x5 x6 b t j := by
  unfold refAdded silu
  pointwise [val_main_v56, val_main_v55, val_main_v54, val_main_v53, val_main_v52, val_main_call1_v0, val_main_call1_v1,
    val_main_call1_v2, val_main_call1_v3, val_main_call1_v4, val_main_call1_v5, val_main_call1_cst, val_main_call1_cst_0,
    val_main_v1, val_main_v0, val_main_v19, val_main_v20, val_main_v25, val_main_v26]
  simp only [conv_apply x0 x1 x2 x4 x5 b t ht, normed_apply]

/-- The reference's result: the last normalisation of the layer's rows. -/
theorem ref_apply (R : Fin 32768) (j : Fin 2048) :
    val_main_v71 (F := Ideal) x0 x1 x2 x3 x4 x5 x6 x7 (ix2 R j)
      = rms (fun k => x0 (ix2 (⟨R.val / 2048 * 2112 + (48 + (16 + R.val % 2048)), by omega⟩ : Fin 33792) k)
            + refAdded x0 x1 x2 x3 x4 x5 x6 ⟨R.val / 2048, by omega⟩ ⟨16 + R.val % 2048, by omega⟩ k)
          (fun k => x7 (ix1 k)) j := by
  unfold rms
  pointwise [val_main_v71, val_main_v70, val_main_v69, val_main_v68, val_main_v67, val_main_v66, val_main_v65, val_main_v64,
    val_main_v63, val_main_v62, val_main_v61, val_main_v60, val_main_v59, val_main_v58, val_main_v57, val_main_cst_2,
    val_main_cst_3, val_main_cst_4]
  simp only [layer_apply x0 x1 x2 x3 x4 x5 x6 _ ⟨16 + R.val % 2048, by omega⟩ (by dsimp only; omega)]

end

end Cert.Ffn
-- ==== Proof.Ffn.Eq.lean ====
module

public import proofs.«01_k».proof.Proof.Ffn.Fold
public import proofs.«01_k».proof.Proof.Ffn.Ref

/-
The kernel's result is the reference's: the eleven blocks of 512 hidden channels are the 5632 channels, the rows of a tile
are the rows of its sequence, and the two gates agree on real arguments.
-/

@[expose] public section

noncomputable section

namespace Cert.Ffn

open Idealize.ShloMosaic Idealize.ShloMosaic.TcCoe Idealize.SL.Sem
open Cert.Kernel2Ideal Cert.Kernel2Ideal.Gen Cert.Kernel2Ideal.Value

/-- A sum over 5632 channels in eleven blocks of 512. -/
theorem sum_blocks (F : Fin 5632 → EReal) :
    ∑ k, F k = ∑ f : Fin 11, ∑ k : Fin 512, F ⟨f.val * 512 + k.val, by omega⟩ := by
  rw [← Fintype.sum_prod_type' (f := fun (f : Fin 11) (k : Fin 512) => F ⟨f.val * 512 + k.val, by omega⟩)]
  refine (Fintype.sum_equiv (finProdFinEquiv (m := 11) (n := 512)) _ _ fun x => congrArg F (Fin.ext ?_)).symm
  show x.1.val * 512 + x.2.val = x.2.val + 512 * x.1.val
  omega

variable (m : (ℓ : Loc nD τ sig) → Buf (Elt Ideal) ℓ) (c : Dev nD)

/-- Row `p` of a tile's window is row `q` of its sequence. -/
theorem nrow_eq (T : Fin 32) (p : Fin 1040) (b : Fin 16) (q : Fin 2064) (hb : b.val = T.val / 2)
    (hq : q.val = T.val % 2 * 1024 + p.val) : nrow m c T p = refRow (argH m c) (argNorm m c) b q := by
  unfold nrow refRow
  congr 1
  funext d
  exact congrArg (argH m c) (congrArg₂ ix2 (Fin.ext (show _ = b.val * 2112 + (48 + q.val) by dsimp only; omega)) rfl)

/-- The eleven blocks of a tile's row add what the reference's layer adds. -/
theorem added_eq (hn : ∀ k, IsReal (argNorm m c (ix2 1 k))) (hg : ∀ d k, IsReal (argGate m c (ix3 1 d k)))
    (hc : ∀ i k, IsReal (argConv m c (ix3 1 i k))) (hb : ∀ k, IsReal (argBias m c (ix2 1 k)))
    (T : Fin 32) (r : Fin 1024) (j : Fin 2048) (b : Fin 16) (q : Fin 2064) (eb : b.val = T.val / 2)
    (eq : q.val = 16 + (T.val % 2 * 1024 + r.val)) :
    ∑ f, added m c T r j f = refAdded (argH m c) (argNorm m c) (argGate m c) (argUp m c) (argConv m c) (argBias m c)
      (argDown m c) b q j := by
  unfold refAdded
  rw [sum_blocks]
  refine Finset.sum_congr rfl fun f _ => ?_
  unfold added part
  rw [nrow_eq m c T ⟨r.val + 14, by omega⟩ b ⟨q.val - 2, by omega⟩ eb (by dsimp only; omega),
    nrow_eq m c T ⟨r.val + 15, by omega⟩ b ⟨q.val - 1, by omega⟩ eb (by dsimp only; omega),
    nrow_eq m c T ⟨r.val + 16, by omega⟩ b q eb (by dsimp only; omega)]
  refine Finset.sum_congr rfl fun k _ => ?_
  have hr : ∀ t d, IsReal (refRow (argH m c) (argNorm m c) b t d) := fun t d => rms_real _ _ hn d
  rw [gate_eq_silu (conv_real (hb _) (fun i => hc i _) (IsReal.sum fun d => (hr _ d).mul (hg d _))
    (IsReal.sum fun d => (hr _ d).mul (hg d _)) (IsReal.sum fun d => (hr _ d).mul (hg d _)))]

/-- The kernel's result is the reference's, entry by entry. -/
theorem result_eq (hn : ∀ k, IsReal (argNorm m c (ix2 1 k))) (hg : ∀ d k, IsReal (argGate m c (ix3 1 d k)))
    (hc : ∀ i k, IsReal (argConv m c (ix3 1 i k))) (hb : ∀ k, IsReal (argBias m c (ix2 1 k))) :
    (G9 m c : Vec Ideal S32768x2048 .f32) = Cert.Reference2Ideal.Read.val_main_v71 (F := Ideal) (argH m c) (argNorm m c)
      (argGate m c) (argUp m c) (argConv m c) (argBias m c) (argDown m c) (argFinal m c) := by
  funext y
  obtain ⟨R, j, rfl⟩ : ∃ (R : Fin 32768) (j : Fin 2048), y = ix2 R j := ⟨y 0, y 1, eq_ix2 y⟩
  rw [G9_apply, ref_apply]
  refine congrFun (congrArg₂ rms (funext fun k => ?_) rfl) j
  rw [added_eq m c hn hg hc hb _ _ k ⟨R.val / 2048, by omega⟩ ⟨16 + R.val % 2048, by omega⟩ (by dsimp only; omega)
    (by dsimp only; omega)]
  unfold start
  refine congrArg (· + _) (congrArg (argH m c) (congrArg₂ ix2 (Fin.ext ?_) rfl))
  dsimp only
  omega

end Cert.Ffn
-- ==== Proof.Ffn.Pre.lean ====
module

public import proofs.«01_k».proof.Defs
public import proofs.«01_k».proof.Proof.Ffn.Finite
public import proofs.«01_k».proof.Proof.Ffn.Blocks

/-
What the precondition of the feed-forward claim says: the second layer's gain, gate weights, taps and bias are real.
-/

@[expose] public section

noncomputable section

namespace Cert.Ffn

open Idealize.ShloMosaic Idealize.ShloMosaic.TcCoe Idealize.SL.Sem
open Cert.Pre_finite_gate

/-- The shape relations the precondition's operations take. -/
theorem gateFacts : Cert.Pre_finite_gate.Facts where
  slices_S2x2048_S1x2048_1_0 := by decide
  shapeCasts_S1x2048_S2048 := by decide
  bcast_S_S2048 := by decide
  slices_S2x2048x5632_S1x2048x5632_1_0_0 := by decide
  shapeCasts_S1x2048x5632_S2048x5632 := by decide
  bcast_S_S2048x5632 := by decide
  slices_S2x3x5632_S1x3x5632_1_0_0 := by decide
  shapeCasts_S1x3x5632_S3x5632 := by decide
  bcast_S_S3x5632 := by decide
  slices_S2x5632_S1x5632_1_0 := by decide
  shapeCasts_S1x5632_S5632 := by decide
  bcast_S_S5632 := by decide

attribute [local instance] gateFacts

section
variable (x0 : Vec Ideal S33792x2048 .f32) (x1 : Vec Ideal S2x2048 .f32) (x2 x3 : Vec Ideal S2x2048x5632 .f32)
  (x4 : Vec Ideal S2x3x5632 .f32) (x5 : Vec Ideal S2x5632 .f32) (x6 : Vec Ideal S2x5632x2048 .f32) (x7 : Vec Ideal S2048 .f32)

/-- The gain is real. -/
theorem gain_real (h : (fn (F := Ideal) x0 x1 x2 x3 x4 x5 x6 x7).1 = fun _ => 1#1) (k : Fin 2048) :
    IsReal (x1 (ix2 (1 : Fin 2) k)) := by
  refine isReal_of_mask ?_
  have e := congrFun h (ix1 k)
  refine Eq.trans ?_ e
  unfold fn
  pointwise
  rfl

/-- The gate weights are real. -/
theorem weight_real (h : (fn (F := Ideal) x0 x1 x2 x3 x4 x5 x6 x7).2.1 = fun _ => 1#1) (d : Fin 2048) (k : Fin 5632) :
    IsReal (x2 (ix3 (1 : Fin 2) d k)) := by
  refine isReal_of_mask ?_
  have e := congrFun h (ix2 d k)
  refine Eq.trans ?_ e
  unfold fn
  pointwise
  rfl

/-- The taps are real. -/
theorem tap_real (h : (fn (F := Ideal) x0 x1 x2 x3 x4 x5 x6 x7).2.2.1 = fun _ => 1#1) (i : Fin 3) (k : Fin 5632) :
    IsReal (x4 (ix3 (1 : Fin 2) i k)) := by
  refine isReal_of_mask ?_
  have e := congrFun h (ix2 i k)
  refine Eq.trans ?_ e
  unfold fn
  pointwise
  rfl

/-- The biases are real. -/
theorem bias_real (h : (fn (F := Ideal) x0 x1 x2 x3 x4 x5 x6 x7).2.2.2 = fun _ => 1#1) (k : Fin 5632) :
    IsReal (x5 (ix2 (1 : Fin 2) k)) := by
  refine isReal_of_mask ?_
  have e := congrFun h (ix1 k)
  refine Eq.trans ?_ e
  unfold fn
  pointwise
  rfl

end

end Cert.Ffn
-- ==== Proof.Ffn.Claims.lean ====
module

public import proofs.«01_k».proof.Defs
public import proofs.«01_k».proof.Proof.Ffn.Eq
public import proofs.«01_k».proof.Proof.Ffn.Pre
public import proofs.«01_k».proof.Proof.Gen.Reference2Ideal.Read
public import proofs.«01_k».proof.Proof.Gen.Reference2Ideal.Run
public import proofs.«01_k».proof.Proof.Gen.Kernel2Ideal.Frame
public import Idealize.ShloMosaic.Lib.Quiescent

/-
The claims of the feed-forward call: the frame of its reference, and the equality of the two results.
-/

@[expose] public section

noncomputable section

namespace Cert.Ffn

open Idealize.ShloMosaic Idealize.ShloMosaic.TcCoe Idealize.SL.Sem

attribute [local instance] gateFacts

/-- The reference runs and leaves its arguments and every counter as they were. -/
theorem refFrame : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel and the reference end with the same array when layer 1's gains, gate weights, taps and biases are real. -/
theorem value : Cert.algebraic_Kernel2Ideal_Reference2Ideal_pre_finite_gate := by
  intro m ρ m' ρ' hpre hagree
  refine ⟨fun c => Cert.Kernel2Ideal.Value.G9 m c, Cert.Kernel2Ideal.Value.run (F := Ideal) m ρ, ?_⟩
  refine (θ_run _ _ _).mono (fun _ h c => ⟨(h c).1.trans ?_, (h c).2⟩) (Cert.Reference2Ideal.Value.run (F := Ideal) m' ρ')
  obtain ⟨a0, a1, a2, a3, a4, a5, a6, a7⟩ := hagree c
  obtain ⟨p0, p1, p2, p3⟩ := hpre c
  refine (Cert.Reference2Ideal.Read.val_main_v71_eq (F := Ideal) m' c).trans ?_
  refine Eq.trans ?_ (result_eq m c
    (gain_real _ _ _ _ _ _ _ _ p0) (weight_real _ _ _ _ _ _ _ _ p1) (tap_real _ _ _ _ _ _ _ _ p2) (bias_real _ _ _ _ _ _ _ _ p3)).symm
  rw [a0, a1, a2, a3, a4, a5, a6, a7]

end Cert.Ffn
-- ==== Proof.Ffn0.Cases.lean ====
module

public import proofs.«01_k».proof.Proof.Gen.Kernel3Ideal.Value
public import proofs.«01_k».proof.Proof.Ffn.Math
public import Idealize.ShloMosaic.Lib.Pointwise

/-
What the kernel's body leaves at one point of its grid, in the two cases of its branches: the first block of hidden
channels (A), a later block (B).
-/

@[expose] public section

noncomputable section

namespace Cert.Ffn0

open Idealize.ShloMosaic Idealize.ShloMosaic.TcCoe Idealize.SL.Sem Cert.Ffn
open Cert.Kernel3Ideal Cert.Kernel3Ideal.Gen

/-- The normalised rows a first point stores: sixteen rows before the tile, then the tile's 1056 rows. -/
def normed (x0 : Vec Ideal S1056x2048 .f32) (x1 : Vec Ideal S16x2048 .f32) (x2 : Vec Ideal S1x2048 .f32) : Vec Ideal S1072x2048 .bf16 :=
  fun y => if h : (y 0).val < 16 then rms (fun k => x1 (ix2 ⟨(y 0).val, h⟩ k)) (fun k => x2 (ix2 0 k)) (y 1)
    else rms (fun k => x0 (ix2 ⟨(y 0).val - 16, by have : (y 0).val < 1072 := (y 0).isLt; omega⟩ k)) (fun k => x2 (ix2 0 k)) (y 1)

/-- What one block of hidden channels adds to entry `j` of row `r` of the tile, from the stored normalised rows. -/
def blockPart (hn : Vec Ideal S1072x2048 .bf16) (x3 x4 : Vec Ideal S1x2048x512 .bf16) (x5 : Vec Ideal S1x3x512 .f32)
    (x6 : Vec Ideal S1x1x512 .f32) (x7 : Vec Ideal S1x512x2048 .bf16) (r : Fin 1056) (j : Fin 2048) : EReal :=
  part (fun d => hn (ix2 ⟨r.val + 14, by omega⟩ d)) (fun d => hn (ix2 ⟨r.val + 15, by omega⟩ d))
    (fun d => hn (ix2 ⟨r.val + 16, by omega⟩ d)) (fun k d => x3 (ix3 0 d k)) (fun k d => x4 (ix3 0 d k))
    (fun k t => x5 (ix3 0 t k)) (fun k => x6 (ix3 0 0 k)) (fun k => x7 (ix3 0 k j))

/-- Each of the sixteen rows before the tile is stored normalised. -/
theorem pay3_apply (x : Vec Ideal S16x2048 .f32) (g : Vec Ideal S1x2048 .f32) (r : Fin 16) (j : Fin 2048) :
    k0_pay3 x g (ix2 r j) = rms (fun k => x (ix2 r k)) (fun k => g (ix2 0 k)) j := by pointwise [k0_pay3, rms]
/-- Each row of the tile's first half is stored normalised. -/
theorem pay4_apply (x : Vec Ideal S528x2048 .f32) (g : Vec Ideal S1x2048 .f32) (r : Fin 528) (j : Fin 2048) :
    k0_pay4 x g (ix2 r j) = rms (fun k => x (ix2 r k)) (fun k => g (ix2 0 k)) j := by pointwise [k0_pay4, rms]
/-- Each row of the tile's second half is stored normalised. -/
theorem pay5_apply (x : Vec Ideal S528x2048 .f32) (g : Vec Ideal S1x2048 .f32) (r : Fin 528) (j : Fin 2048) :
    k0_pay5 x g (ix2 r j) = rms (fun k => x (ix2 r k)) (fun k => g (ix2 0 k)) j := by pointwise [k0_pay5, rms]

section Halves

variable (x : Vec Ideal S528x2048 .f32) (hn : Vec Ideal S544x2048 .bf16) (wg wu : Vec Ideal S1x2048x512 .bf16)
  (cw : Vec Ideal S1x3x512 .f32) (cb : Vec Ideal S1x1x512 .f32) (wd : Vec Ideal S1x512x2048 .bf16) (r : Fin 528) (j : Fin 2048)

/-- What half a tile's block of hidden channels adds to entry `j` of its row `r`, `hn` the half's normalised rows. -/
def halfPart : EReal :=
  part (fun d => hn (ix2 ⟨r.val + 14, by omega⟩ d)) (fun d => hn (ix2 ⟨r.val + 15, by omega⟩ d))
    (fun d => hn (ix2 ⟨r.val + 16, by omega⟩ d)) (fun k d => wg (ix3 0 d k)) (fun k d => wu (ix3 0 d k))
    (fun k t => cw (ix3 0 t k)) (fun k => cb (ix3 0 0 k)) (fun k => wd (ix3 0 k j))

/-- Two rows back in the rolled rows. -/
theorem rot2 : (⟨(16 + r.val + 544 - 2) % 544, Nat.mod_lt _ (by omega)⟩ : Fin 544) = ⟨r.val + 14, by omega⟩ := Fin.ext (by simp only; omega)
/-- One row back in the rolled rows. -/
theorem rot1 : (⟨(16 + r.val + 544 - 1) % 544, Nat.mod_lt _ (by omega)⟩ : Fin 544) = ⟨r.val + 15, by omega⟩ := Fin.ext (by simp only; omega)
/-- A row of the tile behind the sixteen rows before it. -/
theorem rot0 : (⟨16 + r.val, by omega⟩ : Fin 544) = ⟨r.val + 16, by omega⟩ := Fin.ext (by simp only; omega)

/-- What a first point stores for the first half. -/
theorem first_A : k0_pay11 x (k0_pay6 hn wg) (k0_pay7 hn wu) (k0_pay8 cw) (k0_pay9 cb) (k0_pay10 cw) 2#32 wd (ix2 r j)
    = x (ix2 r j) + halfPart hn wg wu cw cb wd r j := by
  pointwise [k0_pay11, k0_pay6, k0_pay7, k0_pay8, k0_pay9, k0_pay10, halfPart, part, gate, conv]
  simp only [rot2, rot1, rot0]

/-- What a first point stores for the second half. -/
theorem second_A : k0_pay1 x (k0_pay12 hn wg) (k0_pay13 hn wu) cw cb wd (ix2 r j)
    = x (ix2 r j) + halfPart hn wg wu cw cb wd r j := by
  pointwise [k0_pay1, k0_pay12, k0_pay13, halfPart, part, gate, conv]
  simp only [rot2, rot1, rot0]

/-- What a later point stores for the first half. -/
theorem first_B : k0_pay16 (k0_pay14 x) (k0_pay15 hn wg wu cw cb) wd (ix2 r j)
    = x (ix2 r j) + halfPart hn wg wu cw cb wd r j := by
  pointwise [k0_pay16, k0_pay14, k0_pay15, halfPart, part, gate, conv]
  simp only [rot2, rot1, rot0]

/-- What a later point stores for the second half. -/
theorem second_B : k0_pay2 (k0_pay17 x) (k0_pay18 hn wg) (k0_pay19 hn wu) (k0_pay21 hn wg cw cb) (k0_pay22 cw) wd (ix2 r j)
    = x (ix2 r j) + halfPart hn wg wu cw cb wd r j := by
  pointwise [k0_pay2, k0_pay17, k0_pay18, k0_pay19, k0_pay20, k0_pay21, k0_pay22, halfPart, part, gate, conv]
  simp only [rot2, rot1, rot0]

end Halves

section Runs

variable (c : Dev nD) (i : grid0.Coords) (arg2 : Memref sig .tc .vmem S1056x2048 .f32) (harg2 : arg2.IsWhole)
  (arg3 : Memref sig .tc .vmem S16x2048 .f32) (harg3 : arg3.IsWhole) (arg4 : Memref sig .tc .vmem S1x2048 .f32) (harg4 : arg4.IsWhole)
  (arg5 : Memref sig .tc .vmem S1x2048x512 .bf16) (harg5 : arg5.IsWhole) (arg6 : Memref sig .tc .vmem S1x2048x512 .bf16) (harg6 : arg6.IsWhole)
  (arg7 : Memref sig .tc .vmem S1x3x512 .f32) (harg7 : arg7.IsWhole) (arg8 : Memref sig .tc .vmem S1x1x512 .f32) (harg8 : arg8.IsWhole)
  (arg9 : Memref sig .tc .vmem S1x512x2048 .bf16) (harg9 : arg9.IsWhole) (arg10 : Memref sig .tc .vmem S1x2048 .f32) (harg10 : arg10.IsWhole)
  (arg11 : Memref sig .tc .vmem S1056x2048 .f32) (harg11 : arg11.IsWhole) (arg12 : Memref sig .tc .vmem S1072x2048 .bf16) (harg12 : arg12.IsWhole)
  (x0 : Vec Ideal S1056x2048 .f32) (x1 : Vec Ideal S16x2048 .f32) (x2 : Vec Ideal S1x2048 .f32) (x3 : Vec Ideal S1x2048x512 .bf16)
  (x4 : Vec Ideal S1x2048x512 .bf16) (x5 : Vec Ideal S1x3x512 .f32) (x6 : Vec Ideal S1x1x512 .f32) (x7 : Vec Ideal S1x512x2048 .bf16)
  (x8 : Vec Ideal S1x2048 .f32) (xo : Vec Ideal S1056x2048 .f32) (xs : Vec Ideal S1072x2048 .bf16)

/-- Two offsets of zero. -/
theorem hz2 : (![0, 0] : Fin 2 → Nat) = fun _ => 0 := funext fun a => by fin_cases a <;> rfl
/-- Three offsets of zero. -/
theorem hz3 : (![0, 0, 0] : Fin 3 → Nat) = fun _ => 0 := funext fun a => by fin_cases a <;> rfl

/-- The tile `x` with one block of hidden channels added, `hn` the stored normalised rows. -/
def grown (x : Vec Ideal S1056x2048 .f32) (hn : Vec Ideal S1072x2048 .bf16) (x3 x4 : Vec Ideal S1x2048x512 .bf16)
    (x5 : Vec Ideal S1x3x512 .f32) (x6 : Vec Ideal S1x1x512 .f32) (x7 : Vec Ideal S1x512x2048 .bf16) : Vec Ideal S1056x2048 .f32 :=
  fun y => x y + blockPart hn x3 x4 x5 x6 x7 (y 0) (y 1)

/-- The index in a matrix of an index in one of its boxes. -/
theorem box_emb {N M a b k n : ℕ} (inb : ∀ d, (![a, b] : Fin 2 → ℕ) d + (![k, n] : Fin 2 → ℕ) d ≤ (⟨2, ![N, M]⟩ : Shape).size d)
    (p : Fin k) (q : Fin n) :
    (Rect.unit (s := ⟨2, ![N, M]⟩) ![a, b] ![k, n] inb).emb (ix2 p q)
      = ix2 ⟨a + p.val, lt_of_lt_of_le (Nat.add_lt_add_left p.isLt a) (inb 0)⟩ ⟨b + q.val, lt_of_lt_of_le (Nat.add_lt_add_left q.isLt b) (inb 1)⟩ := by
  funext d
  match d with
  | ⟨0, _⟩ => exact Fin.ext (show a + 1 * p.val = a + p.val by omega)
  | ⟨1, _⟩ => exact Fin.ext (show b + 1 * q.val = b + q.val by omega)

/-- A load of a box of a matrix, read at an index. -/
theorem box_ld {N M a b k n : ℕ} {e : EltTy} (X : Vec Ideal ⟨2, ![N, M]⟩ e)
    (inb : ∀ d, (![a, b] : Fin 2 → ℕ) d + (![k, n] : Fin 2 → ℕ) d ≤ (⟨2, ![N, M]⟩ : Shape).size d) (p : Fin k) (q : Fin n) :
    View.ld X (Rect.unit (s := ⟨2, ![N, M]⟩) ![a, b] ![k, n] inb) (ix2 p q)
      = X (ix2 ⟨a + p.val, lt_of_lt_of_le (Nat.add_lt_add_left p.isLt a) (inb 0)⟩ ⟨b + q.val, lt_of_lt_of_le (Nat.add_lt_add_left q.isLt b) (inb 1)⟩) :=
  congrArg X (box_emb inb p q)

/-- The three pieces a first point stores into the scratch. -/
def pieces : List (View.Piece (Elt Ideal) S1072x2048 .bf16) :=
  [⟨Rect.unit ![544, 0] ![528, 2048] inb_S1072x2048_S528x2048_544_0,
      k0_pay5 (View.ld x0 (Rect.unit ![528, 0] ![528, 2048] inb_S1056x2048_S528x2048_528_0)) x2⟩,
    ⟨Rect.unit ![16, 0] ![528, 2048] inb_S1072x2048_S528x2048_16_0,
      k0_pay4 (View.ld x0 (Rect.unit ![0, 0] ![528, 2048] inb_S1056x2048_S528x2048_0_0)) x2⟩,
    ⟨Rect.unit ![0, 0] ![16, 2048] inb_S1072x2048_S16x2048_0_0,
      k0_pay3 x1 x2⟩]

/-- Each piece is the normalised rows at the piece's place. -/
theorem pieces_normed : ∀ p ∈ pieces x0 x1 x2, ∀ x : p.1.shape.Idx, p.2 x = normed x0 x1 x2 (p.1.emb x) := by
  intro p hp
  simp only [pieces, List.mem_cons, List.not_mem_nil, or_false] at hp
  rcases hp with rfl | rfl | rfl <;> intro x <;> dsimp only
  · obtain ⟨p, q, rfl⟩ : ∃ (p : Fin 528) (q : Fin 2048), x = ix2 p q := ⟨x 0, x 1, eq_ix2 x⟩
    rw [box_emb, pay5_apply]
    unfold normed
    rw [dif_neg (by show ¬ (544 + p.val < 16); omega)]
    congr 1
    · funext k
      exact (box_ld _ _ _ _).trans (congrArg x0 (congrArg₂ ix2 (Fin.ext (show 528 + p.val = 544 + p.val - 16 by omega)) (Fin.ext (Nat.zero_add _))))
    · exact Fin.ext (Nat.zero_add _).symm
  · obtain ⟨p, q, rfl⟩ : ∃ (p : Fin 528) (q : Fin 2048), x = ix2 p q := ⟨x 0, x 1, eq_ix2 x⟩
    rw [box_emb, pay4_apply]
    unfold normed
    rw [dif_neg (by show ¬ (16 + p.val < 16); omega)]
    congr 1
    · funext k
      exact (box_ld _ _ _ _).trans (congrArg x0 (congrArg₂ ix2 (Fin.ext (show 0 + p.val = 16 + p.val - 16 by omega)) (Fin.ext (Nat.zero_add _))))
    · exact Fin.ext (Nat.zero_add _).symm
  · obtain ⟨p, q, rfl⟩ : ∃ (p : Fin 16) (q : Fin 2048), x = ix2 p q := ⟨x 0, x 1, eq_ix2 x⟩
    rw [box_emb, pay3_apply]
    unfold normed
    rw [dif_pos (by show 0 + p.val < 16; omega)]
    congr 1
    · funext k
      exact congrArg x1 (congrArg₂ ix2 (Fin.ext (Nat.zero_add _).symm) rfl)
    · exact Fin.ext (Nat.zero_add _).symm

/-- They cover the scratch. -/
theorem pieces_cover (y : S1072x2048.Idx) : ∃ p ∈ pieces x0 x1 x2, y ∈ p.1.set :=
  View.cover_of_tiledBy (pieces x0 x1 x2) ![16, 2048] (by sl_kernel_rfl) y

/-- Read as one array they are the normalised rows. -/
theorem canon_pieces : View.canon (pieces x0 x1 x2) = normed x0 x1 x2 :=
  funext fun y => View.canon_apply_of_pieces (normed x0 x1 x2) _ (pieces_normed x0 x1 x2) y (pieces_cover x0 x1 x2 y)

/-- A half tile with its addition is the tile with its addition at the half's place: the half from row `o` on. -/
theorem half_grown (o : ℕ) (X : Vec Ideal S1056x2048 .f32) (hn : Vec Ideal S1072x2048 .bf16)
    (inb : ∀ d, (![o, 0] : Fin 2 → ℕ) d + (![528, 2048] : Fin 2 → ℕ) d ≤ S1056x2048.size d)
    (inb' : ∀ d, (![o, 0] : Fin 2 → ℕ) d + (![544, 2048] : Fin 2 → ℕ) d ≤ S1072x2048.size d) (p : Fin 528) (q : Fin 2048) :
    View.ld X (Rect.unit (s := S1056x2048) ![o, 0] ![528, 2048] inb) (ix2 p q)
        + halfPart (View.ld hn (Rect.unit (s := S1072x2048) ![o, 0] ![544, 2048] inb')) x3 x4 x5 x6 x7 p q
      = grown X hn x3 x4 x5 x6 x7 ((Rect.unit (s := S1056x2048) ![o, 0] ![528, 2048] inb).emb (ix2 p q)) := by
  have hr : ∀ (s : Fin 544) (d : Fin 2048), View.ld hn (Rect.unit (s := S1072x2048) ![o, 0] ![544, 2048] inb') (ix2 s d)
      = hn (ix2 ⟨o + s.val, lt_of_lt_of_le (Nat.add_lt_add_left s.isLt o) (inb' 0)⟩ d) := fun s d =>
    (box_ld hn inb' s d).trans (congrArg hn (congrArg₂ ix2 rfl (Fin.ext (Nat.zero_add _))))
  rw [box_emb]
  unfold grown
  refine congrArg₂ (· + ·) (box_ld X inb p q) ?_
  unfold halfPart blockPart
  simp only [hr, ← Nat.add_assoc, Nat.zero_add]
  rfl

/-- The two pieces a first point stores: each half of the input's tile with its addition. -/
def first : List (View.Piece (Elt Ideal) S1056x2048 .f32) :=
  [⟨Rect.unit ![528, 0] ![528, 2048] inb_S1056x2048_S528x2048_528_0,
      k0_pay1 (View.ld x0 (Rect.unit ![528, 0] ![528, 2048] inb_S1056x2048_S528x2048_528_0))
        (k0_pay12 (View.ld xs (Rect.unit ![528, 0] ![544, 2048] inb_S1072x2048_S544x2048_528_0)) x3)
        (k0_pay13 (View.ld xs (Rect.unit ![528, 0] ![544, 2048] inb_S1072x2048_S544x2048_528_0)) x4) x5 x6 x7⟩,
    ⟨Rect.unit ![0, 0] ![528, 2048] inb_S1056x2048_S528x2048_0_0,
      k0_pay11 (View.ld x0 (Rect.unit ![0, 0] ![528, 2048] inb_S1056x2048_S528x2048_0_0))
        (k0_pay6 (View.ld xs (Rect.unit ![0, 0] ![544, 2048] inb_S1072x2048_S544x2048_0_0)) x3)
        (k0_pay7 (View.ld xs (Rect.unit ![0, 0] ![544, 2048] inb_S1072x2048_S544x2048_0_0)) x4)
        (k0_pay8 x5) (k0_pay9 x6) (k0_pay10 x5) 2#32 x7⟩]

/-- The two pieces a later point stores: each half of the tile `xo` with its addition. -/
def later : List (View.Piece (Elt Ideal) S1056x2048 .f32) :=
  [⟨Rect.unit ![528, 0] ![528, 2048] inb_S1056x2048_S528x2048_528_0,
      k0_pay2 (k0_pay17 (View.ld xo (Rect.unit ![528, 0] ![528, 2048] inb_S1056x2048_S528x2048_528_0)))
        (k0_pay18 (View.ld xs (Rect.unit ![528, 0] ![544, 2048] inb_S1072x2048_S544x2048_528_0)) x3)
        (k0_pay19 (View.ld xs (Rect.unit ![528, 0] ![544, 2048] inb_S1072x2048_S544x2048_528_0)) x4)
        (k0_pay21 (View.ld xs (Rect.unit ![528, 0] ![544, 2048] inb_S1072x2048_S544x2048_528_0)) x3 x5 x6)
        (k0_pay22 x5) x7⟩,
    ⟨Rect.unit ![0, 0] ![528, 2048] inb_S1056x2048_S528x2048_0_0,
      k0_pay16 (k0_pay14 (View.ld xo (Rect.unit ![0, 0] ![528, 2048] inb_S1056x2048_S528x2048_0_0)))
        (k0_pay15 (View.ld xs (Rect.unit ![0, 0] ![544, 2048] inb_S1072x2048_S544x2048_0_0)) x3 x4 x5 x6) x7⟩]

/-- Each piece is the tile with its addition, at the piece's place. -/
theorem later_grown : ∀ p ∈ later x3 x4 x5 x6 x7 xo xs, ∀ x : p.1.shape.Idx, p.2 x = grown xo xs x3 x4 x5 x6 x7 (p.1.emb x) := by
  intro p hp
  simp only [later, List.mem_cons, List.not_mem_nil, or_false] at hp
  rcases hp with rfl | rfl <;> intro x <;> dsimp only <;>
    obtain ⟨p, q, rfl⟩ : ∃ (p : Fin 528) (q : Fin 2048), x = ix2 p q := ⟨x 0, x 1, eq_ix2 x⟩
  · exact (second_B _ _ _ _ _ _ _ p q).trans (half_grown x3 x4 x5 x6 x7 528 xo xs _ _ p q)
  · exact (first_B _ _ _ _ _ _ _ p q).trans (half_grown x3 x4 x5 x6 x7 0 xo xs _ _ p q)

/-- They cover the tile. -/
theorem later_cover (y : S1056x2048.Idx) : ∃ p ∈ later x3 x4 x5 x6 x7 xo xs, y ∈ p.1.set :=
  View.cover_of_tiledBy (later x3 x4 x5 x6 x7 xo xs) ![528, 2048] (by sl_kernel_rfl) y

/-- Read as one array they are the tile with its addition. -/
theorem canon_later : View.canon (later x3 x4 x5 x6 x7 xo xs) = grown xo xs x3 x4 x5 x6 x7 :=
  funext fun y => View.canon_apply_of_pieces _ _ (later_grown x3 x4 x5 x6 x7 xo xs) y (later_cover x3 x4 x5 x6 x7 xo xs y)

/-- A first point leaves the normalised rows in the scratch. -/
theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8
      = normed x0 x1 x2 := by
  unfold sout0_A_0
  have hcov := scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8
  rw [View.read_writes_eq_canon _ _ _ hcov]
  funext y
  refine View.canon_apply_of_pieces (normed x0 x1 x2) _ ?_ y (hcov y)
  clear hcov
  unfold kernelRun0_A
  dsimp only
  sl_unfold_words
  simp only [View.readAt_eq_ld, harg2.read_unread, harg3.read_unread, harg4.read_unread, View.ld_unit_zero (S := S16x2048) hz2,
    View.ld_unit_zero (S := S1x2048) hz2]
  exact pieces_normed x0 x1 x2

/-- A first point leaves the input's tile with the first block of hidden channels added. -/
theorem out_A (hc0 : cond0_0 i) (hc1 : ¬cond0_1 i) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8
      = grown x0 (normed x0 x1 x2) x3 x4 x5 x6 x7 := by
  unfold out0_A_9
  have hcov := cover0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8
  rw [View.read_writes_eq_canon _ _ _ hcov]
  funext y
  refine View.canon_apply_of_pieces (grown x0 (normed x0 x1 x2) x3 x4 x5 x6 x7) _ ?_ y (hcov y)
  clear hcov
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, View.ld_unit_zero (S := S16x2048) hz2,
    View.ld_unit_zero (S := S1x2048) hz2, View.ld_unit_zero (S := S1x2048x512) hz3, View.ld_unit_zero (S := S1x3x512) hz3,
    View.ld_unit_zero (S := S1x1x512) hz3, View.ld_unit_zero (S := S1x512x2048) hz3, View.readCov_eq_canon']
  change ∀ p ∈ first x0 x3 x4 x5 x6 x7 (View.canon (pieces x0 x1 x2)), _
  rw [canon_pieces]
  intro p hp
  simp only [first, List.mem_cons, List.not_mem_nil, or_false] at hp
  rcases hp with rfl | rfl <;> intro x <;> dsimp only <;>
    obtain ⟨p, q, rfl⟩ : ∃ (p : Fin 528) (q : Fin 2048), x = ix2 p q := ⟨x 0, x 1, eq_ix2 x⟩
  · exact (second_A _ _ _ _ _ _ _ p q).trans (half_grown x3 x4 x5 x6 x7 528 x0 _ _ _ p q)
  · exact (first_A _ _ _ _ _ _ _ p q).trans (half_grown x3 x4 x5 x6 x7 0 x0 _ _ _ p q)

/-- A later point leaves the tile it found with its block of hidden channels added. -/
theorem out_B (hc0 : ¬cond0_0 i) (hc1 : cond0_1 i) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo xs
      = grown xo xs x3 x4 x5 x6 x7 := by
  unfold out0_B_9
  have hcov := cover0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo xs
  rw [View.read_writes_eq_canon _ _ _ hcov]
  funext y
  refine View.canon_apply_of_pieces (grown xo xs x3 x4 x5 x6 x7) _ ?_ y (hcov y)
  clear hcov
  unfold kernelRun0_B
  dsimp only
  sl_unfold_words
  simp only [View.readAt_eq_ld, harg2.read_unread, harg3.read_unread, harg4.read_unread, harg5.read_unread, harg6.read_unread,
    harg7.read_unread, harg8.read_unread, harg9.read_unread, harg11.read_unread, harg12.read_unread, harg10.read_unread, View.ld_unit_zero (S := S16x2048) hz2,
    View.ld_unit_zero (S := S1x2048) hz2, View.ld_unit_zero (S := S1x2048x512) hz3, View.ld_unit_zero (S := S1x3x512) hz3,
    View.ld_unit_zero (S := S1x1x512) hz3, View.ld_unit_zero (S := S1x512x2048) hz3, View.readCov_eq_canon']
  exact later_grown x3 x4 x5 x6 x7 xo xs

end Runs

end Cert.Ffn0
-- ==== Proof.Ffn0.Blocks.lean ====
module

public import proofs.«01_k».proof.Proof.Gen.Kernel3Ideal.Value
public import proofs.«01_k».proof.Proof.Ffn.Math
public import Idealize.ShloMosaic.Lib.Pointwise

/-
The blocks the kernel's windows stage at a point of its grid, as entries of the launched arrays. Point `t` is block
`t % 11` of hidden channels of tile `t / 11`; tile `T` is the rows from `1056 T` on, half `T % 2` of sequence `T / 2`.
-/

@[expose] public section

noncomputable section

namespace Cert.Ffn0

open Idealize.ShloMosaic Idealize.ShloMosaic.TcCoe Idealize.SL.Sem Cert.Ffn
open Cert.Kernel3Ideal Cert.Kernel3Ideal.Gen

variable (m : (ℓ : Loc nD τ sig) → Buf (Elt Ideal) ℓ) (c : Dev nD) (t : Fin cfg0.N)

/-- The residual stream as launched. -/
abbrev argH : Vec Ideal S33792x2048 .f32 := m ((c : Thread nD τ).loc main_arg0)
/-- The gains of the layers' normalisations. -/
abbrev argNorm : Vec Ideal S2x2048 .f32 := m ((c : Thread nD τ).loc main_arg1)
/-- The layers' gate projections. -/
abbrev argGate : Vec Ideal S2x2048x5632 .f32 := m ((c : Thread nD τ).loc main_arg2)
/-- The layers' projections up. -/
abbrev argUp : Vec Ideal S2x2048x5632 .f32 := m ((c : Thread nD τ).loc main_arg3)
/-- The layers' convolution taps. -/
abbrev argConv : Vec Ideal S2x3x5632 .f32 := m ((c : Thread nD τ).loc main_arg4)
/-- The layers' convolution biases. -/
abbrev argBias : Vec Ideal S2x5632 .f32 := m ((c : Thread nD τ).loc main_arg5)
/-- The layers' projections down. -/
abbrev argDown : Vec Ideal S2x5632x2048 .f32 := m ((c : Thread nD τ).loc main_arg6)
/-- The gain of the last normalisation. -/
abbrev argFinal : Vec Ideal S2048 .f32 := m ((c : Thread nD τ).loc main_arg7)

/-- The cast of the gate projections is themselves. -/
theorem V_v0 : (V m c main_v0 : Vec Ideal S2x2048x5632 .bf16) = argGate m c := by
  dsimp only [V, hostOps0]; after_results; rfl
/-- The cast of the projections up is themselves. -/
theorem V_v1 : (V m c main_v1 : Vec Ideal S2x2048x5632 .bf16) = argUp m c := by
  dsimp only [V, hostOps0]; after_results; rfl
/-- The cast of the projections down is themselves. -/
theorem V_v2 : (V m c main_v2 : Vec Ideal S2x5632x2048 .bf16) = argDown m c := by
  dsimp only [V, hostOps0]; after_results; rfl
/-- The layer's gain, as the call takes it. -/
theorem V_v5 (j : Fin 2048) : (V m c main_v5 : Vec Ideal S1x2048 .f32) (ix2 0 j) = argNorm m c (ix2 0 j) := by
  dsimp only [V, hostOps0]; after_results; pointwise
/-- The biases, as the call takes them. -/
theorem V_v6 (j : Fin 5632) (l : Fin 2) : (V m c main_v6 : Vec Ideal S2x1x5632 .f32) (ix3 l 0 j) = argBias m c (ix2 l j) := by
  dsimp only [V, hostOps0]; after_results; pointwise

/-- The tile of a point. -/
theorem idx0 : ∀ t : Fin cfg0.N, win0_0.index t (0 : Fin 2) = t.val / 11 ∧ win0_0.index t (1 : Fin 2) = 0 := (by decide +kernel : ∀ t : Fin grid0.N, _)
/-- The sixteen rows before the tile of a point; the first tile takes its own first rows. -/
theorem idx1 : ∀ t : Fin cfg0.N, win0_1.index t (0 : Fin 2) = 66 * (t.val / 11) - 1 ∧ win0_1.index t (1 : Fin 2) = 0 :=
  (by decide +kernel : ∀ t : Fin grid0.N, _)
/-- The gain's block. -/
theorem idx2 : ∀ t : Fin cfg0.N, win0_2.index t (0 : Fin 2) = 0 ∧ win0_2.index t (1 : Fin 2) = 0 := (by decide +kernel : ∀ t : Fin grid0.N, _)
/-- The gate projection's block. -/
theorem idx3 : ∀ t : Fin cfg0.N, win0_3.index t (0 : Fin 3) = 0 ∧ win0_3.index t (1 : Fin 3) = 0 ∧ win0_3.index t (2 : Fin 3) = t.val % 11 :=
  (by decide +kernel : ∀ t : Fin grid0.N, _)
/-- The block of the projection up. -/
theorem idx4 : ∀ t : Fin cfg0.N, win0_4.index t (0 : Fin 3) = 0 ∧ win0_4.index t (1 : Fin 3) = 0 ∧ win0_4.index t (2 : Fin 3) = t.val % 11 :=
  (by decide +kernel : ∀ t : Fin grid0.N, _)
/-- The taps' block. -/
theorem idx5 : ∀ t : Fin cfg0.N, win0_5.index t (0 : Fin 3) = 0 ∧ win0_5.index t (1 : Fin 3) = 0 ∧ win0_5.index t (2 : Fin 3) = t.val % 11 :=
  (by decide +kernel : ∀ t : Fin grid0.N, _)
/-- The biases' block. -/
theorem idx6 : ∀ t : Fin cfg0.N, win0_6.index t (0 : Fin 3) = 0 ∧ win0_6.index t (1 : Fin 3) = 0 ∧ win0_6.index t (2 : Fin 3) = t.val % 11 :=
  (by decide +kernel : ∀ t : Fin grid0.N, _)
/-- The block of the projection down. -/
theorem idx7 : ∀ t : Fin cfg0.N, win0_7.index t (0 : Fin 3) = 0 ∧ win0_7.index t (1 : Fin 3) = t.val % 11 ∧ win0_7.index t (2 : Fin 3) = 0 :=
  (by decide +kernel : ∀ t : Fin grid0.N, _)
/-- There are 352 points. -/
theorem lt352 : t.val < 352 := lt_of_lt_of_eq t.isLt N_0

/-- The tile. -/
theorem blk0 (r : Fin 1056) (j : Fin 2048) : (iblk m c 0 t : Vec Ideal S1056x2048 .f32) (ix2 r j)
    = argH m c (ix2 ⟨t.val / 11 * 1056 + r.val, by have := lt352 t; omega⟩ j) := by
  unfold iblk
  rw [View.read_apply]
  show V m c main_arg0 _ = _
  rw [V_main_arg0]
  congr 1
  funext a
  apply Fin.ext
  obtain ⟨h0, h1⟩ := idx0 t
  match a with
  | ⟨0, _⟩ => show win0_0.index t (0 : Fin 2) * 1056 + 1 * r.val = t.val / 11 * 1056 + r.val; rw [h0]; omega
  | ⟨1, _⟩ => show win0_0.index t (1 : Fin 2) * 2048 + 1 * j.val = j.val; rw [h1]; omega

/-- The rows before the tile. -/
theorem blk1 (r : Fin 16) (j : Fin 2048) : (iblk m c 1 t : Vec Ideal S16x2048 .f32) (ix2 r j)
    = argH m c (ix2 ⟨(66 * (t.val / 11) - 1) * 16 + r.val, by have := lt352 t; omega⟩ j) := by
  unfold iblk
  rw [View.read_apply]
  show V m c main_arg0 _ = _
  rw [V_main_arg0]
  congr 1
  funext a
  apply Fin.ext
  obtain ⟨h0, h1⟩ := idx1 t
  match a with
  | ⟨0, _⟩ => show win0_1.index t (0 : Fin 2) * 16 + 1 * r.val = (66 * (t.val / 11) - 1) * 16 + r.val; rw [h0]; omega
  | ⟨1, _⟩ => show win0_1.index t (1 : Fin 2) * 2048 + 1 * j.val = j.val; rw [h1]; omega

/-- The layer's gain. -/
theorem blk2 (j : Fin 2048) : (iblk m c 2 t : Vec Ideal S1x2048 .f32) (ix2 0 j) = argNorm m c (ix2 0 j) := by
  rw [← V_v5]
  unfold iblk
  rw [View.read_apply]
  show V m c main_v5 _ = _
  congr 1
  funext a
  apply Fin.ext
  obtain ⟨h0, h1⟩ := idx2 t
  match a with
  | ⟨0, _⟩ => show win0_2.index t (0 : Fin 2) * 1 + 1 * 0 = 0; rw [h0]
  | ⟨1, _⟩ => show win0_2.index t (1 : Fin 2) * 2048 + 1 * j.val = j.val; rw [h1]; omega

/-- A block of columns of the gate projection. -/
theorem blk3 (d : Fin 2048) (k : Fin 512) : (iblk m c 3 t : Vec Ideal S1x2048x512 .bf16) (ix3 0 d k)
    = argGate m c (ix3 0 d ⟨t.val % 11 * 512 + k.val, by omega⟩) := by
  rw [← V_v0]
  unfold iblk
  rw [View.read_apply]
  show V m c main_v0 _ = _
  congr 1
  funext a
  apply Fin.ext
  obtain ⟨h0, h1, h2⟩ := idx3 t
  match a with
  | ⟨0, _⟩ => show win0_3.index t (0 : Fin 3) * 1 + 1 * 0 = 0; rw [h0]
  | ⟨1, _⟩ => show win0_3.index t (1 : Fin 3) * 2048 + 1 * d.val = d.val; rw [h1]; omega
  | ⟨2, _⟩ => show win0_3.index t (2 : Fin 3) * 512 + 1 * k.val = t.val % 11 * 512 + k.val; rw [h2]; omega

/-- A block of columns of the projection up. -/
theorem blk4 (d : Fin 2048) (k : Fin 512) : (iblk m c 4 t : Vec Ideal S1x2048x512 .bf16) (ix3 0 d k)
    = argUp m c (ix3 0 d ⟨t.val % 11 * 512 + k.val, by omega⟩) := by
  rw [← V_v1]
  unfold iblk
  rw [View.read_apply]
  show V m c main_v1 _ = _
  congr 1
  funext a
  apply Fin.ext
  obtain ⟨h0, h1, h2⟩ := idx4 t
  match a with
  | ⟨0, _⟩ => show win0_4.index t (0 : Fin 3) * 1 + 1 * 0 = 0; rw [h0]
  | ⟨1, _⟩ => show win0_4.index t (1 : Fin 3) * 2048 + 1 * d.val = d.val; rw [h1]; omega
  | ⟨2, _⟩ => show win0_4.index t (2 : Fin 3) * 512 + 1 * k.val = t.val % 11 * 512 + k.val; rw [h2]; omega

/-- A block of taps. -/
theorem blk5 (i : Fin 3) (k : Fin 512) : (iblk m c 5 t : Vec Ideal S1x3x512 .f32) (ix3 0 i k)
    = argConv m c (ix3 0 i ⟨t.val % 11 * 512 + k.val, by omega⟩) := by
  unfold iblk
  rw [View.read_apply]
  show V m c main_arg4 _ = _
  rw [V_main_arg4]
  congr 1
  funext a
  apply Fin.ext
  obtain ⟨h0, h1, h2⟩ := idx5 t
  match a with
  | ⟨0, _⟩ => show win0_5.index t (0 : Fin 3) * 1 + 1 * 0 = 0; rw [h0]
  | ⟨1, _⟩ => show win0_5.index t (1 : Fin 3) * 3 + 1 * i.val = i.val; rw [h1]; omega
  | ⟨2, _⟩ => show win0_5.index t (2 : Fin 3) * 512 + 1 * k.val = t.val % 11 * 512 + k.val; rw [h2]; omega

/-- A block of biases. -/
theorem blk6 (k : Fin 512) : (iblk m c 6 t : Vec Ideal S1x1x512 .f32) (ix3 0 0 k)
    = argBias m c (ix2 0 ⟨t.val % 11 * 512 + k.val, by omega⟩) := by
  rw [← V_v6]
  unfold iblk
  rw [View.read_apply]
  show V m c main_v6 _ = _
  congr 1
  funext a
  apply Fin.ext
  obtain ⟨h0, h1, h2⟩ := idx6 t
  match a with
  | ⟨0, _⟩ => show win0_6.index t (0 : Fin 3) * 1 + 1 * 0 = 0; rw [h0]
  | ⟨1, _⟩ => show win0_6.index t (1 : Fin 3) * 1 + 1 * 0 = 0; rw [h1]
  | ⟨2, _⟩ => show win0_6.index t (2 : Fin 3) * 512 + 1 * k.val = t.val % 11 * 512 + k.val; rw [h2]; omega

/-- A block of rows of the projection down. -/
theorem blk7 (k : Fin 512) (j : Fin 2048) : (iblk m c 7 t : Vec Ideal S1x512x2048 .bf16) (ix3 0 k j)
    = argDown m c (ix3 0 ⟨t.val % 11 * 512 + k.val, by omega⟩ j) := by
  rw [← V_v2]
  unfold iblk
  rw [View.read_apply]
  show V m c main_v2 _ = _
  congr 1
  funext a
  apply Fin.ext
  obtain ⟨h0, h1, h2⟩ := idx7 t
  match a with
  | ⟨0, _⟩ => show win0_7.index t (0 : Fin 3) * 1 + 1 * 0 = 0; rw [h0]
  | ⟨1, _⟩ => show win0_7.index t (1 : Fin 3) * 512 + 1 * k.val = t.val % 11 * 512 + k.val; rw [h1]; omega
  | ⟨2, _⟩ => show win0_7.index t (2 : Fin 3) * 2048 + 1 * j.val = j.val; rw [h2]; omega

end Cert.Ffn0
-- ==== Proof.Ffn0.Fold.lean ====
module

public import proofs.«01_k».proof.Proof.Ffn0.Cases
public import proofs.«01_k».proof.Proof.Ffn0.Blocks

/-
The eleven points of a tile: the stored normalised rows stay, the tile grows by one block of hidden channels a point, and
the last point writes it back. `G9_apply` states the kernel's whole result entry by entry.
-/

@[expose] public section

noncomputable section

namespace Cert.Ffn0

open Idealize.ShloMosaic Idealize.ShloMosaic.TcCoe Idealize.SL.Sem Cert.Ffn
open Cert.Kernel3Ideal Cert.Kernel3Ideal.Gen Cert.Kernel3Ideal.Value

variable (m : (ℓ : Loc nD τ sig) → Buf (Elt Ideal) ℓ) (c : Dev nD)

/-- Row `p` of the 1072 rows of tile `T`, sixteen before it and then its own 1056; the first tile, which has none before it,
    takes its own first sixteen. -/
def rowOf (T : Fin 32) (p : Fin 1072) : Fin 33792 :=
  ⟨if p.val < 16 then (66 * T.val - 1) * 16 + p.val else T.val * 1056 + (p.val - 16), by split <;> omega⟩

/-- That row, normalised. -/
def nrow (T : Fin 32) (p : Fin 1072) : Row := rms (fun d => argH m c (ix2 (rowOf T p) d)) (fun d => argNorm m c (ix2 0 d))

/-- What block `f` of 512 hidden channels adds to entry `j` of row `r` of tile `T`. -/
def added (T : Fin 32) (r : Fin 1056) (j : Fin 2048) (f : Fin 11) : EReal :=
  part (K := 512) (nrow m c T ⟨r.val + 14, by omega⟩) (nrow m c T ⟨r.val + 15, by omega⟩) (nrow m c T ⟨r.val + 16, by omega⟩)
    (fun k d => argGate m c (ix3 0 d ⟨f.val * 512 + k.val, by omega⟩)) (fun k d => argUp m c (ix3 0 d ⟨f.val * 512 + k.val, by omega⟩))
    (fun k i => argConv m c (ix3 0 i ⟨f.val * 512 + k.val, by omega⟩)) (fun k => argBias m c (ix2 0 ⟨f.val * 512 + k.val, by omega⟩))
    (fun k => argDown m c (ix3 0 ⟨f.val * 512 + k.val, by omega⟩ j))

/-- Entry `j` of row `r` of tile `T` of the residual stream. -/
def start (T : Fin 32) (r : Fin 1056) (j : Fin 2048) : EReal :=
  argH m c (ix2 ⟨T.val * 1056 + r.val, by omega⟩ j)

/-- The tile a point belongs to. -/
abbrev tileOf (t : Fin cfg0.N) : Fin 32 := ⟨t.val / 11, by have := lt352 t; omega⟩
/-- The block of hidden channels a point adds. -/
abbrev blockOf (t : Fin cfg0.N) : Fin 11 := ⟨t.val % 11, Nat.mod_lt _ (by omega)⟩

/-- The rows a first point stores. -/
theorem normed_blk (t : Fin cfg0.N) : normed (iblk m c 0 t) (iblk m c 1 t) (iblk m c 2 t)
    = fun y => nrow m c (tileOf t) (y 0) (y 1) := by
  funext y
  obtain ⟨p, q, rfl⟩ : ∃ (p : Fin 1072) (q : Fin 2048), y = ix2 p q := ⟨y 0, y 1, eq_ix2 y⟩
  have ht := lt352 t
  unfold normed nrow
  have hg : (fun k : Fin 2048 => (iblk m c 2 t : Vec Ideal S1x2048 .f32) (ix2 0 k)) = fun d => argNorm m c (ix2 0 d) :=
    funext fun k => blk2 m c t k
  by_cases hp : p.val < 16
  · rw [dif_pos (show ((ix2 p q : S1072x2048.Idx) 0).val < 16 from hp)]
    refine congrFun (congrArg₂ rms (funext fun d => (blk1 m c t _ d).trans (congrArg (argH m c) (congrArg₂ ix2 (Fin.ext ?_) rfl))) hg) q
    exact (if_pos hp).symm
  · rw [dif_neg (show ¬ ((ix2 p q : S1072x2048.Idx) 0).val < 16 from hp)]
    refine congrFun (congrArg₂ rms (funext fun d => (blk0 m c t _ d).trans (congrArg (argH m c) (congrArg₂ ix2 (Fin.ext ?_) rfl))) hg) q
    exact (if_neg hp).symm

/-- A tile with a point's block of hidden channels added. -/
theorem grown_blk (t : Fin cfg0.N) (T : Fin 32) (X : Vec Ideal S1056x2048 .f32) (r : Fin 1056) (j : Fin 2048) :
    grown X (fun y => nrow m c T (y 0) (y 1)) (iblk m c 3 t) (iblk m c 4 t) (iblk m c 5 t) (iblk m c 6 t) (iblk m c 7 t) (ix2 r j)
      = X (ix2 r j) + added m c T r j (blockOf t) := by
  unfold grown blockPart added
  refine congrArg (X (ix2 r j) + ·) ?_
  have e3 : (fun (k : Fin 512) (d : Fin 2048) => (iblk m c 3 t : Vec Ideal S1x2048x512 .bf16) (ix3 0 d k))
      = fun k d => argGate m c (ix3 0 d ⟨t.val % 11 * 512 + k.val, by omega⟩) := funext fun k => funext fun d => blk3 m c t d k
  have e4 : (fun (k : Fin 512) (d : Fin 2048) => (iblk m c 4 t : Vec Ideal S1x2048x512 .bf16) (ix3 0 d k))
      = fun k d => argUp m c (ix3 0 d ⟨t.val % 11 * 512 + k.val, by omega⟩) := funext fun k => funext fun d => blk4 m c t d k
  have e5 : (fun (k : Fin 512) (i : Fin 3) => (iblk m c 5 t : Vec Ideal S1x3x512 .f32) (ix3 0 i k))
      = fun k i => argConv m c (ix3 0 i ⟨t.val % 11 * 512 + k.val, by omega⟩) := funext fun k => funext fun i => blk5 m c t i k
  have e6 : (fun (k : Fin 512) => (iblk m c 6 t : Vec Ideal S1x1x512 .f32) (ix3 0 0 k))
      = fun k => argBias m c (ix2 0 ⟨t.val % 11 * 512 + k.val, by omega⟩) := funext fun k => blk6 m c t k
  have e7 : (fun (k : Fin 512) => (iblk m c 7 t : Vec Ideal S1x512x2048 .bf16) (ix3 0 k j))
      = fun k => argDown m c (ix3 0 ⟨t.val % 11 * 512 + k.val, by omega⟩ j) := funext fun k => blk7 m c t k j
  show part _ _ _ (fun (k : Fin 512) (d : Fin 2048) => (iblk m c 3 t : Vec Ideal S1x2048x512 .bf16) (ix3 0 d k)) _ _ _ _ = _
  rw [e3, e4, e5, e6]
  exact congrArg (part _ _ _ _ _ _ _) e7

/-- The tile, `n + 1` blocks of hidden channels added. -/
def tile (T : Fin 32) (n : ℕ) (hn : n < 11) : Vec Ideal S1056x2048 .f32 := fun y =>
  start m c T (y 0) (y 1) + ∑ f : Fin (n + 1), added m c T (y 0) (y 1) ⟨f.val, by omega⟩

/-- A later point adds the next block. -/
theorem grown_tile (t : Fin cfg0.N) (n : ℕ) (hn : n + 1 < 11) (h : t.val % 11 = n + 1) :
    grown (tile m c (tileOf t) n (by omega)) (fun y => nrow m c (tileOf t) (y 0) (y 1)) (iblk m c 3 t) (iblk m c 4 t) (iblk m c 5 t)
      (iblk m c 6 t) (iblk m c 7 t) = tile m c (tileOf t) (n + 1) hn := by
  funext y
  obtain ⟨r, j, rfl⟩ : ∃ (p : Fin 1056) (q : Fin 2048), y = ix2 p q := ⟨y 0, y 1, eq_ix2 y⟩
  rw [grown_blk]
  unfold tile
  rw [Fin.sum_univ_castSucc (n := n + 1), ← add_assoc]
  refine congrArg (_ + ·) (congrArg (added m c (tileOf t) r j) (Fin.ext ?_))
  exact h

/-- A first point adds the first block. -/
theorem grown_start (t : Fin cfg0.N) (h : t.val % 11 = 0) :
    grown (iblk m c 0 t) (fun y => nrow m c (tileOf t) (y 0) (y 1)) (iblk m c 3 t) (iblk m c 4 t) (iblk m c 5 t)
      (iblk m c 6 t) (iblk m c 7 t) = tile m c (tileOf t) 0 (by omega) := by
  funext y
  obtain ⟨r, j, rfl⟩ : ∃ (p : Fin 1056) (q : Fin 2048), y = ix2 p q := ⟨y 0, y 1, eq_ix2 y⟩
  rw [grown_blk, blk0]
  unfold tile start
  refine congrArg₂ (· + ·) rfl ?_
  rw [Fin.sum_univ_one]
  exact congrArg (added m c (tileOf t) r j) (Fin.ext h)

/-- After block `f` of tile `T` the output's buffer holds the tile so far and the scratch its normalised rows. -/
theorem outs_eq (T : Fin 32) : ∀ (f : ℕ) (hf : f < 11) (hN : 11 * T.val + f < cfg0.N),
    outsAt0 m c (11 * T.val + f) hN = (tile m c T f (by omega), fun y => nrow m c T (y 0) (y 1)) := by
  intro f
  induction f with
  | zero =>
    intro _ hN
    have hT : tileOf ⟨11 * T.val + 0, hN⟩ = T := Fin.ext (show (11 * T.val + 0) / 11 = T.val by omega)
    rw [outsAt0_A m c ⟨11 * T.val + 0, hN⟩ (by show (11 * T.val + 0) % 11 = 0; omega) (by show ¬ 1 ≤ (11 * T.val + 0) % 11; omega), out_A, sout_A, normed_blk,
      grown_start m c _ (by show (11 * T.val + 0) % 11 = 0; omega), hT]
  | succ f ih =>
    intro hf hN
    have hT : tileOf ⟨11 * T.val + (f + 1), hN⟩ = T := Fin.ext (show (11 * T.val + (f + 1)) / 11 = T.val by omega)
    have hp : outsAt0 m c (11 * T.val + (f + 1) - 1) (Nat.lt_of_le_of_lt (Nat.sub_le _ _) hN)
        = (tile m c T f (by omega), fun y => nrow m c T (y 0) (y 1)) := ih (by omega) (by omega)
    rw [outsAt0_B m c ⟨11 * T.val + (f + 1), hN⟩ (by show ¬ (11 * T.val + (f + 1)) % 11 = 0; omega)
      (by show 1 ≤ (11 * T.val + (f + 1)) % 11; omega), out_B]
    unfold sout0_B_0
    dsimp only
    rw [hp]
    dsimp only
    have hg := grown_tile m c ⟨11 * T.val + (f + 1), hN⟩ f (by omega) (by show (11 * T.val + (f + 1)) % 11 = f + 1; omega)
    rw [hT] at hg
    rw [hg]

/-- After the last block the output's buffer holds the tile with all its additions. -/
theorem outs_last (T : Fin 32) (hN : 11 * T.val + 10 < cfg0.N) (r : Fin 1056) (j : Fin 2048) :
    (outsAt0 m c (11 * T.val + 10) hN).1 (ix2 r j) = start m c T r j + ∑ f, added m c T r j f := by
  rw [outs_eq m c T 10 (by omega)]
  rfl

/-- The kernel's result: row `R` of 33792 is row `R % 1056` of tile `R / 1056`. -/
theorem G9_apply (R : Fin 33792) (j : Fin 2048) :
    (G9 m c : Vec Ideal S33792x2048 .f32) (ix2 R j)
      = start m c ⟨R.val / 1056, by omega⟩ ⟨R.val % 1056, by omega⟩ j
          + ∑ f, added m c ⟨R.val / 1056, by omega⟩ ⟨R.val % 1056, by omega⟩ j f := by
  have hr : pt9Of (ix2 R j) = 11 * (⟨R.val / 1056, by omega⟩ : Fin 32).val + 10 := by
    show 11 * (1 * (R.val / 1056 - 0) + 1 * (j.val / 2048 - 0)) + 10 = 11 * (R.val / 1056) + 10
    omega
  have hlt : 11 * (⟨R.val / 1056, by omega⟩ : Fin 32).val + 10 < cfg0.N := by
    rw [show cfg0.N = 352 from N_0]; show 11 * (R.val / 1056) + 10 < 352; omega
  have hl : loc9Of (ix2 R j) = ix2 ⟨R.val % 1056, by omega⟩ j := by
    funext a
    match a with
    | ⟨0, _⟩ => rfl
    | ⟨1, _⟩ => exact Fin.ext (Nat.mod_eq_of_lt j.isLt)
  rw [← outs_last m c ⟨R.val / 1056, by omega⟩ hlt, outsAt0_sweep]
  unfold G9
  rw [dif_pos (by rw [hr]; exact hlt), hl]
  simp only [hr]

end Cert.Ffn0
-- ==== Proof.Ffn0.Ref.lean ====
module

public import proofs.«01_k».proof.Proof.Gen.Reference3Ideal.Read
public import proofs.«01_k».proof.Proof.Ffn.Finite

/-
The reference's result, read entry by entry: row `R` of the result is row `R % 2112` of sequence `R / 2112`, whose first 48
rows are padding; behind them stands the layer's result.
-/

@[expose] public section

noncomputable section

namespace Cert.Ffn0

open Idealize.ShloMosaic Idealize.ShloMosaic.TcCoe Idealize.SL.Sem Cert.Ffn
open Cert.Reference3Ideal Cert.Reference3Ideal.Read

section
variable (x0 : Vec Ideal S33792x2048 .f32) (x1 : Vec Ideal S2x2048 .f32) (x2 x3 : Vec Ideal S2x2048x5632 .f32)
  (x4 : Vec Ideal S2x3x5632 .f32) (x5 : Vec Ideal S2x5632 .f32) (x6 : Vec Ideal S2x5632x2048 .f32) (x7 : Vec Ideal S2048 .f32)

/-- Row `t` of sequence `b`, normalised with the gain of the first layer. -/
def refRow (b : Fin 16) (t : Fin 2064) : Row :=
  rms (fun k => x0 (ix2 (⟨b.val * 2112 + (48 + t.val), by omega⟩ : Fin 33792) k)) (fun k => x1 (ix2 (0 : Fin 2) k))

/-- The reference's normalised rows. -/
theorem normed_apply (b : Fin 16) (t : Fin 2064) (d : Fin 2048) :
    val_main_v16 (F := Ideal) x0 x1 (ix3 b t d) = refRow x0 x1 b t d := by
  unfold refRow rms
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]

/-- The integer zero, converted, is zero. -/
theorem zero_conv : (FloatOps.sitofp (F := Ideal) FTy.f32 0#32) = (0 : EReal) := by
  show ((((0#32 : BitVec 32).toInt : ℤ) : ℝ) : EReal) = 0
  simp

/-- The gate projection `n` rows before row `t`; before the first row it is zero. -/
def refGate (b : Fin 16) (t : Fin 2064) (n : ℕ) (k : Fin 5632) : EReal :=
  if n ≤ t.val then ∑ d, refRow x0 x1 b ⟨t.val - n, by omega⟩ d * x2 (ix3 (0 : Fin 2) d k) else 0

/-- The padded gate projection, two rows of zeros before it, read `n` rows before row `t`. -/
theorem padded_apply (b : Fin 16) (t : Fin 2064) (n : ℕ) (hn : n ≤ 2) (p : Fin 2066) (hp : p.val + n = t.val + 2) (k : Fin 5632) :
    val_main_v28 (F := Ideal) x0 x1 x2 (ix3 b p k) = refGate x0 x1 x2 b t n k := by
  unfold refGate
  pointwise [val_main_v28, val_main_v27, val_main_v18, val_main_v17]
  by_cases h : n ≤ t.val
  · rw [dif_pos (by omega), if_pos h]
    refine Finset.sum_congr rfl fun d _ => ?_
    rw [← normed_apply]
    congr 3
    exact Fin.ext (by dsimp only; omega)
  · rw [dif_neg (by omega), if_neg h]
    exact zero_conv

/-- The reference's convolution. -/
theorem conv_apply (b : Fin 16) (t : Fin 2064) (k : Fin 5632) :
    val_main_v51 (F := Ideal) x0 x1 x2 x4 x5 (ix3 b t k)
      = conv (x5 (ix2 (0 : Fin 2) k)) (fun i => x4 (ix3 (0 : Fin 2) i k)) (refGate x0 x1 x2 b t 2 k) (refGate x0 x1 x2 b t 1 k)
          (refGate x0 x1 x2 b t 0 k) := by
  unfold conv
  pointwise [val_main_v51, val_main_v50, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v32, val_main_v31, val_main_v30, val_main_v29, val_main_v21,
    val_main_v22, val_main_v23, val_main_v24]
  rw [padded_apply x0 x1 x2 b t 2 (by omega) _ (by dsimp only),
    padded_apply x0 x1 x2 b t 1 (by omega) _ (by dsimp only; omega),
    padded_apply x0 x1 x2 b t 0 (by omega) _ (by dsimp only; omega)]

/-- What the feed-forward layer adds to entry `j` of row `t` of sequence `b`. -/
def refAdded (b : Fin 16) (t : Fin 2064) (j : Fin 2048) : EReal :=
  ∑ k : Fin 5632, silu (conv (x5 (ix2 (0 : Fin 2) k)) (fun i => x4 (ix3 (0 : Fin 2) i k)) (refGate x0 x1 x2 b t 2 k)
      (refGate x0 x1 x2 b t 1 k) (refGate x0 x1 x2 b t 0 k))
    * (∑ d, refRow x0 x1 b t d * x3 (ix3 (0 : Fin 2) d k)) * x6 (ix3 (0 : Fin 2) k j)

/-- The residual stream behind the feed-forward layer. -/
theorem layer_apply (b : Fin 16) (t : Fin 2064) (j : Fin 2048) :
    val_main_v56 (F := Ideal) x0 x1 x2 x3 x4 x5 x6 (ix3 b t j)
      = x0 (ix2 (⟨b.val * 2112 + (48 + t.val), by omega⟩ : Fin 33792) j) + refAdded x0 x1 x2 x3 x4 x5 x6 b t j := by
  unfold refAdded silu
  pointwise [val_main_v56, val_main_v55, val_main_v54, val_main_v53, val_main_v52, val_main_call1_v0, val_main_call1_v1,
    val_main_call1_v2, val_main_call1_v3, val_main_call1_v4, val_main_call1_v5, val_main_call1_cst, val_main_call1_cst_0,
    val_main_v1, val_main_v0, val_main_v19, val_main_v20, val_main_v25, val_main_v26]
  simp only [conv_apply x0 x1 x2 x4 x5 b t, normed_apply]

/-- A row of padding of the result is zero. -/
theorem ref_pad (R : Fin 33792) (hR : R.val % 2112 < 48) (j : Fin 2048) :
    val_main_v58 (F := Ideal) x0 x1 x2 x3 x4 x5 x6 (ix2 R j) = 0 := by
  pointwise [val_main_v58, val_main_v57, val_main_call2_v0, val_main_c_2]
  rw [dif_neg (by omega)]
  exact zero_conv

/-- A row behind the padding is the layer's row. -/
theorem ref_apply (R : Fin 33792) (hR : 48 ≤ R.val % 2112) (j : Fin 2048) :
    val_main_v58 (F := Ideal) x0 x1 x2 x3 x4 x5 x6 (ix2 R j)
      = x0 (ix2 R j) + refAdded x0 x1 x2 x3 x4 x5 x6 ⟨R.val / 2112, by omega⟩ ⟨R.val % 2112 - 48, by omega⟩ j := by
  pointwise [val_main_v58, val_main_v57, val_main_call2_v0, val_main_c_2]
  rw [dif_pos (by omega)]
  refine (layer_apply x0 x1 x2 x3 x4 x5 x6 ⟨R.val / 2112, by omega⟩ ⟨R.val % 2112 - 48, by omega⟩ j).trans ?_
  refine congrArg (· + _) (congrArg x0 (congrArg₂ ix2 (Fin.ext ?_) rfl))
  dsimp only
  omega

end

end Cert.Ffn0
-- ==== Proof.Ffn0.Eq.lean ====
module

public import proofs.«01_k».proof.Proof.Ffn.Eq
public import proofs.«01_k».proof.Proof.Ffn0.Fold
public import proofs.«01_k».proof.Proof.Ffn0.Ref

/-
The kernel's result is the reference's: the eleven blocks of 512 hidden channels are the 5632 channels, the rows of a tile
are rows of its sequence, a row of padding is zero and so is what the layer adds to it, and the two gates agree on real
arguments.
-/

@[expose] public section

noncomputable section

namespace Cert.Ffn0

open Idealize.ShloMosaic Idealize.ShloMosaic.TcCoe Idealize.SL.Sem Cert.Ffn
open Cert.Kernel3Ideal Cert.Kernel3Ideal.Gen Cert.Kernel3Ideal.Value

variable (m : (ℓ : Loc nD τ sig) → Buf (Elt Ideal) ℓ) (c : Dev nD)

/-- The rows of padding: the first 48 of each sequence's 2112. -/
def Padded (h : Vec Ideal S33792x2048 .f32) : Prop := ∀ (R : Fin 33792) (j : Fin 2048), R.val % 2112 < 48 → h (ix2 R j) = 0

/-- A normalised row of zeros is zero. -/
theorem rms_zero (x g : Row) (hx : ∀ k, x k = 0) (j : Fin 2048) : rms x g j = 0 := by
  unfold rms
  rw [hx j, zero_mul, zero_mul]

/-- Row `p` of a tile's window is row `q` of its sequence. -/
theorem nrow_eq (T : Fin 32) (p : Fin 1072) (b : Fin 16) (q : Fin 2064) (hb : b.val = T.val / 2)
    (hq : 48 + q.val + 16 = T.val % 2 * 1056 + p.val) : nrow m c T p = refRow (argH m c) (argNorm m c) b q := by
  unfold nrow refRow
  congr 1
  funext d
  refine congrArg (argH m c) (congrArg₂ ix2 (Fin.ext ?_) rfl)
  show (if p.val < 16 then (66 * T.val - 1) * 16 + p.val else T.val * 1056 + (p.val - 16)) = b.val * 2112 + (48 + q.val)
  split <;> omega

/-- Row `p` of a tile's window is zero where it is a row of padding. -/
theorem nrow_pad (hp : Padded (argH m c)) (T : Fin 32) (p : Fin 1072) (h1 : 16 ≤ p.val) (h2 : T.val % 2 = 0)
    (h3 : p.val < 64) (d : Fin 2048) : nrow m c T p d = 0 := by
  unfold nrow
  refine rms_zero _ _ (fun k => hp _ _ ?_) d
  show (if p.val < 16 then (66 * T.val - 1) * 16 + p.val else T.val * 1056 + (p.val - 16)) % 2112 < 48
  rw [if_neg (by omega)]
  omega

/-- The gate projection of a row of a tile's window, `n` rows before the reference's row `q`. -/
theorem gate_eq (hp : Padded (argH m c)) (T : Fin 32) (p : Fin 1072) (b : Fin 16) (q : Fin 2064) (n : ℕ) (hn : n ≤ 2)
    (hb : b.val = T.val / 2) (hq : 48 + q.val + 16 = T.val % 2 * 1056 + p.val + n) (k : Fin 5632) :
    ∑ d, nrow m c T p d * argGate m c (ix3 0 d k) = refGate (argH m c) (argNorm m c) (argGate m c) b q n k := by
  unfold refGate
  by_cases h : n ≤ q.val
  · rw [if_pos h, nrow_eq m c T p b ⟨q.val - n, by omega⟩ hb (by dsimp only; omega)]
  · rw [if_neg h]
    exact Finset.sum_eq_zero fun d _ => by
      rw [nrow_pad m c hp T p (by omega) (by omega) (by omega), zero_mul]

/-- The eleven blocks of a tile's row add what the reference's layer adds. -/
theorem added_eq (hp : Padded (argH m c)) (hn : ∀ k, IsReal (argNorm m c (ix2 0 k))) (hg : ∀ d k, IsReal (argGate m c (ix3 0 d k)))
    (hc : ∀ i k, IsReal (argConv m c (ix3 0 i k))) (hb : ∀ k, IsReal (argBias m c (ix2 0 k)))
    (T : Fin 32) (r : Fin 1056) (j : Fin 2048) (b : Fin 16) (q : Fin 2064) (eb : b.val = T.val / 2)
    (eq : 48 + q.val = T.val % 2 * 1056 + r.val) :
    ∑ f, added m c T r j f = refAdded (argH m c) (argNorm m c) (argGate m c) (argUp m c) (argConv m c) (argBias m c)
      (argDown m c) b q j := by
  unfold refAdded
  rw [sum_blocks]
  refine Finset.sum_congr rfl fun f _ => ?_
  unfold added part
  refine Finset.sum_congr rfl fun k _ => ?_
  rw [gate_eq m c hp T ⟨r.val + 14, by omega⟩ b q 2 (by omega) eb (by dsimp only; omega),
    gate_eq m c hp T ⟨r.val + 15, by omega⟩ b q 1 (by omega) eb (by dsimp only; omega),
    gate_eq m c hp T ⟨r.val + 16, by omega⟩ b q 0 (by omega) eb (by dsimp only; omega),
    nrow_eq m c T ⟨r.val + 16, by omega⟩ b q eb (by dsimp only; omega)]
  have hr : ∀ n k, IsReal (refGate (argH m c) (argNorm m c) (argGate m c) b q n k) := fun n k => by
    unfold refGate
    split
    · exact IsReal.sum fun d => (rms_real _ _ hn d).mul (hg d _)
    · exact ⟨0, rfl⟩
  rw [gate_eq_silu (conv_real (hb _) (fun i => hc i _) (hr _ _) (hr _ _) (hr _ _))]

/-- Nothing is added to a row of padding: its projection up is zero. -/
theorem added_pad (hp : Padded (argH m c)) (T : Fin 32) (r : Fin 1056) (j : Fin 2048) (h2 : T.val % 2 = 0) (h3 : r.val < 48) :
    ∑ f, added m c T r j f = 0 := by
  refine Finset.sum_eq_zero fun f _ => ?_
  unfold added part
  refine Finset.sum_eq_zero fun k _ => ?_
  have hu : ∑ d, nrow m c T ⟨r.val + 16, by omega⟩ d * argUp m c (ix3 0 d ⟨f.val * 512 + k.val, by omega⟩) = 0 :=
    Finset.sum_eq_zero fun d _ => by
      rw [nrow_pad m c hp T _ (by dsimp only; omega) h2 (by dsimp only; omega), zero_mul]
  rw [hu, mul_zero, zero_mul]

/-- The kernel's result is the reference's, entry by entry. -/
theorem result_eq (hp : Padded (argH m c)) (hn : ∀ k, IsReal (argNorm m c (ix2 0 k))) (hg : ∀ d k, IsReal (argGate m c (ix3 0 d k)))
    (hc : ∀ i k, IsReal (argConv m c (ix3 0 i k))) (hb : ∀ k, IsReal (argBias m c (ix2 0 k))) :
    (G9 m c : Vec Ideal S33792x2048 .f32) = Cert.Reference3Ideal.Read.val_main_v58 (F := Ideal) (argH m c) (argNorm m c)
      (argGate m c) (argUp m c) (argConv m c) (argBias m c) (argDown m c) := by
  funext y
  obtain ⟨R, j, rfl⟩ : ∃ (R : Fin 33792) (j : Fin 2048), y = ix2 R j := ⟨y 0, y 1, eq_ix2 y⟩
  have hs : start m c ⟨R.val / 1056, by omega⟩ ⟨R.val % 1056, by omega⟩ j = argH m c (ix2 R j) := by
    unfold start
    refine congrArg (argH m c) (congrArg₂ ix2 (Fin.ext ?_) rfl)
    dsimp only
    omega
  rw [G9_apply, hs]
  by_cases hR : R.val % 2112 < 48
  · rw [ref_pad _ _ _ _ _ _ _ R hR, hp R j hR, added_pad m c hp _ _ j (by dsimp only; omega) (by dsimp only; omega), add_zero]
  · rw [ref_apply _ _ _ _ _ _ _ R (by omega), added_eq m c hp hn hg hc hb _ _ j ⟨R.val / 2112, by omega⟩ ⟨R.val % 2112 - 48, by omega⟩
      (by dsimp only; omega) (by dsimp only; omega)]

end Cert.Ffn0
-- ==== Proof.Ffn0.Pre.lean ====
module

public import proofs.«01_k».proof.Defs
public import proofs.«01_k».proof.Proof.Ffn.Pre
public import proofs.«01_k».proof.Proof.Ffn0.Eq

/-
What the precondition of the first layer's feed-forward claim says: the rows of padding are zero, and the layer's gain, gate
weights, taps and bias are real.
-/

@[expose] public section

noncomputable section

namespace Cert.Ffn0

open Idealize.ShloMosaic Idealize.ShloMosaic.TcCoe Idealize.SL.Sem Cert.Ffn
open Cert.Pre_padded_gate

/-- The shape relations the precondition's operations take. -/
theorem padFacts : Cert.Pre_padded_gate.Facts where
  shapeCasts_S33792x2048_S16x2112x2048 := by decide
  slices_S16x2112x2048_S16x48x2048_0_0_0 := by decide
  bcast_S_S16x48x2048 := by decide
  slices_S2x2048_S1x2048_0_0 := by decide
  shapeCasts_S1x2048_S2048 := by decide
  bcast_S_S2048 := by decide
  slices_S2x2048x5632_S1x2048x5632_0_0_0 := by decide
  shapeCasts_S1x2048x5632_S2048x5632 := by decide
  bcast_S_S2048x5632 := by decide
  slices_S2x3x5632_S1x3x5632_0_0_0 := by decide
  shapeCasts_S1x3x5632_S3x5632 := by decide
  bcast_S_S3x5632 := by decide
  slices_S2x5632_S1x5632_0_0 := by decide
  shapeCasts_S1x5632_S5632 := by decide
  bcast_S_S5632 := by decide

/-- One entry of a mask of zeros that is one says the entry is zero. -/
theorem zero_of_mask {x : EReal} (h : Ideal.cmp .oeq x (Ideal.ofBits .f32 0x00000000#32) = 1#1) : x = 0 := by
  have h0 : Ideal.ofBits .f32 0x00000000#32 = 0 := by simp [Ideal.ofBits, Ideal.ieee]
  rw [h0] at h
  by_contra hc
  simp [Ideal.cmp, hc] at h

attribute [local instance] padFacts

section
variable (x0 : Vec Ideal S33792x2048 .f32) (x1 : Vec Ideal S2x2048 .f32) (x2 x3 : Vec Ideal S2x2048x5632 .f32)
  (x4 : Vec Ideal S2x3x5632 .f32) (x5 : Vec Ideal S2x5632 .f32) (x6 : Vec Ideal S2x5632x2048 .f32) (x7 : Vec Ideal S2048 .f32)

/-- The rows of padding are zero. -/
theorem pad_zero (h : (fn (F := Ideal) x0 x1 x2 x3 x4 x5 x6 x7).1 = fun _ => 1#1) : Padded x0 := by
  intro R j hR
  refine zero_of_mask ?_
  have e := congrFun h (ix3 (⟨R.val / 2112, by omega⟩ : Fin 16) (⟨R.val % 2112, hR⟩ : Fin 48) j)
  refine Eq.trans ?_ e
  unfold fn fn_part1
  pointwise

/-- The gain is real. -/
theorem gain_real (h : (fn (F := Ideal) x0 x1 x2 x3 x4 x5 x6 x7).2.1 = fun _ => 1#1) (k : Fin 2048) :
    IsReal (x1 (ix2 (0 : Fin 2) k)) := by
  refine isReal_of_mask ?_
  have e := congrFun h (ix1 k)
  refine Eq.trans ?_ e
  unfold fn fn_part1
  pointwise
  rfl

/-- The gate weights are real. -/
theorem weight_real (h : (fn (F := Ideal) x0 x1 x2 x3 x4 x5 x6 x7).2.2.1 = fun _ => 1#1) (d : Fin 2048) (k : Fin 5632) :
    IsReal (x2 (ix3 (0 : Fin 2) d k)) := by
  refine isReal_of_mask ?_
  have e := congrFun h (ix2 d k)
  refine Eq.trans ?_ e
  unfold fn fn_part1
  pointwise
  rfl

/-- The taps are real. -/
theorem tap_real (h : (fn (F := Ideal) x0 x1 x2 x3 x4 x5 x6 x7).2.2.2.1 = fun _ => 1#1) (i : Fin 3) (k : Fin 5632) :
    IsReal (x4 (ix3 (0 : Fin 2) i k)) := by
  refine isReal_of_mask ?_
  have e := congrFun h (ix2 i k)
  refine Eq.trans ?_ e
  unfold fn fn_part1
  pointwise
  rfl

/-- The biases are real. -/
theorem bias_real (h : (fn (F := Ideal) x0 x1 x2 x3 x4 x5 x6 x7).2.2.2.2 = fun _ => 1#1) (k : Fin 5632) :
    IsReal (x5 (ix2 (0 : Fin 2) k)) := by
  refine isReal_of_mask ?_
  have e := congrFun h (ix1 k)
  refine Eq.trans ?_ e
  unfold fn fn_part1
  pointwise
  rfl

end

end Cert.Ffn0
-- ==== Proof.Ffn0.Claims.lean ====
module

public import proofs.«01_k».proof.Defs
public import proofs.«01_k».proof.Proof.Ffn0.Eq
public import proofs.«01_k».proof.Proof.Ffn0.Pre
public import proofs.«01_k».proof.Proof.Gen.Reference3Ideal.Read
public import proofs.«01_k».proof.Proof.Gen.Reference3Ideal.Run
public import proofs.«01_k».proof.Proof.Gen.Kernel3Ideal.Frame
public import Idealize.ShloMosaic.Lib.Quiescent

/-
The claims of the first layer's feed-forward call: the frame of its reference, and the equality of the two results.
-/

@[expose] public section

noncomputable section

namespace Cert.Ffn0

open Idealize.ShloMosaic Idealize.ShloMosaic.TcCoe Idealize.SL.Sem Cert.Ffn

attribute [local instance] padFacts

/-- The reference runs and leaves its arguments and every counter as they were. -/
theorem refFrame : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The kernel and the reference end with the same array when the rows of padding are zero and layer 0's gains, gate weights, taps and biases are real. -/
theorem value : Cert.algebraic_Kernel3Ideal_Reference3Ideal_pre_padded_gate := by
  intro m ρ m' ρ' hpre hagree
  refine ⟨fun c => Cert.Kernel3Ideal.Value.G9 m c, Cert.Kernel3Ideal.Value.run (F := Ideal) m ρ, ?_⟩
  refine (θ_run _ _ _).mono (fun _ h c => ⟨(h c).1.trans ?_, (h c).2⟩) (Cert.Reference3Ideal.Value.run (F := Ideal) m' ρ')
  obtain ⟨a0, a1, a2, a3, a4, a5, a6, a7⟩ := hagree c
  obtain ⟨p, p0, p1, p2, p3⟩ := hpre c
  refine (Cert.Reference3Ideal.Read.val_main_v58_eq (F := Ideal) m' c).trans ?_
  refine Eq.trans ?_ (result_eq m c (pad_zero _ _ _ _ _ _ _ _ p)
    (gain_real _ _ _ _ _ _ _ _ p0) (weight_real _ _ _ _ _ _ _ _ p1) (tap_real _ _ _ _ _ _ _ _ p2) (bias_real _ _ _ _ _ _ _ _ p3)).symm
  rw [a0, a1, a2, a3, a4, a5, a6]

end Cert.Ffn0
-- ==== Proof.Out.Last.lean ====
module

public import proofs.«01_k».proof.Defs
public import proofs.«01_k».proof.Proof.Gen.Kernel4Ideal.Value
public import proofs.«01_k».proof.Proof.Gen.Kernel4Ideal.Frame
public import proofs.«01_k».proof.Proof.Gen.Reference4Ideal.Read
public import proofs.«01_k».proof.Proof.Gen.Reference4Ideal.Run
public import Idealize.ShloMosaic.Lib.Pointwise
public import Idealize.ShloMosaic.Lib.Quiescent

/-
The output projection of the last layer: the mixers' rows times the two halves of the weights, added to the residual
stream, is the concatenated rows times the whole weights, added to it.
-/

@[expose] public section

noncomputable section

namespace Cert.Out1

open Idealize.ShloMosaic Idealize.ShloMosaic.TcCoe Idealize.SL.Sem
open Cert.Kernel4Ideal Cert.Kernel4Ideal.Gen Cert.Kernel4Ideal.Value

section Body

variable (h : Vec Ideal S704x2048 .f32) (p : Vec Ideal S64x2048 .f32) (a b : Vec Ideal S704x1024 .bf16) (w : Vec Ideal S1x2x1024x2048 .bf16)

/-- A tile of the result, from the blocks staged. -/
def tile : Vec Ideal S704x2048 .f32 := fun y =>
  (∑ k : Fin 1024, a (ix2 (y 0) k) * w (ix4 0 0 k (y 1))) + (∑ k : Fin 1024, b (ix2 (y 0) k) * w (ix4 0 1 k (y 1))) + h y

/-- Two offsets of zero. -/
theorem hz2 : (![0, 0] : Fin 2 → Nat) = fun _ => 0 := funext fun a => by fin_cases a <;> rfl

/-- What the body stores, entry by entry. -/
theorem pay_apply (w0 w1 : Vec Ideal S1x1x1024x2048 .bf16) (r : Fin 704) (j : Fin 2048) :
    k0_pay1 a w0 b w1 h (ix2 r j)
      = (∑ k : Fin 1024, a (ix2 r k) * w0 (ix4 0 0 k j)) + (∑ k : Fin 1024, b (ix2 r k) * w1 (ix4 0 0 k j)) + h (ix2 r j) := by
  pointwise [k0_pay1]

/-- The first half of the weights. -/
theorem ld_first (k : Fin 1024) (j : Fin 2048) : View.ld w r0_1 (ix4 0 0 k j) = w (ix4 0 0 k j) := by
  refine congrArg w (funext fun d => Fin.ext ?_)
  match d with
  | ⟨0, _⟩ => rfl
  | ⟨1, _⟩ => rfl
  | ⟨2, _⟩ => show 0 + 1 * k.val = k.val; omega
  | ⟨3, _⟩ => show 0 + 1 * j.val = j.val; omega

/-- The second half of the weights. -/
theorem ld_second (k : Fin 1024) (j : Fin 2048) : View.ld w r0_2 (ix4 0 0 k j) = w (ix4 0 1 k j) := by
  refine congrArg w (funext fun d => Fin.ext ?_)
  match d with
  | ⟨0, _⟩ => rfl
  | ⟨1, _⟩ => rfl
  | ⟨2, _⟩ => show 0 + 1 * k.val = k.val; omega
  | ⟨3, _⟩ => show 0 + 1 * j.val = j.val; omega

/-- What a point leaves in the output's buffer. -/
theorem out_eq : out0_5 h p a b w = tile h a b w := by
  funext y
  unfold out0_5
  refine View.canon_apply_of_pieces (tile h a b w) _ ?_ y (cover0_5 _ y)
  intro q hq
  simp only [List.mem_cons, List.not_mem_nil, or_false] at hq
  subst hq
  intro x
  dsimp only
  obtain ⟨r, j, rfl⟩ : ∃ (r : Fin 704) (j : Fin 2048), x = ix2 r j := ⟨x 0, x 1, eq_ix2 x⟩
  have he : r0_3.emb (ix2 r j) = ix2 r j := by
    funext d
    match d with
    | ⟨0, _⟩ => exact Fin.ext (show 0 + 1 * r.val = r.val by omega)
    | ⟨1, _⟩ => exact Fin.ext (show 0 + 1 * j.val = j.val by omega)
  rw [he, View.ld_unit_zero (S := S704x1024) hz2, View.ld_unit_zero (S := S704x1024) hz2, View.ld_unit_zero (S := S704x2048) hz2]
  refine (pay_apply h a b _ _ r j).trans ?_
  refine congrArg (· + h (ix2 r j)) (congrArg₂ (· + ·) (Finset.sum_congr rfl fun k _ => congrArg (a (ix2 r k) * ·) (ld_first w k j))
    (Finset.sum_congr rfl fun k _ => congrArg (b (ix2 r k) * ·) (ld_second w k j)))

end Body

variable (m : (ℓ : Loc nD τ sig) → Buf (Elt Ideal) ℓ) (c : Dev nD) (t : Fin cfg0.N)

/-- The residual stream as launched. -/
abbrev argH : Vec Ideal S33792x2048 .f32 := m ((c : Thread nD τ).loc main_arg0)
/-- The first mixer's rows. -/
abbrev argA : Vec Ideal S16x2112x1024 .bf16 := m ((c : Thread nD τ).loc main_arg2)
/-- The second mixer's rows. -/
abbrev argB : Vec Ideal S16x2112x1024 .bf16 := m ((c : Thread nD τ).loc main_arg3)
/-- The layers' output projections. -/
abbrev argW : Vec Ideal S2x2048x2048 .f32 := m ((c : Thread nD τ).loc main_arg4)

/-- The weights, as the call takes them. -/
abbrev calW : Vec Ideal S2x2x1024x2048 .bf16 := V m c main_v3
/-- The first mixer's rows, as the call takes them. -/
abbrev calA : Vec Ideal S33792x1024 .bf16 := V m c main_v4
/-- The second mixer's rows, as the call takes them. -/
abbrev calB : Vec Ideal S33792x1024 .bf16 := V m c main_v5

/-- The weights, as the call takes them, entry by entry. -/
theorem V_w (l p : Fin 2) (k : Fin 1024) (j : Fin 2048) : calW m c (ix4 l p k j)
    = argW m c (ix3 l ⟨p.val * 1024 + k.val, by omega⟩ j) := by
  dsimp only [calW, V, hostOps0]; after_results; pointwise
/-- The first mixer's rows, as the call takes them, entry by entry. -/
theorem V_a (R : Fin 33792) (k : Fin 1024) : calA m c (ix2 R k)
    = argA m c (ix3 ⟨R.val / 2112, by omega⟩ ⟨R.val % 2112, by omega⟩ k) := by
  dsimp only [calA, V, hostOps0]; after_results; pointwise
/-- The second mixer's rows, as the call takes them, entry by entry. -/
theorem V_b (R : Fin 33792) (k : Fin 1024) : calB m c (ix2 R k)
    = argB m c (ix3 ⟨R.val / 2112, by omega⟩ ⟨R.val % 2112, by omega⟩ k) := by
  dsimp only [calB, V, hostOps0]; after_results; pointwise

/-- The tile of the residual stream. -/
theorem idx0 : ∀ t : Fin cfg0.N, win0_0.index t (0 : Fin 2) = t.val ∧ win0_0.index t (1 : Fin 2) = 0 := (by decide +kernel : ∀ t : Fin grid0.N, _)
/-- The tile of the first mixer's rows. -/
theorem idx2 : ∀ t : Fin cfg0.N, win0_2.index t (0 : Fin 2) = t.val ∧ win0_2.index t (1 : Fin 2) = 0 := (by decide +kernel : ∀ t : Fin grid0.N, _)
/-- The tile of the second mixer's rows. -/
theorem idx3 : ∀ t : Fin cfg0.N, win0_3.index t (0 : Fin 2) = t.val ∧ win0_3.index t (1 : Fin 2) = 0 := (by decide +kernel : ∀ t : Fin grid0.N, _)
/-- The layer's weights. -/
theorem idx4 : ∀ t : Fin cfg0.N, win0_4.index t (0 : Fin 4) = 1 ∧ win0_4.index t (1 : Fin 4) = 0 ∧ win0_4.index t (2 : Fin 4) = 0
    ∧ win0_4.index t (3 : Fin 4) = 0 := (by decide +kernel : ∀ t : Fin grid0.N, _)
/-- The tile of the result. -/
theorem idx5 : ∀ t : Fin cfg0.N, win0_5.index t (0 : Fin 2) = t.val ∧ win0_5.index t (1 : Fin 2) = 0 := (by decide +kernel : ∀ t : Fin grid0.N, _)
/-- Every point writes its tile back. -/
theorem flush5 : ∀ t : Fin cfg0.N, (cfg0.win 5).flush t = true := (by decide +kernel : ∀ t : Fin grid0.N, _)

/-- There are 48 points. -/
theorem lt48 : t.val < 48 := lt_of_lt_of_eq t.isLt N_0

/-- The tile of the residual stream, entry by entry. -/
theorem blk0 (r : Fin 704) (j : Fin 2048) : (iblk m c 0 t : Vec Ideal S704x2048 .f32) (ix2 r j)
    = argH m c (ix2 ⟨t.val * 704 + r.val, by have := lt48 t; omega⟩ j) := by
  unfold iblk
  rw [View.read_apply]
  show V m c main_arg0 _ = _
  rw [V_main_arg0]
  congr 1
  funext a
  apply Fin.ext
  obtain ⟨h0, h1⟩ := idx0 t
  match a with
  | ⟨0, _⟩ => show win0_0.index t (0 : Fin 2) * 704 + 1 * r.val = t.val * 704 + r.val; rw [h0]; omega
  | ⟨1, _⟩ => show win0_0.index t (1 : Fin 2) * 2048 + 1 * j.val = j.val; rw [h1]; omega

/-- The tile of the first mixer's rows, entry by entry. -/
theorem blk2 (r : Fin 704) (k : Fin 1024) : (iblk m c 2 t : Vec Ideal S704x1024 .bf16) (ix2 r k)
    = calA m c (ix2 ⟨t.val * 704 + r.val, by have := lt48 t; omega⟩ k) := by
  unfold iblk
  rw [View.read_apply]
  show V m c main_v4 _ = _
  congr 1
  funext a
  apply Fin.ext
  obtain ⟨h0, h1⟩ := idx2 t
  match a with
  | ⟨0, _⟩ => show win0_2.index t (0 : Fin 2) * 704 + 1 * r.val = t.val * 704 + r.val; rw [h0]; omega
  | ⟨1, _⟩ => show win0_2.index t (1 : Fin 2) * 1024 + 1 * k.val = k.val; rw [h1]; omega

/-- The tile of the second mixer's rows, entry by entry. -/
theorem blk3 (r : Fin 704) (k : Fin 1024) : (iblk m c 3 t : Vec Ideal S704x1024 .bf16) (ix2 r k)
    = calB m c (ix2 ⟨t.val * 704 + r.val, by have := lt48 t; omega⟩ k) := by
  unfold iblk
  rw [View.read_apply]
  show V m c main_v5 _ = _
  congr 1
  funext a
  apply Fin.ext
  obtain ⟨h0, h1⟩ := idx3 t
  match a with
  | ⟨0, _⟩ => show win0_3.index t (0 : Fin 2) * 704 + 1 * r.val = t.val * 704 + r.val; rw [h0]; omega
  | ⟨1, _⟩ => show win0_3.index t (1 : Fin 2) * 1024 + 1 * k.val = k.val; rw [h1]; omega

/-- The layer's weights, entry by entry. -/
theorem blk4 (p : Fin 2) (k : Fin 1024) (j : Fin 2048) : (iblk m c 4 t : Vec Ideal S1x2x1024x2048 .bf16) (ix4 0 p k j)
    = calW m c (ix4 1 p k j) := by
  unfold iblk
  rw [View.read_apply]
  show V m c main_v3 _ = _
  congr 1
  funext a
  apply Fin.ext
  obtain ⟨h0, h1, h2, h3⟩ := idx4 t
  match a with
  | ⟨0, _⟩ => show win0_4.index t (0 : Fin 4) * 1 + 1 * 0 = 1; rw [h0]
  | ⟨1, _⟩ => show win0_4.index t (1 : Fin 4) * 2 + 1 * p.val = p.val; rw [h1]; omega
  | ⟨2, _⟩ => show win0_4.index t (2 : Fin 4) * 1024 + 1 * k.val = k.val; rw [h2]; omega
  | ⟨3, _⟩ => show win0_4.index t (3 : Fin 4) * 2048 + 1 * j.val = j.val; rw [h3]; omega

/-- An entry of the result. -/
def resultAt (R : Fin 33792) (j : Fin 2048) : EReal :=
  (∑ k : Fin 1024, calA m c (ix2 R k) * calW m c (ix4 1 0 k j)) + (∑ k : Fin 1024, calB m c (ix2 R k) * calW m c (ix4 1 1 k j))
    + argH m c (ix2 R j)

/-- The whole result. -/
def result : Vec Ideal S33792x2048 .f32 := fun y => resultAt m c (y 0) (y 1)

/-- What a point writes back is its tile of the result. -/
theorem flushed_eq : (dats m 0 c).flushed 5 t = ((cfg0.win 5).blk t).view.read (Elt Ideal) (result m c) := by
  have ht := lt48 t
  rw [flushed5, out_eq]
  funext y
  obtain ⟨h0, h1⟩ := idx5 t
  obtain ⟨r, j, rfl⟩ : ∃ (r : Fin 704) (j : Fin 2048), y = ix2 r j := ⟨y 0, y 1, eq_ix2 y⟩
  rw [View.read_apply]
  have he : ((cfg0.win 5).blk t).view.emb (ix2 r j) = (ix2 ⟨t.val * 704 + r.val, by omega⟩ j : S33792x2048.Idx) := by
    funext a
    apply Fin.ext
    match a with
    | ⟨0, _⟩ => show win0_5.index t (0 : Fin 2) * 704 + 1 * r.val = t.val * 704 + r.val; rw [h0]; omega
    | ⟨1, _⟩ => show win0_5.index t (1 : Fin 2) * 2048 + 1 * j.val = j.val; rw [h1]; omega
  rw [he]
  show tile (iblk m c 0 t) (iblk m c 2 t) (iblk m c 3 t) (iblk m c 4 t) (ix2 r j) = resultAt m c ⟨t.val * 704 + r.val, by omega⟩ j
  unfold tile resultAt
  refine congrArg₂ (fun u v : EReal => u + v) (congrArg₂ (fun u v : EReal => u + v) (Finset.sum_congr rfl fun k _ => ?_) (Finset.sum_congr rfl fun k _ => ?_)) (blk0 m c t r j)
  · exact congrArg₂ (fun u v : EReal => u * v) (blk2 m c t r k) (blk4 m c t 0 k j)
  · exact congrArg₂ (fun u v : EReal => u * v) (blk3 m c t r k) (blk4 m c t 1 k j)

/-- The tiles cover the result. -/
theorem covered (i : S33792x2048.Idx) : ∃ t : Fin cfg0.N, (cfg0.win 5).flush t = true ∧ i ∈ ((cfg0.win 5).blk t).view.set := by
  have h0 : (i 0).val < 33792 := (i 0).isLt
  have h1 : (i 1).val < 2048 := (i 1).isLt
  have hN : (i 0).val / 704 < cfg0.N := by rw [show cfg0.N = 48 from N_0]; omega
  refine ⟨⟨(i 0).val / 704, hN⟩, flush5 _, ?_⟩
  show i ∈ ((View.whole main_v6).slice (win0_5.rect ⟨(i 0).val / 704, hN⟩)).set
  rw [View.set_slice_whole, Rect.mem_set_unit]
  obtain ⟨e0, e1⟩ := idx5 ⟨(i 0).val / 704, hN⟩
  intro a
  match a with
  | ⟨0, _⟩ =>
    show win0_5.index ⟨(i 0).val / 704, hN⟩ (0 : Fin 2) * 704 ≤ (i 0).val ∧ (i 0).val < win0_5.index ⟨(i 0).val / 704, hN⟩ (0 : Fin 2) * 704 + 704
    rw [e0]; show (i 0).val / 704 * 704 ≤ (i 0).val ∧ (i 0).val < (i 0).val / 704 * 704 + 704; omega
  | ⟨1, _⟩ =>
    show win0_5.index ⟨(i 0).val / 704, hN⟩ (1 : Fin 2) * 2048 ≤ (i 1).val ∧ (i 1).val < win0_5.index ⟨(i 0).val / 704, hN⟩ (1 : Fin 2) * 2048 + 2048
    rw [e1]; omega

/-- The array after the run. -/
theorem final : (dats m 0 c).arrAt 5 cfg0.N = result m c :=
  (dats m 0 c).arrAt_eq_of_cover 5 _ (fun t _ => flushed_eq m c t) covered

/-- The result is the reference's. -/
theorem result_eq : result m c = Cert.Reference4Ideal.Read.val_main_v8 (F := Ideal) (argH m c) (argA m c) (argB m c) (argW m c) := by
  funext y
  obtain ⟨R, j, rfl⟩ : ∃ (R : Fin 33792) (j : Fin 2048), y = ix2 R j := ⟨y 0, y 1, eq_ix2 y⟩
  show resultAt m c R j = _
  unfold resultAt
  refine (congrArg₂ (fun u v : EReal => u + v) (congrArg₂ (fun u v : EReal => u + v)
    (Finset.sum_congr rfl fun k _ => congrArg₂ (fun u v : EReal => u * v) (V_a m c R k) (V_w m c 1 0 k j))
    (Finset.sum_congr rfl fun k _ => congrArg₂ (fun u v : EReal => u * v) (V_b m c R k) (V_w m c 1 1 k j))) rfl).trans ?_
  pointwise [Cert.Reference4Ideal.Read.val_main_v8, Cert.Reference4Ideal.Read.val_main_v7, Cert.Reference4Ideal.Read.val_main_v6,
    Cert.Reference4Ideal.Read.val_main_v5, Cert.Reference4Ideal.Read.val_main_v4, Cert.Reference4Ideal.Read.val_main_v3,
    Cert.Reference4Ideal.Read.val_main_v2, Cert.Reference4Ideal.Read.val_main_v1, Cert.Reference4Ideal.Read.val_main_v0]
  exact add_comm _ _

/-- The reference runs and leaves its arguments and every counter as they were. -/
theorem refFrame : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The kernel and the reference end with the same array. -/
theorem value : Cert.algebraic_Kernel4Ideal_Reference4Ideal := by
  intro m ρ m' ρ' hpre hagree
  refine ⟨fun c => result m c, (θ_run _ _ _).mono (fun _ h c => ⟨(h c).1.trans (final m c), (h c).2⟩) (Cert.Kernel4Ideal.Value.run_blocks (F := Ideal) m ρ), ?_⟩
  refine (θ_run _ _ _).mono (fun _ h c => ⟨(h c).1.trans ?_, (h c).2⟩) (Cert.Reference4Ideal.Value.run (F := Ideal) m' ρ')
  obtain ⟨a0, a1, a2, a3, a4⟩ := hagree c
  refine (Cert.Reference4Ideal.Read.val_main_v8_eq (F := Ideal) _ _ _ _).trans ?_
  refine Eq.trans ?_ (result_eq m c).symm
  rw [a0, a2, a3, a4]

end Cert.Out1
-- ==== Proof.Out.First.lean ====
module

public import proofs.«01_k».proof.Defs
public import proofs.«01_k».proof.Proof.Gen.Kernel5Ideal.Value
public import proofs.«01_k».proof.Proof.Gen.Kernel5Ideal.Frame
public import proofs.«01_k».proof.Proof.Gen.Reference5Ideal.Read
public import proofs.«01_k».proof.Proof.Gen.Reference5Ideal.Run
public import Idealize.ShloMosaic.Lib.Pointwise
public import Idealize.ShloMosaic.Lib.Quiescent

/-
The output projection of the first layer: the mixers' rows times the two halves of the weights, added to the rows the
first layer starts from, is the concatenated rows times the whole weights, added to them. Those rows are 48 of zeros, the
meta tokens and the input; the kernel takes them from two arrays and never builds them.
-/

@[expose] public section

noncomputable section

namespace Cert.Out0

open Idealize.ShloMosaic Idealize.ShloMosaic.TcCoe Idealize.SL.Sem
open Cert.Kernel5Ideal Cert.Kernel5Ideal.Gen Cert.Kernel5Ideal.Value

section Body

variable (x : Vec Ideal S704x2048 .f32) (p : Vec Ideal S64x2048 .f32) (a b : Vec Ideal S704x1024 .bf16) (w : Vec Ideal S1x2x1024x2048 .bf16)

/-- The products' part of an entry of a tile. -/
def mixed (r : Fin 704) (j : Fin 2048) : EReal :=
  (∑ k : Fin 1024, a (ix2 r k) * w (ix4 0 0 k j)) + (∑ k : Fin 1024, b (ix2 r k) * w (ix4 0 1 k j))

/-- A tile in the middle of a sequence. -/
def tile : Vec Ideal S704x2048 .f32 := fun y => mixed a b w (y 0) (y 1) + x y

/-- The first tile of a sequence: its first 64 rows are added to the prefix, the others to the input's rows. -/
def tile0 : Vec Ideal S704x2048 .f32 := fun y => mixed a b w (y 0) (y 1) +
  (if h : (y 0).val < 64 then p (ix2 ⟨(y 0).val, h⟩ (y 1))
    else x (ix2 ⟨(y 0).val - 64, lt_of_le_of_lt (Nat.sub_le _ _) (show (y 0).val < 704 from (y 0).isLt)⟩ (y 1)))

/-- Two offsets of zero. -/
theorem hz2 : (![0, 0] : Fin 2 → Nat) = fun _ => 0 := funext fun a => by fin_cases a <;> rfl

/-- The products, entry by entry. -/
theorem pay1_apply (w0 w1 : Vec Ideal S1x1x1024x2048 .bf16) (r : Fin 704) (j : Fin 2048) :
    k0_pay1 a w0 b w1 (ix2 r j)
      = (∑ k : Fin 1024, a (ix2 r k) * w0 (ix4 0 0 k j)) + (∑ k : Fin 1024, b (ix2 r k) * w1 (ix4 0 0 k j)) := by
  pointwise [k0_pay1]

/-- The first 64 rows of a first tile. -/
theorem pay2_apply (w0 w1 : Vec Ideal S1x1x1024x2048 .bf16) (q : Vec Ideal S64x2048 .f32) (r : Fin 64) (j : Fin 2048) :
    k0_pay2 a w0 b w1 q (ix2 r j) = k0_pay1 a w0 b w1 (ix2 ⟨r.val, by omega⟩ j) + q (ix2 r j) := by
  pointwise [k0_pay2]

/-- The other rows of a first tile. -/
theorem pay3_apply (w0 w1 : Vec Ideal S1x1x1024x2048 .bf16) (q : Vec Ideal S640x2048 .f32) (r : Fin 640) (j : Fin 2048) :
    k0_pay3 a w0 b w1 q (ix2 r j) = k0_pay1 a w0 b w1 (ix2 ⟨64 + r.val, by omega⟩ j) + q (ix2 r j) := by
  pointwise [k0_pay3]

/-- A tile in the middle of a sequence, as stored. -/
theorem pay4_apply (w0 w1 : Vec Ideal S1x1x1024x2048 .bf16) (q : Vec Ideal S704x2048 .f32) (r : Fin 704) (j : Fin 2048) :
    k0_pay4 a w0 b w1 q (ix2 r j) = k0_pay1 a w0 b w1 (ix2 r j) + q (ix2 r j) := by
  pointwise [k0_pay4]

/-- A half of the weights. -/
theorem ld_half (o : Nat) (ho : o < 2)
    (inb : ∀ d, (![0, o, 0, 0] : Fin 4 → ℕ) d + S1x1x1024x2048.size d ≤ S1x2x1024x2048.size d) (k : Fin 1024) (j : Fin 2048) :
    View.ld w (Rect.unit (s := S1x2x1024x2048) ![0, o, 0, 0] S1x1x1024x2048.size inb) (ix4 0 0 k j) = w (ix4 0 ⟨o, ho⟩ k j) := by
  refine congrArg w (funext fun d => Fin.ext ?_)
  match d with
  | ⟨0, _⟩ => rfl
  | ⟨1, _⟩ => show o + 1 * 0 = o; omega
  | ⟨2, _⟩ => show 0 + 1 * k.val = k.val; omega
  | ⟨3, _⟩ => show 0 + 1 * j.val = j.val; omega

/-- The products of a tile, from the halves of the weights the body loads. -/
theorem pay1_mixed (inb0 : ∀ d, (![0, 0, 0, 0] : Fin 4 → ℕ) d + S1x1x1024x2048.size d ≤ S1x2x1024x2048.size d)
    (inb1 : ∀ d, (![0, 1, 0, 0] : Fin 4 → ℕ) d + S1x1x1024x2048.size d ≤ S1x2x1024x2048.size d) (r : Fin 704) (j : Fin 2048) :
    k0_pay1 a (View.ld w (Rect.unit (s := S1x2x1024x2048) ![0, 0, 0, 0] S1x1x1024x2048.size inb0)) b
      (View.ld w (Rect.unit (s := S1x2x1024x2048) ![0, 1, 0, 0] S1x1x1024x2048.size inb1)) (ix2 r j) = mixed a b w r j :=
  (pay1_apply a b _ _ r j).trans (congrArg₂ (fun u v : EReal => u + v)
    (Finset.sum_congr rfl fun k _ => congrArg (a (ix2 r k) * ·) (ld_half w 0 (by omega) inb0 k j))
    (Finset.sum_congr rfl fun k _ => congrArg (b (ix2 r k) * ·) (ld_half w 1 (by omega) inb1 k j)))

/-- A box of whole rows sits at its offset. -/
theorem rows_emb {n o : ℕ} (inb : ∀ d, (![o, 0] : Fin 2 → ℕ) d + (![n, 2048] : Fin 2 → ℕ) d ≤ S704x2048.size d) (r : Fin n) (j : Fin 2048) :
    (Rect.unit (s := S704x2048) ![o, 0] ![n, 2048] inb).emb (ix2 r j)
      = ix2 ⟨o + r.val, lt_of_lt_of_le (Nat.add_lt_add_left r.isLt o) (inb 0)⟩ j := by
  funext d
  match d with
  | ⟨0, _⟩ => exact Fin.ext (show o + 1 * r.val = o + r.val by omega)
  | ⟨1, _⟩ => exact Fin.ext (show 0 + 1 * j.val = j.val by omega)

variable (c : Dev nD) (i : grid0.Coords) (arg2 : Memref sig .tc .vmem S704x2048 .f32) (harg2 : arg2.IsWhole)
  (arg3 : Memref sig .tc .vmem S64x2048 .f32) (harg3 : arg3.IsWhole) (arg4 : Memref sig .tc .vmem S704x1024 .bf16) (harg4 : arg4.IsWhole)
  (arg5 : Memref sig .tc .vmem S704x1024 .bf16) (harg5 : arg5.IsWhole) (arg6 : Memref sig .tc .vmem S1x2x1024x2048 .bf16) (harg6 : arg6.IsWhole)
  (arg7 : Memref sig .tc .vmem S704x2048 .f32) (harg7 : arg7.IsWhole)

/-- What a sequence's first point leaves in the output's buffer. -/
theorem out_A (hc0 : cond0_0 i) (hc1 : ¬cond0_1 i) :
    out0_A_5 c i arg2 harg2 arg3 harg3 arg4 harg4 arg5 harg5 arg6 harg6 arg7 harg7 hc0 hc1 x p a b w = tile0 x p a b w := by
  unfold out0_A_5
  have hcov := cover0_A_5 c i arg2 harg2 arg3 harg3 arg4 harg4 arg5 harg5 arg6 harg6 arg7 harg7 hc0 hc1 x p a b w
  rw [View.read_writes_eq_canon _ _ _ hcov]
  funext y
  refine View.canon_apply_of_pieces (tile0 x p a b w) _ ?_ y (hcov y)
  clear hcov
  unfold kernelRun0_A
  dsimp only
  sl_unfold_words
  simp only [View.readAt_eq_ld, harg2.read_unread, harg3.read_unread, harg4.read_unread, harg5.read_unread, harg6.read_unread,
    View.ld_unit_zero (S := S704x1024) hz2, View.ld_unit_zero (S := S64x2048) hz2]
  intro q hq
  simp only [List.mem_cons, List.not_mem_nil, or_false] at hq
  rcases hq with rfl | rfl <;> intro z <;> dsimp only
  · obtain ⟨r, j, rfl⟩ : ∃ (r : Fin 640) (j : Fin 2048), z = ix2 r j := ⟨z 0, z 1, eq_ix2 z⟩
    refine (pay3_apply a b _ _ _ r j).trans (Eq.trans ?_ (congrArg (tile0 x p a b w) (rows_emb inb_S704x2048_S640x2048_64_0 r j)).symm)
    refine congrArg₂ (fun u v : EReal => u + v) (pay1_mixed a b w _ _ _ j) ?_
    refine Eq.trans ?_ (dif_neg (show ¬ (64 + r.val < 64) by omega)).symm
    refine congrArg x ((rows_emb inb_S704x2048_S640x2048_0_0 r j).trans ?_)
    exact congrArg (fun u : Fin 704 => (ix2 u j : S704x2048.Idx)) (Fin.ext (show 0 + r.val = 64 + r.val - 64 by omega))
  · obtain ⟨r, j, rfl⟩ : ∃ (r : Fin 64) (j : Fin 2048), z = ix2 r j := ⟨z 0, z 1, eq_ix2 z⟩
    refine (pay2_apply a b _ _ _ r j).trans (Eq.trans ?_ (congrArg (tile0 x p a b w) (rows_emb inb_S704x2048_S64x2048_0_0 r j)).symm)
    have hr : (⟨0 + r.val, by omega⟩ : Fin 704) = ⟨r.val, by omega⟩ := Fin.ext (Nat.zero_add _)
    refine congrArg₂ (fun u v : EReal => u + v) ((pay1_mixed a b w _ _ _ j).trans (congrArg (fun u => mixed a b w u j) hr.symm)) ?_
    refine Eq.trans ?_ (dif_pos (show 0 + r.val < 64 by omega)).symm
    exact congrArg p (congrArg (fun u : Fin 64 => (ix2 u j : S64x2048.Idx)) (Fin.ext (Nat.zero_add _).symm))

/-- What another point leaves in the output's buffer. -/
theorem out_B (hc0 : ¬cond0_0 i) (hc1 : cond0_1 i) :
    out0_B_5 c i arg2 harg2 arg3 harg3 arg4 harg4 arg5 harg5 arg6 harg6 arg7 harg7 hc0 hc1 x p a b w = tile x a b w := by
  unfold out0_B_5
  have hcov := cover0_B_5 c i arg2 harg2 arg3 harg3 arg4 harg4 arg5 harg5 arg6 harg6 arg7 harg7 hc0 hc1 x p a b w
  rw [View.read_writes_eq_canon _ _ _ hcov]
  funext y
  refine View.canon_apply_of_pieces (tile x a b w) _ ?_ y (hcov y)
  clear hcov
  unfold kernelRun0_B
  dsimp only
  sl_unfold_words
  simp only [View.readAt_eq_ld, harg2.read_unread, harg4.read_unread, harg5.read_unread, harg6.read_unread,
    View.ld_unit_zero (S := S704x1024) hz2, View.ld_unit_zero (S := S704x2048) hz2]
  intro q hq
  simp only [List.mem_cons, List.not_mem_nil, or_false] at hq
  subst hq
  intro z
  dsimp only
  obtain ⟨r, j, rfl⟩ : ∃ (r : Fin 704) (j : Fin 2048), z = ix2 r j := ⟨z 0, z 1, eq_ix2 z⟩
  have hr : (ix2 (⟨0 + r.val, by omega⟩ : Fin 704) j : S704x2048.Idx) = ix2 r j := congrArg (fun u : Fin 704 => (ix2 u j : S704x2048.Idx)) (Fin.ext (Nat.zero_add _))
  refine (pay4_apply a b _ _ _ r j).trans (Eq.trans ?_ (congrArg (tile x a b w) ((rows_emb inb_S704x2048_S704x2048_0_0 r j).trans hr)).symm)
  exact congrArg (fun u : EReal => u + x (ix2 r j)) (pay1_mixed a b w _ _ r j)

end Body

variable (m : (ℓ : Loc nD τ sig) → Buf (Elt Ideal) ℓ) (c : Dev nD) (t : Fin cfg0.N)

/-- The input as launched. -/
abbrev argX : Vec Ideal S16x2048x2048 .f32 := m ((c : Thread nD τ).loc main_arg0)
/-- The meta tokens. -/
abbrev argM : Vec Ideal S16x2048 .f32 := m ((c : Thread nD τ).loc main_arg1)
/-- The first mixer's rows. -/
abbrev argA : Vec Ideal S16x2112x1024 .bf16 := m ((c : Thread nD τ).loc main_arg2)
/-- The second mixer's rows. -/
abbrev argB : Vec Ideal S16x2112x1024 .bf16 := m ((c : Thread nD τ).loc main_arg3)
/-- The layers' output projections. -/
abbrev argW : Vec Ideal S2x2048x2048 .f32 := m ((c : Thread nD τ).loc main_arg4)

/-- The weights, as the call takes them. -/
abbrev calW : Vec Ideal S2x2x1024x2048 .bf16 := V m c main_v4
/-- The first mixer's rows, as the call takes them. -/
abbrev calA : Vec Ideal S33792x1024 .bf16 := V m c main_v5
/-- The second mixer's rows, as the call takes them. -/
abbrev calB : Vec Ideal S33792x1024 .bf16 := V m c main_v6
/-- The input's rows, as the call takes them. -/
abbrev calX : Vec Ideal S32768x2048 .f32 := V m c main_v2
/-- The 64 rows in front of every sequence, as the call takes them. -/
abbrev calP : Vec Ideal S64x2048 .f32 := V m c main_v1

/-- The input's rows, as the call takes them, entry by entry. -/
theorem V_x (R : Fin 32768) (j : Fin 2048) : calX m c (ix2 R j) = argX m c (ix3 ⟨R.val / 2048, by omega⟩ ⟨R.val % 2048, by omega⟩ j) := by
  dsimp only [calX, V, hostOps0]; after_results; pointwise
/-- The rows in front: 48 of zeros and the meta tokens. -/
theorem V_p (r : Fin 64) (j : Fin 2048) : calP m c (ix2 r j) = if h : r.val < 48 then 0 else argM m c (ix2 ⟨r.val - 48, by omega⟩ j) := by
  dsimp only [calP, V, hostOps0]; after_results; pointwise

/-- The weights, as the call takes them, entry by entry. -/
theorem V_w (l p : Fin 2) (k : Fin 1024) (j : Fin 2048) : calW m c (ix4 l p k j)
    = argW m c (ix3 l ⟨p.val * 1024 + k.val, by omega⟩ j) := by
  dsimp only [calW, V, hostOps0]; after_results; pointwise
/-- The first mixer's rows, as the call takes them, entry by entry. -/
theorem V_a (R : Fin 33792) (k : Fin 1024) : calA m c (ix2 R k)
    = argA m c (ix3 ⟨R.val / 2112, by omega⟩ ⟨R.val % 2112, by omega⟩ k) := by
  dsimp only [calA, V, hostOps0]; after_results; pointwise
/-- The second mixer's rows, as the call takes them, entry by entry. -/
theorem V_b (R : Fin 33792) (k : Fin 1024) : calB m c (ix2 R k)
    = argB m c (ix3 ⟨R.val / 2112, by omega⟩ ⟨R.val % 2112, by omega⟩ k) := by
  dsimp only [calB, V, hostOps0]; after_results; pointwise

/-- The tile of the input's rows: the one before a sequence's own is not read, so the second tile starts 64 rows early. -/
theorem idx0 : ∀ t : Fin cfg0.N, cc0_transform_0 (grid0.coords t) (0 : Fin 2) = t.val / 3 * 2048 + (t.val % 3 * 704 - 64)
    ∧ cc0_transform_0 (grid0.coords t) (1 : Fin 2) = 0 := (by decide +kernel : ∀ t : Fin grid0.N, _)
/-- The rows in front. -/
theorem idx1 : ∀ t : Fin cfg0.N, win0_1.index t (0 : Fin 2) = 0 ∧ win0_1.index t (1 : Fin 2) = 0 := (by decide +kernel : ∀ t : Fin grid0.N, _)
/-- The tile of the first mixer's rows. -/
theorem idx2 : ∀ t : Fin cfg0.N, win0_2.index t (0 : Fin 2) = t.val ∧ win0_2.index t (1 : Fin 2) = 0 := (by decide +kernel : ∀ t : Fin grid0.N, _)
/-- The tile of the second mixer's rows. -/
theorem idx3 : ∀ t : Fin cfg0.N, win0_3.index t (0 : Fin 2) = t.val ∧ win0_3.index t (1 : Fin 2) = 0 := (by decide +kernel : ∀ t : Fin grid0.N, _)
/-- The layer's weights. -/
theorem idx4 : ∀ t : Fin cfg0.N, win0_4.index t (0 : Fin 4) = 0 ∧ win0_4.index t (1 : Fin 4) = 0 ∧ win0_4.index t (2 : Fin 4) = 0
    ∧ win0_4.index t (3 : Fin 4) = 0 := (by decide +kernel : ∀ t : Fin grid0.N, _)
/-- The tile of the result. -/
theorem idx5 : ∀ t : Fin cfg0.N, win0_5.index t (0 : Fin 2) = t.val ∧ win0_5.index t (1 : Fin 2) = 0 := (by decide +kernel : ∀ t : Fin grid0.N, _)
/-- Every point writes its tile back. -/
theorem flush5 : ∀ t : Fin cfg0.N, (cfg0.win 5).flush t = true := (by decide +kernel : ∀ t : Fin grid0.N, _)

/-- There are 48 points. -/
theorem lt48 : t.val < 48 := lt_of_lt_of_eq t.isLt N_0

/-- The tile of the input's rows, entry by entry. -/
theorem blk0 (r : Fin 704) (j : Fin 2048) : (iblk m c 0 t : Vec Ideal S704x2048 .f32) (ix2 r j)
    = calX m c (ix2 ⟨t.val / 3 * 2048 + (t.val % 3 * 704 - 64) + r.val, by have := lt48 t; omega⟩ j) := by
  unfold iblk
  rw [View.read_apply]
  show V m c main_v2 _ = _
  congr 1
  funext a
  apply Fin.ext
  obtain ⟨h0, h1⟩ := idx0 t
  match a with
  | ⟨0, _⟩ => show cc0_transform_0 (grid0.coords t) (0 : Fin 2) + 1 * r.val = _; rw [h0]; show _ = _ + r.val; omega
  | ⟨1, _⟩ => show cc0_transform_0 (grid0.coords t) (1 : Fin 2) + 1 * j.val = j.val; rw [h1]; omega

/-- The rows in front, entry by entry. -/
theorem blk1 (r : Fin 64) (j : Fin 2048) : (iblk m c 1 t : Vec Ideal S64x2048 .f32) (ix2 r j) = calP m c (ix2 r j) := by
  unfold iblk
  rw [View.read_apply]
  show V m c main_v1 _ = _
  congr 1
  funext a
  apply Fin.ext
  obtain ⟨h0, h1⟩ := idx1 t
  match a with
  | ⟨0, _⟩ => show win0_1.index t (0 : Fin 2) * 64 + 1 * r.val = r.val; rw [h0]; omega
  | ⟨1, _⟩ => show win0_1.index t (1 : Fin 2) * 2048 + 1 * j.val = j.val; rw [h1]; omega

/-- The tile of the first mixer's rows, entry by entry. -/
theorem blk2 (r : Fin 704) (k : Fin 1024) : (iblk m c 2 t : Vec Ideal S704x1024 .bf16) (ix2 r k)
    = calA m c (ix2 ⟨t.val * 704 + r.val, by have := lt48 t; omega⟩ k) := by
  unfold iblk
  rw [View.read_apply]
  show V m c main_v5 _ = _
  congr 1
  funext a
  apply Fin.ext
  obtain ⟨h0, h1⟩ := idx2 t
  match a with
  | ⟨0, _⟩ => show win0_2.index t (0 : Fin 2) * 704 + 1 * r.val = t.val * 704 + r.val; rw [h0]; omega
  | ⟨1, _⟩ => show win0_2.index t (1 : Fin 2) * 1024 + 1 * k.val = k.val; rw [h1]; omega

/-- The tile of the second mixer's rows, entry by entry. -/
theorem blk3 (r : Fin 704) (k : Fin 1024) : (iblk m c 3 t : Vec Ideal S704x1024 .bf16) (ix2 r k)
    = calB m c (ix2 ⟨t.val * 704 + r.val, by have := lt48 t; omega⟩ k) := by
  unfold iblk
  rw [View.read_apply]
  show V m c main_v6 _ = _
  congr 1
  funext a
  apply Fin.ext
  obtain ⟨h0, h1⟩ := idx3 t
  match a with
  | ⟨0, _⟩ => show win0_3.index t (0 : Fin 2) * 704 + 1 * r.val = t.val * 704 + r.val; rw [h0]; omega
  | ⟨1, _⟩ => show win0_3.index t (1 : Fin 2) * 1024 + 1 * k.val = k.val; rw [h1]; omega

/-- The layer's weights, entry by entry. -/
theorem blk4 (p : Fin 2) (k : Fin 1024) (j : Fin 2048) : (iblk m c 4 t : Vec Ideal S1x2x1024x2048 .bf16) (ix4 0 p k j)
    = calW m c (ix4 0 p k j) := by
  unfold iblk
  rw [View.read_apply]
  show V m c main_v4 _ = _
  congr 1
  funext a
  apply Fin.ext
  obtain ⟨h0, h1, h2, h3⟩ := idx4 t
  match a with
  | ⟨0, _⟩ => show win0_4.index t (0 : Fin 4) * 1 + 1 * 0 = 0; rw [h0]
  | ⟨1, _⟩ => show win0_4.index t (1 : Fin 4) * 2 + 1 * p.val = p.val; rw [h1]; omega
  | ⟨2, _⟩ => show win0_4.index t (2 : Fin 4) * 1024 + 1 * k.val = k.val; rw [h2]; omega
  | ⟨3, _⟩ => show win0_4.index t (3 : Fin 4) * 2048 + 1 * j.val = j.val; rw [h3]; omega

/-- A row the layer starts from: one of the 64 in front, or the input's. -/
def start (R : Fin 33792) (j : Fin 2048) : EReal :=
  if h : R.val % 2112 < 64 then calP m c (ix2 ⟨R.val % 2112, h⟩ j)
  else calX m c (ix2 ⟨R.val / 2112 * 2048 + (R.val % 2112 - 64), by omega⟩ j)

/-- An entry of the result. -/
def resultAt (R : Fin 33792) (j : Fin 2048) : EReal :=
  (∑ k : Fin 1024, calA m c (ix2 R k) * calW m c (ix4 0 0 k j)) + (∑ k : Fin 1024, calB m c (ix2 R k) * calW m c (ix4 0 1 k j))
    + start m c R j

/-- The whole result. -/
def result : Vec Ideal S33792x2048 .f32 := fun y => resultAt m c (y 0) (y 1)

/-- The products of a point, as the result has them. -/
theorem mixed_eq (r : Fin 704) (j : Fin 2048) : mixed (iblk m c 2 t) (iblk m c 3 t) (iblk m c 4 t) r j
    = (∑ k : Fin 1024, calA m c (ix2 ⟨t.val * 704 + r.val, by have := lt48 t; omega⟩ k) * calW m c (ix4 0 0 k j))
      + (∑ k : Fin 1024, calB m c (ix2 ⟨t.val * 704 + r.val, by have := lt48 t; omega⟩ k) * calW m c (ix4 0 1 k j)) := by
  unfold mixed
  refine congrArg₂ (fun u v : EReal => u + v) (Finset.sum_congr rfl fun k _ => ?_) (Finset.sum_congr rfl fun k _ => ?_)
  · exact congrArg₂ (fun u v : EReal => u * v) (blk2 m c t r k) (blk4 m c t 0 k j)
  · exact congrArg₂ (fun u v : EReal => u * v) (blk3 m c t r k) (blk4 m c t 1 k j)

/-- What a sequence's first point computes is its tile of the result. -/
theorem tile0_eq (h0 : t.val % 3 = 0) (r : Fin 704) (j : Fin 2048) :
    tile0 (iblk m c 0 t) (iblk m c 1 t) (iblk m c 2 t) (iblk m c 3 t) (iblk m c 4 t) (ix2 r j)
      = resultAt m c ⟨t.val * 704 + r.val, by have := lt48 t; omega⟩ j := by
  have ht := lt48 t
  unfold tile0 resultAt start
  refine congrArg₂ (fun u v : EReal => u + v) (mixed_eq m c t r j) ?_
  by_cases hr : r.val < 64
  · refine (dif_pos (show r.val < 64 from hr)).trans (Eq.trans ?_ (dif_pos (show (t.val * 704 + r.val) % 2112 < 64 by omega)).symm)
    refine (blk1 m c t ⟨r.val, hr⟩ j).trans (congrArg (calP m c) ?_)
    exact congrArg (fun u : Fin 64 => (ix2 u j : S64x2048.Idx)) (Fin.ext (show r.val = (t.val * 704 + r.val) % 2112 by omega))
  · refine (dif_neg (show ¬ r.val < 64 from hr)).trans (Eq.trans ?_ (dif_neg (show ¬ (t.val * 704 + r.val) % 2112 < 64 by omega)).symm)
    refine (blk0 m c t ⟨r.val - 64, by omega⟩ j).trans (congrArg (calX m c) ?_)
    exact congrArg (fun u : Fin 32768 => (ix2 u j : S32768x2048.Idx)) (Fin.ext
      (show t.val / 3 * 2048 + (t.val % 3 * 704 - 64) + (r.val - 64) = (t.val * 704 + r.val) / 2112 * 2048 + ((t.val * 704 + r.val) % 2112 - 64) by omega))

/-- What another point computes is its tile of the result. -/
theorem tile_eq (h0 : ¬ t.val % 3 = 0) (r : Fin 704) (j : Fin 2048) :
    tile (iblk m c 0 t) (iblk m c 2 t) (iblk m c 3 t) (iblk m c 4 t) (ix2 r j)
      = resultAt m c ⟨t.val * 704 + r.val, by have := lt48 t; omega⟩ j := by
  have ht := lt48 t
  unfold tile resultAt start
  refine congrArg₂ (fun u v : EReal => u + v) (mixed_eq m c t r j) ?_
  refine Eq.trans ?_ (dif_neg (show ¬ (t.val * 704 + r.val) % 2112 < 64 by omega)).symm
  refine (blk0 m c t r j).trans (congrArg (calX m c) ?_)
  exact congrArg (fun u : Fin 32768 => (ix2 u j : S32768x2048.Idx)) (Fin.ext
    (show t.val / 3 * 2048 + (t.val % 3 * 704 - 64) + r.val = (t.val * 704 + r.val) / 2112 * 2048 + ((t.val * 704 + r.val) % 2112 - 64) by omega))

/-- What a point writes back is its tile of the result. -/
theorem flushed_eq : (dats m 0 c).flushed 5 t = ((cfg0.win 5).blk t).view.read (Elt Ideal) (result m c) := by
  have ht := lt48 t
  obtain ⟨e0, e1⟩ := idx5 t
  have he : ∀ (r : Fin 704) (j : Fin 2048), ((cfg0.win 5).blk t).view.emb (ix2 r j) = (ix2 ⟨t.val * 704 + r.val, by omega⟩ j : S33792x2048.Idx) := by
    intro r j
    funext a
    apply Fin.ext
    match a with
    | ⟨0, _⟩ => show win0_5.index t (0 : Fin 2) * 704 + 1 * r.val = t.val * 704 + r.val; rw [e0]; omega
    | ⟨1, _⟩ => show win0_5.index t (1 : Fin 2) * 2048 + 1 * j.val = j.val; rw [e1]; omega
  by_cases h0 : t.val % 3 = 0
  · rw [flushed5_A (m := m) c t h0 (by omega), out_A]
    funext y
    obtain ⟨r, j, rfl⟩ : ∃ (r : Fin 704) (j : Fin 2048), y = ix2 r j := ⟨y 0, y 1, eq_ix2 y⟩
    rw [View.read_apply, he]
    exact tile0_eq m c t h0 r j
  · rw [flushed5_B (m := m) c t h0 (by omega), out_B]
    funext y
    obtain ⟨r, j, rfl⟩ : ∃ (r : Fin 704) (j : Fin 2048), y = ix2 r j := ⟨y 0, y 1, eq_ix2 y⟩
    rw [View.read_apply, he]
    exact tile_eq m c t h0 r j

/-- The tiles cover the result. -/
theorem covered (i : S33792x2048.Idx) : ∃ t : Fin cfg0.N, (cfg0.win 5).flush t = true ∧ i ∈ ((cfg0.win 5).blk t).view.set := by
  have h0 : (i 0).val < 33792 := (i 0).isLt
  have h1 : (i 1).val < 2048 := (i 1).isLt
  have hN : (i 0).val / 704 < cfg0.N := by rw [show cfg0.N = 48 from N_0]; omega
  refine ⟨⟨(i 0).val / 704, hN⟩, flush5 _, ?_⟩
  show i ∈ ((View.whole main_v7).slice (win0_5.rect ⟨(i 0).val / 704, hN⟩)).set
  rw [View.set_slice_whole, Rect.mem_set_unit]
  obtain ⟨e0, e1⟩ := idx5 ⟨(i 0).val / 704, hN⟩
  intro a
  match a with
  | ⟨0, _⟩ =>
    show win0_5.index ⟨(i 0).val / 704, hN⟩ (0 : Fin 2) * 704 ≤ (i 0).val ∧ (i 0).val < win0_5.index ⟨(i 0).val / 704, hN⟩ (0 : Fin 2) * 704 + 704
    rw [e0]; show (i 0).val / 704 * 704 ≤ (i 0).val ∧ (i 0).val < (i 0).val / 704 * 704 + 704; omega
  | ⟨1, _⟩ =>
    show win0_5.index ⟨(i 0).val / 704, hN⟩ (1 : Fin 2) * 2048 ≤ (i 1).val ∧ (i 1).val < win0_5.index ⟨(i 0).val / 704, hN⟩ (1 : Fin 2) * 2048 + 2048
    rw [e1]; omega

/-- The array after the run. -/
theorem final : (dats m 0 c).arrAt 5 cfg0.N = result m c :=
  (dats m 0 c).arrAt_eq_of_cover 5 _ (fun t _ => flushed_eq m c t) covered

/-- The integer zero, converted, is zero. -/
theorem zero_conv : (FloatOps.sitofp (F := Ideal) FTy.f32 0#32) = (0 : EReal) := by
  show ((((0#32 : BitVec 32).toInt : ℤ) : ℝ) : EReal) = 0
  simp

/-- The rows the layer starts from, from the arrays launched. -/
theorem start_eq (R : Fin 33792) (j : Fin 2048) : start m c R j
    = if h : R.val % 2112 < 48 then (0 : EReal)
      else if h' : R.val % 2112 < 64 then argM m c (ix2 ⟨R.val % 2112 - 48, by omega⟩ j)
      else argX m c (ix3 ⟨R.val / 2112, by omega⟩ ⟨R.val % 2112 - 64, by omega⟩ j) := by
  unfold start
  split_ifs with h1 h2 h2
  · exact (V_p m c ⟨R.val % 2112, h1⟩ j).trans (dif_pos h2)
  · exact (V_p m c ⟨R.val % 2112, h1⟩ j).trans (dif_neg h2)
  · omega
  · refine (V_x m c _ j).trans (congrArg (argX m c) ?_)
    exact congrArg₂ (fun (u : Fin 16) (v : Fin 2048) => (ix3 u v j : S16x2048x2048.Idx))
      (Fin.ext (show (R.val / 2112 * 2048 + (R.val % 2112 - 64)) / 2048 = R.val / 2112 by omega))
      (Fin.ext (show (R.val / 2112 * 2048 + (R.val % 2112 - 64)) % 2048 = R.val % 2112 - 64 by omega))

/-- The result is the reference's. -/
theorem result_eq : result m c = Cert.Reference5Ideal.Read.val_main_v11 (F := Ideal) (argX m c) (argM m c) (argA m c) (argB m c) (argW m c) := by
  funext y
  obtain ⟨R, j, rfl⟩ : ∃ (R : Fin 33792) (j : Fin 2048), y = ix2 R j := ⟨y 0, y 1, eq_ix2 y⟩
  show resultAt m c R j = _
  unfold resultAt
  refine (congrArg₂ (fun u v : EReal => u + v) (congrArg₂ (fun u v : EReal => u + v)
    (Finset.sum_congr rfl fun k _ => congrArg₂ (fun u v : EReal => u * v) (V_a m c R k) (V_w m c 0 0 k j))
    (Finset.sum_congr rfl fun k _ => congrArg₂ (fun u v : EReal => u * v) (V_b m c R k) (V_w m c 0 1 k j))) (start_eq m c R j)).trans ?_
  pointwise [Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_c, Cert.Reference5Ideal.Read.val_main_call0_v0]
  refine (add_comm _ _).trans (congrArg₂ (fun u v : EReal => u + v) ?_ rfl)
  split_ifs
  all_goals first
    | omega
    | rfl
    | exact zero_conv.symm
    | exact congrArg (argX m c) (congrArg (fun v : Fin 2048 => (ix3 _ v j : S16x2048x2048.Idx)) (Fin.ext (show R.val % 2112 - 64 = R.val % 2112 - 48 - 16 by omega)))

/-- The reference runs and leaves its arguments and every counter as they were. -/
theorem refFrame : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The kernel and the reference end with the same array. -/
theorem value : Cert.algebraic_Kernel5Ideal_Reference5Ideal := by
  intro m ρ m' ρ' hpre hagree
  refine ⟨fun c => result m c, (θ_run _ _ _).mono (fun _ h c => ⟨(h c).1.trans (final m c), (h c).2⟩) (Cert.Kernel5Ideal.Value.run_blocks (F := Ideal) m ρ), ?_⟩
  refine (θ_run _ _ _).mono (fun _ h c => ⟨(h c).1.trans ?_, (h c).2⟩) (Cert.Reference5Ideal.Value.run (F := Ideal) m' ρ')
  obtain ⟨a0, a1, a2, a3, a4⟩ := hagree c
  refine (Cert.Reference5Ideal.Read.val_main_v11_eq (F := Ideal) _ _ _ _ _).trans ?_
  refine Eq.trans ?_ (result_eq m c).symm
  rw [a0, a1, a2, a3, a4]

end Cert.Out0
-- ==== Proof.Glu.Blocks.lean ====
module

public import proofs.«01_k».proof.Proof.Gen.Kernel6Ideal.Frame.Runs
public import Idealize.ShloMosaic.Lib.Pointwise

/-
The blocks a point of the gated unit's grid stages, entry by entry, in terms of the arrays as launched.
-/

@[expose] public section

noncomputable section

namespace Cert.Glu

open Idealize.ShloMosaic Idealize.ShloMosaic.TcCoe Idealize.SL.Sem
open Cert.Kernel6Ideal Cert.Kernel6Ideal.Gen

variable (m : (ℓ : Loc nD τ sig) → Buf (Elt Ideal) ℓ) (c : Dev nD) (t : Fin cfg0.N)

/-- What the recurrence returned, as launched. -/
abbrev argY : Vec Ideal S2112x16384 .f32 := m ((c : Thread nD τ).loc main_arg0)
/-- The recurrence's input. -/
abbrev argU : Vec Ideal S16x2112x1024 .f32 := m ((c : Thread nD τ).loc main_arg1)
/-- The layers' skips. -/
abbrev argD : Vec Ideal S2x1024 .f32 := m ((c : Thread nD τ).loc main_arg2)
/-- The layers' projections. -/
abbrev argW : Vec Ideal S2x1024x1024 .f32 := m ((c : Thread nD τ).loc main_arg3)
/-- The layers' biases. -/
abbrev argB : Vec Ideal S2x1024 .f32 := m ((c : Thread nD τ).loc main_arg4)
/-- The layers' gains. -/
abbrev argG : Vec Ideal S2x1024 .f32 := m ((c : Thread nD τ).loc main_arg5)

/-- The skip, as the call takes it. -/
abbrev calD : Vec Ideal S1x1024 .f32 := V m c main_v7
/-- The projections, as the call takes them. -/
abbrev calW : Vec Ideal S2x1024x1024 .bf16 := V m c main_v2
/-- The bias, as the call takes it. -/
abbrev calB : Vec Ideal S1x1024 .f32 := V m c main_v8
/-- The gain, as the call takes it. -/
abbrev calG : Vec Ideal S1x1024 .f32 := V m c main_v9

/-- The skip, as the call takes it, entry by entry. -/
theorem V_d (k : Fin 1024) : calD m c (ix2 0 k) = argD m c (ix2 0 k) := by
  dsimp only [calD, V, hostOps0]; after_results; pointwise
/-- The projections, as the call takes them, entry by entry. -/
theorem V_w (l : Fin 2) (d k : Fin 1024) : calW m c (ix3 l d k) = argW m c (ix3 l d k) := by
  dsimp only [calW, V, hostOps0]; after_results; pointwise
/-- The bias, as the call takes it, entry by entry. -/
theorem V_b (k : Fin 1024) : calB m c (ix2 0 k) = argB m c (ix2 0 k) := by
  dsimp only [calB, V, hostOps0]; after_results; pointwise
/-- The gain, as the call takes it, entry by entry. -/
theorem V_g (k : Fin 1024) : calG m c (ix2 0 k) = argG m c (ix2 0 k) := by
  dsimp only [calG, V, hostOps0]; after_results; pointwise

/-- The rows of what the recurrence returned. -/
theorem idx0 : ∀ t : Fin cfg0.N, win0_0.index t (0 : Fin 2) = t.val ∧ win0_0.index t (1 : Fin 2) = 0 := (by decide +kernel : ∀ t : Fin grid0.N, _)
/-- The rows of the input. -/
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
/-- The skip. -/
theorem idx2 : ∀ t : Fin cfg0.N, win0_2.index t (0 : Fin 2) = 0 ∧ win0_2.index t (1 : Fin 2) = 0 := (by decide +kernel : ∀ t : Fin grid0.N, _)
/-- The layer's projection. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
/-- The bias. -/
theorem idx4 : ∀ t : Fin cfg0.N, win0_4.index t (0 : Fin 2) = 0 ∧ win0_4.index t (1 : Fin 2) = 0 := (by decide +kernel : ∀ t : Fin grid0.N, _)
/-- The gain. -/
theorem idx5 : ∀ t : Fin cfg0.N, win0_5.index t (0 : Fin 2) = 0 ∧ win0_5.index t (1 : Fin 2) = 0 := (by decide +kernel : ∀ t : Fin grid0.N, _)
/-- The rows of the result. -/
theorem idx6 : ∀ t : Fin cfg0.N, win0_6.index t (0 : Fin 3) = 0 ∧ win0_6.index t (1 : Fin 3) = t.val ∧ win0_6.index t (2 : Fin 3) = 0 :=
  (by decide +kernel : ∀ t : Fin grid0.N, _)
/-- Every point writes its rows back. -/
theorem flush6 : ∀ t : Fin cfg0.N, (cfg0.win 6).flush t = true := (by decide +kernel : ∀ t : Fin grid0.N, _)

/-- There are 44 points. -/
theorem lt44 : t.val < 44 := lt_of_lt_of_eq t.isLt N_0

/-- The rows of what the recurrence returned, entry by entry. -/
theorem blk0 (r : Fin 48) (j : Fin 16384) : (iblk m c 0 t : Vec Ideal S48x16384 .f32) (ix2 r j)
    = argY m c (ix2 ⟨t.val * 48 + r.val, by have := lt44 t; omega⟩ j) := by
  unfold iblk
  rw [View.read_apply]
  show V m c main_arg0 _ = _
  rw [V_main_arg0]
  congr 1
  funext a
  apply Fin.ext
  obtain ⟨h0, h1⟩ := idx0 t
  match a with
  | ⟨0, _⟩ => show win0_0.index t (0 : Fin 2) * 48 + 1 * r.val = t.val * 48 + r.val; rw [h0]; omega
  | ⟨1, _⟩ => show win0_0.index t (1 : Fin 2) * 16384 + 1 * j.val = j.val; rw [h1]; omega

/-- The rows of the input, entry by entry. -/
theorem blk1 (b : Fin 16) (r : Fin 48) (k : Fin 1024) : (iblk m c 1 t : Vec Ideal S16x48x1024 .f32) (ix3 b r k)
    = argU m c (ix3 b ⟨t.val * 48 + r.val, by have := lt44 t; omega⟩ k) := by
  unfold iblk
  rw [View.read_apply]
  show V m c main_arg1 _ = _
  rw [V_main_arg1]
  congr 1
  funext a
  apply Fin.ext
  obtain ⟨h0, h1, h2⟩ := idx1 t
  match a with
  | ⟨0, _⟩ => show win0_1.index t (0 : Fin 3) * 16 + 1 * b.val = b.val; rw [h0]; omega
  | ⟨1, _⟩ => show win0_1.index t (1 : Fin 3) * 48 + 1 * r.val = t.val * 48 + r.val; rw [h1]; omega
  | ⟨2, _⟩ => show win0_1.index t (2 : Fin 3) * 1024 + 1 * k.val = k.val; rw [h2]; omega

/-- The skip, entry by entry. -/
theorem blk2 (k : Fin 1024) : (iblk m c 2 t : Vec Ideal S1x1024 .f32) (ix2 0 k) = argD m c (ix2 0 k) := by
  refine Eq.trans ?_ (V_d m c k)
  unfold iblk
  rw [View.read_apply]
  show V m c main_v7 _ = _
  congr 1
  funext a
  apply Fin.ext
  obtain ⟨h0, h1⟩ := idx2 t
  match a with
  | ⟨0, _⟩ => show win0_2.index t (0 : Fin 2) * 1 + 1 * 0 = 0; rw [h0]
  | ⟨1, _⟩ => show win0_2.index t (1 : Fin 2) * 1024 + 1 * k.val = k.val; rw [h1]; omega

/-- The layer's projection, entry by entry. -/
theorem blk3 (d k : Fin 1024) : (iblk m c 3 t : Vec Ideal S1x1024x1024 .bf16) (ix3 0 d k) = argW m c (ix3 0 d k) := by
  refine Eq.trans ?_ (V_w m c 0 d k)
  unfold iblk
  rw [View.read_apply]
  show V m c main_v2 _ = _
  congr 1
  funext a
  apply Fin.ext
  obtain ⟨h0, h1, h2⟩ := idx3 t
  match a with
  | ⟨0, _⟩ => show win0_3.index t (0 : Fin 3) * 1 + 1 * 0 = 0; rw [h0]
  | ⟨1, _⟩ => show win0_3.index t (1 : Fin 3) * 1024 + 1 * d.val = d.val; rw [h1]; omega
  | ⟨2, _⟩ => show win0_3.index t (2 : Fin 3) * 1024 + 1 * k.val = k.val; rw [h2]; omega

/-- The bias, entry by entry. -/
theorem blk4 (k : Fin 1024) : (iblk m c 4 t : Vec Ideal S1x1024 .f32) (ix2 0 k) = argB m c (ix2 0 k) := by
  refine Eq.trans ?_ (V_b m c k)
  unfold iblk
  rw [View.read_apply]
  show V m c main_v8 _ = _
  congr 1
  funext a
  apply Fin.ext
  obtain ⟨h0, h1⟩ := idx4 t
  match a with
  | ⟨0, _⟩ => show win0_4.index t (0 : Fin 2) * 1 + 1 * 0 = 0; rw [h0]
  | ⟨1, _⟩ => show win0_4.index t (1 : Fin 2) * 1024 + 1 * k.val = k.val; rw [h1]; omega

/-- The gain, entry by entry. -/
theorem blk5 (k : Fin 1024) : (iblk m c 5 t : Vec Ideal S1x1024 .f32) (ix2 0 k) = argG m c (ix2 0 k) := by
  refine Eq.trans ?_ (V_g m c k)
  unfold iblk
  rw [View.read_apply]
  show V m c main_v9 _ = _
  congr 1
  funext a
  apply Fin.ext
  obtain ⟨h0, h1⟩ := idx5 t
  match a with
  | ⟨0, _⟩ => show win0_5.index t (0 : Fin 2) * 1 + 1 * 0 = 0; rw [h0]
  | ⟨1, _⟩ => show win0_5.index t (1 : Fin 2) * 1024 + 1 * k.val = k.val; rw [h1]; omega

end Cert.Glu

end
-- ==== Proof.Glu.Trans.lean ====
module

public import proofs.«01_k».proof.Proof.Gen.Kernel6Ideal
public import Idealize.ShloMosaic.Lib.Pointwise

/-
The exchange of the eight groups of sixteen lanes between eight arrays: three stages, each exchanging one bit of an array's number
with one bit of the group's.
-/

@[expose] public section

noncomputable section

namespace Cert.Glu

open Idealize.ShloMosaic Idealize.ShloMosaic.TcCoe Idealize.SL.Sem
open Cert.Kernel6Ideal Cert.Kernel6Ideal.Gen

variable {F : FTy → Type} [FloatOps F]

/-- The lanes whose group's bit, found by the shift `s`, is clear. -/
def mask (s : BitVec 32) : IVec S16x128 1 :=
  cmpi .eq (andi (shrsi (iota .tc S16x128 32 [1] iota_S16x128_d1_w32) (broadcast S16x128 s)) (broadcast S16x128 1#32)) (broadcast S16x128 0#32)

/-- The lanes rotated up by `n`. -/
def rot (n : BitVec 32) (x : Vec F S16x128 .f32) : Vec F S16x128 .f32 := dynamicRotate 1 n none x rotates_S16x128_d1

/-- One stage: array `i` and the array whose number differs by `d` exchange the groups whose numbers differ by `d`. -/
def stage (s : BitVec 32) (d : ℕ) (up down : BitVec 32) (xs : ℕ → Vec F S16x128 .f32) (i : ℕ) : Vec F S16x128 .f32 :=
  if i / d % 2 = 0 then select (mask s) (xs i) (rot up (xs (i + d))) else select (mask s) (rot down (xs (i - d))) (xs i)

/-- The three stages. -/
def trans (xs : ℕ → Vec F S16x128 .f32) : ℕ → Vec F S16x128 .f32 :=
  stage 6#32 4 64#32 64#32 (stage 5#32 2 32#32 96#32 (stage 4#32 1 16#32 112#32 xs))

/-- The lane of group `g` at `o`. -/
abbrev lane (g : Fin 8) (o : Fin 16) : Fin 128 := ⟨16 * g.val + o.val, by omega⟩

/-- `i` with the bit of weight `d` set as in `g`. -/
def put (d : ℕ) (i g : Fin 8) : Fin 8 :=
  if i.val / d % 2 = g.val / d % 2 then i else if i.val / d % 2 = 0 then Fin.ofNat 8 (i.val + d) else Fin.ofNat 8 (i.val - d)

/-- The mask at one lane. -/
def maskAt (s : BitVec 32) (l : ℕ) : BitVec 1 :=
  IntOp.cmpi .eq (IntOp.andi (IntOp.shrsi .vector (BitVec.ofNat 32 l) s) 1#32) 0#32

theorem mask_apply (s : BitVec 32) (r : Fin 16) (l : Fin 128) : mask s (ix2 r l) = maskAt s l.val := by
  pointwise [mask, maskAt]

theorem rot_apply (n : BitVec 32) (hn : n.toNat < 128) (x : Vec F S16x128 .f32) (r : Fin 16) (l : Fin 128) :
    rot n x (ix2 r l) = x (ix2 r ⟨(l.val + 128 - n.toNat) % 128, Nat.mod_lt _ (by omega)⟩) := by
  pointwise [rot]
  simp only [Nat.mod_eq_of_lt hn]

theorem select_one (m : IVec S16x128 1) (x y : Vec F S16x128 .f32) (i : S16x128.Idx) (h : m i = 1#1) : select m x y i = x i :=
  if_pos h

theorem select_zero (m : IVec S16x128 1) (x y : Vec F S16x128 .f32) (i : S16x128.Idx) (h : m i = 0#1) : select m x y i = y i :=
  if_neg (by rw [h]; decide)

/-- What a stage's words must be: the shift finds the bit of weight `d` of a lane's group, and the rotations are by `d` groups. -/
structure Words (s : BitVec 32) (d : ℕ) (up down : BitVec 32) : Prop where
  weight : d = 1 ∨ d = 2 ∨ d = 4
  bit : ∀ l : Fin 128, maskAt s l.val = if l.val / 16 / d % 2 = 0 then 1#1 else 0#1
  up_eq : up.toNat = 16 * d
  down_eq : down.toNat = 128 - 16 * d

theorem words4 : Words 4#32 1 16#32 112#32 := ⟨by decide, by decide +kernel, by decide, by decide⟩
theorem words5 : Words 5#32 2 32#32 96#32 := ⟨by decide, by decide +kernel, by decide, by decide⟩
theorem words6 : Words 6#32 4 64#32 64#32 := ⟨by decide, by decide +kernel, by decide, by decide⟩

/-- A stage exchanges one bit of the array's number with one bit of the group's. -/
theorem stage_apply {s : BitVec 32} {d : ℕ} {up down : BitVec 32} (h : Words s d up down) (xs : ℕ → Vec F S16x128 .f32)
    (i g : Fin 8) (r o : Fin 16) :
    stage s d up down xs i.val (ix2 r (lane g o)) = xs (put d i g).val (ix2 r (lane (put d g i) o)) := by
  have hg : (lane g o).val / 16 = g.val := by have := o.isLt; simp only [lane]; omega
  have hi := i.isLt
  have hgl := g.isLt
  have ho := o.isLt
  have hw := h.weight
  have hup := h.up_eq
  have hdn := h.down_eq
  have hm := h.bit (lane g o)
  rw [hg] at hm
  unfold stage put
  by_cases bi : i.val / d % 2 = 0 <;> by_cases bg : g.val / d % 2 = 0
  · rw [if_pos bi, if_pos (bi.trans bg.symm), if_pos (bg.trans bi.symm)]
    rw [if_pos bg] at hm
    exact select_one _ _ _ _ ((mask_apply s r _).trans hm)
  · have n1 : ¬i.val / d % 2 = g.val / d % 2 := fun e => bg (e.symm.trans bi)
    have n2 : ¬g.val / d % 2 = i.val / d % 2 := fun e => n1 e.symm
    rw [if_pos bi, if_neg n1, if_neg n2, if_pos bi, if_neg bg]
    rw [if_neg bg] at hm
    rw [select_zero _ _ _ _ ((mask_apply s r _).trans hm), rot_apply _ (by omega)]
    refine congrArg₂ (fun n l => xs n (ix2 r l)) ?_ (Fin.ext ?_)
    · simp only [Fin.ofNat]; rcases hw with rfl | rfl | rfl <;> omega
    · simp only [Fin.ofNat, hup]; rcases hw with rfl | rfl | rfl <;> omega
  · have n1 : ¬i.val / d % 2 = g.val / d % 2 := fun e => bi (e.trans bg)
    have n2 : ¬g.val / d % 2 = i.val / d % 2 := fun e => n1 e.symm
    rw [if_neg bi, if_neg n1, if_neg n2, if_neg bi, if_pos bg]
    rw [if_pos bg] at hm
    rw [select_one _ _ _ _ ((mask_apply s r _).trans hm), rot_apply _ (by omega)]
    refine congrArg₂ (fun n l => xs n (ix2 r l)) ?_ (Fin.ext ?_)
    · simp only [Fin.ofNat]; rcases hw with rfl | rfl | rfl <;> omega
    · simp only [Fin.ofNat, hdn]; rcases hw with rfl | rfl | rfl <;> omega
  · have e : i.val / d % 2 = g.val / d % 2 := by omega
    rw [if_neg bi, if_pos e, if_pos e.symm]
    rw [if_neg bg] at hm
    exact select_zero _ _ _ _ ((mask_apply s r _).trans hm)

/-- The three exchanges of bits exchange the two numbers. -/
theorem put_all : ∀ i g : Fin 8, put 1 (put 2 (put 4 i g) (put 4 g i)) (put 2 (put 4 g i) (put 4 i g)) = g
    ∧ put 1 (put 2 (put 4 g i) (put 4 i g)) (put 2 (put 4 i g) (put 4 g i)) = i := by decide +kernel

/-- After the three stages array `i` holds, in its group `g`, group `i` of array `g`. -/
theorem trans_apply (xs : ℕ → Vec F S16x128 .f32) (i g : Fin 8) (r o : Fin 16) :
    trans xs i.val (ix2 r (lane g o)) = xs g.val (ix2 r (lane i o)) := by
  unfold trans
  rw [stage_apply words6, stage_apply words5, stage_apply words4, (put_all i g).1, (put_all i g).2]

end Cert.Glu

end
-- ==== Proof.Glu.Scratch.lean ====
module

public import proofs.«01_k».proof.Proof.Glu.Trans
public import Idealize.ShloMosaic.Lib.Pipeline.FrameBody
public import Idealize.ShloMosaic.Lib.Pipeline.StridedRows

/-
The scratch: 384 strided stores, each a row of all sixteen sequences in one chunk of 128 channels, and the tiles read back out
of it, one sequence's 48 rows in one chunk at a time.
-/

@[expose] public section

noncomputable section

namespace Cert.Glu

open Idealize.ShloMosaic Idealize.ShloMosaic.TcCoe Idealize.SL.Sem
open Cert.Kernel6Ideal Cert.Kernel6Ideal.Gen

variable {F : FTy → Type} [FloatOps F] (x0 : Vec F S48x16384 .f32)

theorem h48 : 48 ≤ 56 := by decide

/-- Sixteen lanes' groups loaded for chunk `v` of the channels: the group `g`, from the rows of block `n` and the half `k` of its columns. -/
def load (n : Fin 3) (v : Fin 8) (k : Fin 2) (g : ℕ) : Vec F S16x128 .f32 :=
  View.ld x0 (Rect.unit (s := S48x16384) ![n.val * 16, (8 * v.val + g % 8) * 256 + k.val * 128] ![16, 128] fun d => by
    match d with
    | ⟨0, _⟩ => show n.val * 16 + 16 ≤ 48; omega
    | ⟨1, _⟩ => show (8 * v.val + g % 8) * 256 + k.val * 128 + 128 ≤ 16384; omega)

/-- One store. -/
def piece (n : Fin 3) (v : Fin 8) (q : Fin 16) : View.Piece (Elt F) S8x896x128 .f32 :=
  ⟨StridedRows.rowRect (C := 8) (N := 16) (DP := 56) (D := 48) (L := 128) h48 v ⟨n.val * 16 + q.val, by omega⟩,
    shapeCast S1x16x128 (trans (load x0 n v ⟨q.val / 8, by omega⟩) (q.val % 8)) shapeCasts_S16x128_S1x16x128⟩

/-- All the stores, last first. -/
def stores : List (View.Piece (Elt F) S8x896x128 .f32) :=
  ([2, 1, 0] : List (Fin 3)).flatMap fun n => ([7, 6, 5, 4, 3, 2, 1, 0] : List (Fin 8)).flatMap fun v =>
    ([15, 14, 13, 12, 11, 10, 9, 8, 7, 6, 5, 4, 3, 2, 1, 0] : List (Fin 16)).map fun q => piece x0 n v q

/-- What the scratch holds at chunk `c`, row `r`, sequence `b`, lane `l`. -/
def held (c : Fin 8) (r : Fin 48) (b : Fin 16) (l : Fin 128) : Elt F .f32 :=
  x0 (ix2 ⟨r.val / 16 * 16 + b.val, by omega⟩ ⟨(8 * c.val + l.val / 16) * 256 + r.val % 16 * 16 + l.val % 16, by omega⟩)

/-- A load, entry by entry. -/
theorem load_apply (n : Fin 3) (v : Fin 8) (k : Fin 2) (g : Fin 8) (b : Fin 16) (l : Fin 128) :
    load x0 n v k g.val (ix2 b l)
      = x0 (ix2 ⟨n.val * 16 + b.val, by omega⟩ ⟨(8 * v.val + g.val) * 256 + k.val * 128 + l.val, by omega⟩) := by
  refine congrArg x0 (funext fun d => Fin.ext ?_)
  match d with
  | ⟨0, _⟩ => show n.val * 16 + 1 * b.val = n.val * 16 + b.val; omega
  | ⟨1, _⟩ =>
    show (8 * v.val + g.val % 8) * 256 + k.val * 128 + 1 * l.val = (8 * v.val + g.val) * 256 + k.val * 128 + l.val
    omega

/-- What one store writes. -/
theorem piece_apply (n : Fin 3) (v : Fin 8) (q : Fin 16) (b : Fin 16) (l : Fin 128) :
    shapeCast S1x16x128 (trans (load x0 n v ⟨q.val / 8, by omega⟩) (q.val % 8)) shapeCasts_S16x128_S1x16x128 (ix3 0 b l)
      = held x0 v ⟨n.val * 16 + q.val, by omega⟩ b l := by
  have e : shapeCast S1x16x128 (trans (load x0 n v ⟨q.val / 8, by omega⟩) (q.val % 8)) shapeCasts_S16x128_S1x16x128 (ix3 0 b l)
      = trans (load x0 n v ⟨q.val / 8, by omega⟩) (q.val % 8) (ix2 b l) := by pointwise
  have hl : l = lane ⟨l.val / 16, by omega⟩ ⟨l.val % 16, by omega⟩ := Fin.ext (by simp only [lane]; omega)
  rw [e, hl]
  refine (trans_apply (load x0 n v ⟨q.val / 8, by omega⟩) ⟨q.val % 8, by omega⟩ _ b _).trans ?_
  rw [load_apply]
  unfold held
  refine congrArg₂ (fun i j => x0 (ix2 i j)) (Fin.ext ?_) (Fin.ext ?_) <;> simp only [lane] <;> omega

theorem stores_held (p : View.Piece (Elt F) S8x896x128 .f32) (hp : p ∈ stores x0) :
    ∃ (c : Fin 8) (r : Fin 48) (w : (StridedRows.Row 16 128).Idx → Elt F .f32),
      p = ⟨StridedRows.rowRect (C := 8) (N := 16) (DP := 56) (D := 48) (L := 128) h48 c r, w⟩ ∧ ∀ x, w x = held x0 c r (x 1) (x 2) := by
  unfold stores at hp
  obtain ⟨n, -, hp⟩ := List.mem_flatMap.mp hp
  obtain ⟨v, -, hp⟩ := List.mem_flatMap.mp hp
  obtain ⟨q, -, rfl⟩ := List.mem_map.mp hp
  refine ⟨v, ⟨n.val * 16 + q.val, by omega⟩, _, rfl, fun x => ?_⟩
  obtain ⟨b, l, rfl⟩ : ∃ (b : Fin 16) (l : Fin 128), x = ix3 0 b l := by
    refine ⟨x 1, x 2, ?_⟩
    refine (eq_ix3 x).trans ?_
    exact congrArg (fun a => ix3 a (x 1) (x 2)) (Fin.ext (by have := (x 0).isLt; change (x 0).val < 1 at this; change (x 0).val = 0; omega))
  exact piece_apply x0 n v q b l

theorem all3 : ∀ n : Fin 3, n ∈ ([2, 1, 0] : List (Fin 3)) := by decide
theorem all8 : ∀ v : Fin 8, v ∈ ([7, 6, 5, 4, 3, 2, 1, 0] : List (Fin 8)) := by decide
theorem all16 : ∀ q : Fin 16, q ∈ ([15, 14, 13, 12, 11, 10, 9, 8, 7, 6, 5, 4, 3, 2, 1, 0] : List (Fin 16)) := by decide

theorem stores_all (c : Fin 8) (r : Fin 48) :
    ∃ w, (⟨StridedRows.rowRect (C := 8) (N := 16) (DP := 56) (D := 48) (L := 128) h48 c r, w⟩ : View.Piece (Elt F) S8x896x128 .f32) ∈ stores x0 := by
  have hr : r = ⟨(⟨r.val / 16, by omega⟩ : Fin 3).val * 16 + (⟨r.val % 16, by omega⟩ : Fin 16).val, by simp only; omega⟩ := Fin.ext (by simp only; omega)
  rw [hr]
  exact ⟨_, List.mem_flatMap.mpr ⟨⟨r.val / 16, by omega⟩, all3 _, List.mem_flatMap.mpr ⟨c, all8 c, List.mem_map.mpr ⟨⟨r.val % 16, by omega⟩, all16 _, rfl⟩⟩⟩⟩

variable {sig : RefSig} {κ : Kind} {sp : Space} (view : View sig κ sp S8x896x128 .f32)

/-- One sequence's 48 rows in one chunk of the channels, read out of the scratch. -/
def read (b : Fin 16) (c : Fin 8) : Vec F S48x128 .f32 :=
  shapeCast S48x128 (view.readCov (stores x0) (StridedRows.tileRect (C := 8) (N := 16) (DP := 56) (D := 48) (L := 128) h48 c b).toLoadRect)
    shapeCasts_S1x48x128_S48x128

/-- One sequence's rows. -/
def seq (b : Fin 16) : Vec F S48x1024 .f32 :=
  concatenate S48x1024 1 (List.ofFn fun c : Fin 8 => (⟨S48x128, read x0 view b c⟩ : (s : Shape) × (s.Idx → Elt F .f32)))
    concatenates_S48x128_S48x128_S48x128_S48x128_S48x128_S48x128_S48x128_S48x128_S48x1024_d1

/-- All the sequences' rows. -/
def rows : Vec F S768x1024 .f32 :=
  concatenate S768x1024 0 (List.ofFn fun b : Fin 16 => (⟨S48x1024, seq x0 view b⟩ : (s : Shape) × (s.Idx → Elt F .f32)))
    concatenates_S48x1024_S48x1024_S48x1024_S48x1024_S48x1024_S48x1024_S48x1024_S48x1024_S48x1024_S48x1024_S48x1024_S48x1024_S48x1024_S48x1024_S48x1024_S48x1024_S768x1024_d0

theorem tile_cast (x : Vec F S1x48x128 .f32) (r : Fin 48) (l : Fin 128) :
    shapeCast S48x128 x shapeCasts_S1x48x128_S48x128 (ix2 r l) = x (ix3 0 r l) := by pointwise

theorem read_apply (b : Fin 16) (c : Fin 8) (r : Fin 48) (l : Fin 128) : read x0 view b c (ix2 r l) = held x0 c r b l := by
  unfold read
  have e := StridedRows.readCov_tile (C := 8) (N := 16) (DP := 56) (D := 48) (L := 128) view h48 (held x0) (stores x0) (stores_held x0) c (stores_all x0 c) b
  exact (tile_cast _ r l).trans (congrFun e (ix3 0 r l))

/-- A row of a sequence, channel by channel. -/
theorem rows_apply (b : Fin 16) (r : Fin 48) (k : Fin 1024) : rows x0 view (ix2 ⟨b.val * 48 + r.val, by omega⟩ k)
    = x0 (ix2 ⟨r.val / 16 * 16 + b.val, by omega⟩ ⟨k.val / 16 * 256 + r.val % 16 * 16 + k.val % 16, by omega⟩) := by
  refine (concatenate_ofFn_apply (s₁ := S48x1024) (t := S768x1024) 0 (seq x0 view) _ rfl 48 rfl (ix2 ⟨b.val * 48 + r.val, by omega⟩ k) b (show (b.val * 48 + r.val) / 48 = b.val by omega)
    (ix2 r k) (show r.val = (b.val * 48 + r.val) % 48 by omega) ?_).trans ?_
  · intro d hd
    match d with
    | ⟨0, _⟩ => exact absurd rfl hd
    | ⟨1, _⟩ => rfl
  refine (concatenate_ofFn_apply (s₁ := S48x128) (t := S48x1024) 1 (read x0 view b) _ rfl 128 rfl (ix2 r k) ⟨k.val / 128, by omega⟩ rfl
    (ix2 r ⟨k.val % 128, by omega⟩) rfl ?_).trans ?_
  · intro d hd
    match d with
    | ⟨0, _⟩ => rfl
    | ⟨1, _⟩ => exact absurd rfl hd
  rw [read_apply]
  unfold held
  refine congrArg₂ (fun i j => x0 (ix2 i j)) rfl (Fin.ext ?_)
  simp only
  omega

end Cert.Glu

end
-- ==== Proof.Glu.Math.lean ====
module

public import proofs.«01_k».proof.Proof.Ffn.Finite

/-
One row of the gated unit: gelu of what the recurrence returned, times the logistic of its projection, normalised. The kernel
writes gelu and the logistic function with tanh of other arguments; on real numbers they are the same.
-/

@[expose] public section

noncomputable section

namespace Cert.Glu

open Idealize.ShloMosaic Cert.Ffn

/-- A row of 1024 entries. -/
abbrev Row := Fin 1024 → EReal

/-- The reference's gelu. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The kernel's gelu; `e` is the product of the reference's two literals. -/
def geluK (e x : EReal) : EReal :=
  Ideal.ofBits .f32 0x3F000000#32 * x + Ideal.ofBits .f32 0x3F000000#32 * x
    * Ideal.tanh (x * (Ideal.ofBits .f32 0x3F4C422A#32 + e * (x * x)))

/-- The reference's logistic function. -/
def sig (z : EReal) : EReal := Ideal.div (Ideal.ofBits .f32 0x3F800000#32) (Ideal.ofBits .f32 0x3F800000#32 + Ideal.exp (-z))

/-- The kernel's logistic function. -/
def sigK (z : EReal) : EReal :=
  Ideal.ofBits .f32 0x3F000000#32 + Ideal.ofBits .f32 0x3F000000#32 * Ideal.tanh (Ideal.ofBits .f32 0x3F000000#32 * z)

/-- A row, gated by a function of its projection. -/
def gated (s : EReal → EReal) (w : Fin 1024 → Row) (b y : Row) : Row := fun j => y j * s ((∑ d, y d * w d j) + b j)

/-- A row, normalised. -/
def norm (z g : Row) : Row := fun j =>
  z j * Ideal.rsqrt (Ideal.div (∑ k, z k * z k) (Ideal.ofBits .f32 0x44800000#32) + Ideal.ofBits .f32 0x358637BD#32) * g j

/-- The float word of one. -/
theorem one_val : Ideal.ofBits .f32 0x3F800000#32 = ((1 : ℝ) : EReal) := by
  simp [Ideal.ofBits, Ideal.ieee, -EReal.coe_mul]; norm_num

/-- The float word of the root of 2/π. -/
theorem root_val : Ideal.ofBits .f32 0x3F4C422A#32 = ((6693141 / 8388608 : ℝ) : EReal) := by
  simp [Ideal.ofBits, Ideal.ieee, -EReal.coe_mul]; norm_num

/-- The float word of the cubic term's factor. -/
theorem cube_val : Ideal.ofBits .f32 0x3D372713#32 = ((12003091 / 268435456 : ℝ) : EReal) := by
  simp [Ideal.ofBits, Ideal.ieee, -EReal.coe_mul]; norm_num

/-- On a real argument the two forms of gelu agree. -/
theorem gelu_eq {e x : EReal} (he : e = ((6693141 / 8388608 * (12003091 / 268435456) : ℝ) : EReal)) (hx : IsReal x) : geluK e x = gelu x := by
  obtain ⟨r, rfl⟩ := hx
  unfold geluK gelu
  rw [he, root_val, cube_val, half_val, one_val]
  simp only [← EReal.coe_mul, ← EReal.coe_add, Ideal.tanh_coe]
  refine congrArg Real.toEReal ?_
  rw [show r * (6693141 / 8388608 + 6693141 / 8388608 * (12003091 / 268435456) * (r * r))
    = 6693141 / 8388608 * (r + 12003091 / 268435456 * (r * r * r)) by ring]
  ring

/-- The two forms of the logistic function agree. -/
theorem sig_eq (z : EReal) : sigK z = sig z := by
  unfold sigK sig
  rw [half_val, one_val]
  induction z with
  | bot =>
    rw [EReal.coe_mul_bot_of_pos (by norm_num), Ideal.tanh_bot]
    simp [Ideal.exp_top, Ideal.div]
    rw [show (1 : EReal) + ⊤ = ⊤ from EReal.coe_add_top 1, if_neg (by simp), EReal.inv_top, ← EReal.coe_neg, ← EReal.coe_add, add_neg_cancel]
    rfl
  | top =>
    rw [EReal.coe_mul_top_of_pos (by norm_num), Ideal.tanh_top]
    simp [Ideal.exp_bot, Ideal.div]
    rw [← EReal.coe_add]
    norm_num
  | coe r =>
    have hl : Ideal.div 1 (1 + Ideal.exp (-(r : EReal))) = (((1 + Real.exp (-r))⁻¹ : ℝ) : EReal) := Ideal.logistic_coe r
    rw [show ((1 : ℝ) : EReal) = 1 from rfl, hl]
    simp only [← EReal.coe_mul, Ideal.tanh_coe, ← EReal.coe_add]
    refine congrArg Real.toEReal ?_
    by_cases hr : r = 0
    · subst hr; norm_num
    have h := half_tanh (1 / 2 * r)
    rw [show 2 * (1 / 2 * r) = r by ring] at h
    have h2 : r * (1 / 2 + 1 / 2 * Real.tanh (1 / 2 * r)) = r * (1 + Real.exp (-r))⁻¹ := by rw [← h]; ring
    exact mul_left_cancel₀ hr h2

/-- The kernel's row is the reference's. -/
theorem row_eq {e : EReal} (he : e = ((6693141 / 8388608 * (12003091 / 268435456) : ℝ) : EReal)) (w : Fin 1024 → Row) (b g x : Row)
    (hx : ∀ k, IsReal (x k)) :
    norm (gated sigK w b fun k => geluK e (x k)) g = norm (gated sig w b fun k => gelu (x k)) g := by
  rw [show sigK = sig from funext sig_eq, show (fun k => geluK e (x k)) = fun k => gelu (x k) from funext fun k => gelu_eq he (hx k)]

end Cert.Glu
-- ==== Proof.Glu.Body.lean ====
module

public import proofs.«01_k».proof.Proof.Gen.Kernel6Ideal.Skeleton
public import proofs.«01_k».proof.Proof.Glu.Math
public import Idealize.ShloMosaic.Lib.Pointwise

/-
What the kernel's body computes from the rows it has read back out of the scratch.
-/

@[expose] public section

noncomputable section

namespace Cert.Glu

open Idealize.ShloMosaic Idealize.ShloMosaic.TcCoe Idealize.SL.Sem
open Cert.Kernel6Ideal Cert.Kernel6Ideal.Gen

/-- The kernel's named literal. -/
def cube : EReal := Named.named (F := Ideal) κ "gelu_cube" (φ := .f32) 0x3D122279#32

/-- It is the product of the reference's two literals. -/
theorem cube_eq : cube = ((6693141 / 8388608 * (12003091 / 268435456) : ℝ) : EReal) := by
  refine (IdealRules.named_const.ideal_named_scalar _ _ _ _ rfl : cube = ((80338380498831 / 2251799813685248 : ℝ) : EReal)).trans ?_
  norm_num

variable (y : Vec Ideal S768x1024 .f32) (d : Vec Ideal S1x1024 .f32) (u : Vec Ideal S16x48x1024 .f32) (w : Vec Ideal S1x1024x1024 .bf16)
  (b g : Vec Ideal S1x1024 .f32)

/-- The rows with the skip added, as the body numbers them. -/
def skipK (R : Fin 768) : Row := fun k => y (ix2 R k) + d (ix2 0 k) * u (ix3 ⟨R.val / 48, by omega⟩ ⟨R.val % 48, by omega⟩ k)

/-- The gated rows. -/
theorem gated_apply (R : Fin 768) (j : Fin 1024) :
    k0_pay1601 y d u w b (ix2 R j)
      = gated sigK (fun d k => w (ix3 0 d k)) (fun k => b (ix2 0 k)) (fun k => geluK cube (skipK y d u R k)) j := by
  pointwise [k0_pay1601, gated, sigK, geluK, skipK, cube]

/-- The stored rows. -/
theorem body_apply (i : Fin 16) (r : Fin 48) (j : Fin 1024) :
    k0_pay1 (k0_pay1601 y d u w b) (k0_pay1602 g) (k0_pay1603 y d u w b) (ix3 i r j)
      = norm (gated sigK (fun d k => w (ix3 0 d k)) (fun k => b (ix2 0 k)) (fun k => geluK cube (skipK y d u ⟨i.val * 48 + r.val, by omega⟩ k)))
          (fun k => g (ix2 0 k)) j := by
  have e : k0_pay1 (k0_pay1601 y d u w b) (k0_pay1602 g) (k0_pay1603 y d u w b) (ix3 i r j)
      = norm (fun k => k0_pay1601 y d u w b (ix2 ⟨i.val * 48 + r.val, by omega⟩ k)) (fun k => g (ix2 0 k)) j := by
    unfold k0_pay1603
    generalize k0_pay1601 y d u w b = z
    pointwise [k0_pay1, k0_pay1602, norm]
  rw [e]
  exact congrArg (fun z => norm z (fun k => g (ix2 0 k)) j) (funext fun k => gated_apply y d u w b _ k)

end Cert.Glu

end
-- ==== Proof.Glu.Ref.lean ====
module

public import proofs.«01_k».proof.Proof.Gen.Reference6Ideal.Read
public import proofs.«01_k».proof.Proof.Glu.Math

/-
The reference's result, read entry by entry.
-/

@[expose] public section

noncomputable section

namespace Cert.Glu

open Idealize.ShloMosaic Idealize.ShloMosaic.TcCoe Idealize.SL.Sem Cert.Ffn
open Cert.Reference6Ideal Cert.Reference6Ideal.Read

section
variable (x0 : Vec Ideal S2112x16384 .f32) (x1 : Vec Ideal S16x2112x1024 .f32) (x2 : Vec Ideal S2x1024 .f32)
  (x3 : Vec Ideal S2x1024x1024 .f32) (x4 x5 : Vec Ideal S2x1024 .f32)

/-- What the recurrence returned at time `t` of sequence `b`, with the skip. -/
def skipped (b : Fin 16) (t : Fin 2112) : Row := fun k =>
  x0 (ix2 (⟨t.val / 16 * 16 + b.val, by omega⟩ : Fin 2112) (⟨k.val / 16 * 256 + t.val % 16 * 16 + k.val % 16, by omega⟩ : Fin 16384))
    + x2 (ix2 (0 : Fin 2) k) * x1 (ix3 b t k)

/-- The reference's row before gelu. -/
theorem skipped_apply (b : Fin 16) (t : Fin 2112) (k : Fin 1024) : val_main_v8 (F := Ideal) x0 x1 x2 (ix3 b t k) = skipped x0 x1 x2 b t k := by
  unfold skipped
  pointwise [val_main_v8, val_main_v7, val_main_v6, val_main_v5, val_main_v4, val_main_v3, val_main_v2, val_main_v1, val_main_v0]

/-- The reference's gelu of the row. -/
theorem gelu_apply (b : Fin 16) (t : Fin 2112) (k : Fin 1024) :
    val_main_v21 (F := Ideal) x0 x1 x2 (ix3 b t k) = gelu (skipped x0 x1 x2 b t k) := by
  unfold gelu
  rw [← skipped_apply]
  pointwise [val_main_v21, val_main_v20, val_main_v19, val_main_v18, val_main_v17, val_main_v16, val_main_v15, val_main_v14, val_main_v13,
    val_main_v12, val_main_v11, val_main_v10, val_main_v9, val_main_cst, val_main_cst_0, val_main_cst_1, val_main_cst_2]

/-- The reference's gated row. -/
theorem ref_gated_apply (b : Fin 16) (t : Fin 2112) (j : Fin 1024) :
    val_main_v36 (F := Ideal) x0 x1 x2 x3 x4 (ix3 b t j)
      = gated sig (fun d k => x3 (ix3 (0 : Fin 2) d k)) (fun k => x4 (ix2 (0 : Fin 2) k)) (fun k => gelu (skipped x0 x1 x2 b t k)) j := by
  unfold gated sig
  simp only [← gelu_apply]
  pointwise [val_main_v36, val_main_v35, val_main_v34, val_main_v33, val_main_v32, val_main_v31, val_main_v30, val_main_v29, val_main_v28,
    val_main_v27, val_main_v26, val_main_v25, val_main_v24, val_main_v23, val_main_v22, val_main_cst_3, val_main_cst_4]

/-- An entry of the reference's result. -/
theorem ref_apply (b : Fin 16) (t : Fin 2112) (j : Fin 1024) :
    val_main_v52 (F := Ideal) x0 x1 x2 x3 x4 x5 (ix3 b t j)
      = norm (gated sig (fun d k => x3 (ix3 (0 : Fin 2) d k)) (fun k => x4 (ix2 (0 : Fin 2) k)) (fun k => gelu (skipped x0 x1 x2 b t k)))
          (fun k => x5 (ix2 (0 : Fin 2) k)) j := by
  unfold norm
  simp only [← ref_gated_apply]
  pointwise [val_main_v52, val_main_v51, val_main_v50, val_main_v49, val_main_v48, val_main_v47, val_main_v46, val_main_v45, val_main_v44,
    val_main_v43, val_main_v42, val_main_v41, val_main_v40, val_main_v39, val_main_v38, val_main_v37, val_main_cst_5, val_main_cst_6,
    val_main_cst_7]

end

end Cert.Glu
-- ==== Proof.Glu.Tile.lean ====
module

public import proofs.«01_k».proof.Proof.Glu.Blocks
public import proofs.«01_k».proof.Proof.Glu.Scratch
public import proofs.«01_k».proof.Proof.Glu.Body
public import proofs.«01_k».proof.Proof.Glu.Ref

/-
What the gated unit returns, and the part of it a grid point computes.
-/

@[expose] public section

noncomputable section

namespace Cert.Glu

open Idealize.ShloMosaic Idealize.ShloMosaic.TcCoe Idealize.SL.Sem
open Cert.Kernel6Ideal Cert.Kernel6Ideal.Gen

variable (m : (ℓ : Loc nD τ Cert.Kernel6Ideal.sig) → Buf (Elt Ideal) ℓ) (c : Dev nD) (t : Fin cfg0.N)

/-- A row of the result. -/
def resultRow (b : Fin 16) (T : Fin 2112) : Row :=
  norm (gated sigK (fun d k => argW m c (ix3 (0 : Fin 2) d k)) (fun k => argB m c (ix2 (0 : Fin 2) k))
    (fun k => geluK cube (skipped (argY m c) (argU m c) (argD m c) b T k))) (fun k => argG m c (ix2 (0 : Fin 2) k))

/-- The whole result. -/
def result : Vec Ideal S16x2112x1024 .bf16 := fun y => resultRow m c (y 0) (y 1) (y 2)

/-- The rows before gelu a point computes are the reference's. -/
theorem skip_eq {σ : RefSig} {κ : Kind} {sp : Space} (view : View σ κ sp S8x896x128 .f32) (b : Fin 16) (r : Fin 48) :
    skipK (rows (iblk m c 0 t) view) (iblk m c 2 t) (iblk m c 1 t) ⟨b.val * 48 + r.val, by omega⟩
      = skipped (argY m c) (argU m c) (argD m c) b ⟨t.val * 48 + r.val, by have := lt44 t; omega⟩ := by
  have ht := lt44 t
  funext k
  unfold skipK skipped
  refine congrArg₂ (fun u v : EReal => u + v) ?_ (congrArg₂ (fun u v : EReal => u * v) (blk2 m c t k) ?_)
  · refine (rows_apply _ view b r k).trans ((blk0 m c t _ _).trans ?_)
    refine congrArg₂ (fun i j => argY m c (ix2 i j)) (Fin.ext ?_) (Fin.ext ?_) <;> simp only <;> omega
  · have e : (ix3 (⟨(b.val * 48 + r.val) / 48, by omega⟩ : Fin 16) (⟨(b.val * 48 + r.val) % 48, by omega⟩ : Fin 48) k) = ix3 b r k :=
      congrArg₂ (fun i j => ix3 i j k) (Fin.ext (show (b.val * 48 + r.val) / 48 = b.val by omega))
        (Fin.ext (show (b.val * 48 + r.val) % 48 = r.val by omega))
    exact (congrArg (iblk m c 1 t : Vec Ideal S16x48x1024 .f32) e).trans (blk1 m c t b r k)

/-- What a point computes is its rows of the result. -/
theorem tile_eq {σ : RefSig} {κ : Kind} {sp : Space} (view : View σ κ sp S8x896x128 .f32) (b : Fin 16) (r : Fin 48) (j : Fin 1024) :
    k0_pay1 (k0_pay1601 (rows (iblk m c 0 t) view) (iblk m c 2 t) (iblk m c 1 t) (iblk m c 3 t) (iblk m c 4 t)) (k0_pay1602 (iblk m c 5 t))
        (k0_pay1603 (rows (iblk m c 0 t) view) (iblk m c 2 t) (iblk m c 1 t) (iblk m c 3 t) (iblk m c 4 t)) (ix3 b r j)
      = resultRow m c b ⟨t.val * 48 + r.val, by have := lt44 t; omega⟩ j := by
  refine (body_apply _ _ _ _ _ _ b r j).trans ?_
  unfold resultRow
  rw [skip_eq m c t view b r]
  rw [show (fun d k => (iblk m c 3 t : Vec Ideal S1x1024x1024 .bf16) (ix3 0 d k)) = fun d k => argW m c (ix3 (0 : Fin 2) d k) from
      funext fun d => funext fun k => blk3 m c t d k,
    show (fun k => (iblk m c 4 t : Vec Ideal S1x1024 .f32) (ix2 0 k)) = fun k => argB m c (ix2 (0 : Fin 2) k) from funext fun k => blk4 m c t k,
    show (fun k => (iblk m c 5 t : Vec Ideal S1x1024 .f32) (ix2 0 k)) = fun k => argG m c (ix2 (0 : Fin 2) k) from funext fun k => blk5 m c t k]

end Cert.Glu

end
-- ==== Proof.Glu.Held.lean ====
module

public import proofs.«01_k».proof.Proof.Gen.Kernel6Ideal.Frame
public import proofs.«01_k».proof.Proof.Glu.Scratch
public import proofs.«01_k».proof.Proof.Glu.Body

/-
The stores of one grid point are the 384 of the scratch.
-/

@[expose] public section

noncomputable section

namespace Cert.Glu

open Idealize.ShloMosaic Idealize.ShloMosaic.TcCoe Idealize.SL.Sem
open Cert.Kernel6Ideal Cert.Kernel6Ideal.Gen

section

variable {F : FTy → Type} [FloatOps F]

set_option maxRecDepth 1000000 in
set_option maxHeartbeats 0 in
/-- What the body has stored into the scratch when it starts to read it back. -/
theorem held_stores (c : Dev nD) (arg1 : Memref Cert.Kernel6Ideal.sig .tc .vmem S48x16384 .f32) (harg1 : arg1.IsWhole) (x0 : Vec F S48x16384 .f32) :
    kernelRun0_A.sl.HS0_384 c arg1 harg1 x0 = stores (arg1.view.read (Elt F) (harg1.unread x0)) := rfl

end

end Cert.Glu

end
-- ==== Proof.Glu.Run.lean ====
module

public import proofs.«01_k».proof.Proof.Gen.Kernel6Ideal.Frame
public import proofs.«01_k».proof.Proof.Glu.Scratch

/-
What a grid point leaves in its buffer, in terms of what the scratch holds.
-/

@[expose] public section

noncomputable section

namespace Cert.Glu

open Idealize.ShloMosaic Idealize.ShloMosaic.TcCoe Idealize.SL.Sem
open Cert.Kernel6Ideal Cert.Kernel6Ideal.Gen

variable {F : FTy → Type} [FloatOps F]

/-- All the sequences' rows, read out of a scratch after the stores `L`. -/
def rowsOf {σ : RefSig} {k : Kind} {sp : Space} (view : View σ k sp S8x896x128 .f32) (L : List (View.Piece (Elt F) S8x896x128 .f32)) :
    Vec F S768x1024 .f32 :=
  concatenate S768x1024 0 (List.ofFn fun b : Fin 16 => (⟨S48x1024,
    concatenate S48x1024 1 (List.ofFn fun c : Fin 8 => (⟨S48x128,
      shapeCast S48x128 (view.readCov L (StridedRows.tileRect (C := 8) (N := 16) (DP := 56) (D := 48) (L := 128) h48 c b).toLoadRect)
        shapeCasts_S1x48x128_S48x128⟩ : (s : Shape) × (s.Idx → Elt F .f32)))
      concatenates_S48x128_S48x128_S48x128_S48x128_S48x128_S48x128_S48x128_S48x128_S48x1024_d1⟩ : (s : Shape) × (s.Idx → Elt F .f32)))
    concatenates_S48x1024_S48x1024_S48x1024_S48x1024_S48x1024_S48x1024_S48x1024_S48x1024_S48x1024_S48x1024_S48x1024_S48x1024_S48x1024_S48x1024_S48x1024_S48x1024_S768x1024_d0

/-- They are the rows, if the stores are. -/
theorem rowsOf_stores {σ : RefSig} {k : Kind} {sp : Space} (view : View σ k sp S8x896x128 .f32) (x0 : Vec F S48x16384 .f32) :
    rowsOf view (stores x0) = rows x0 view := rfl

set_option maxRecDepth 1000000 in
set_option maxHeartbeats 0 in
/-- The body reads the scratch once all the stores are made. -/
theorem run_rows (c : Dev nD) (arg1 : Memref Cert.Kernel6Ideal.sig .tc .vmem S48x16384 .f32) (harg1 : arg1.IsWhole)
    (arg8 : Memref Cert.Kernel6Ideal.sig .tc .vmem S8x896x128 .f32) (x0 : Vec F S48x16384 .f32) :
    kernelRun0_A.sl.r_438 c arg1 harg1 arg8 x0 = rowsOf arg8.view (kernelRun0_A.sl.HS0_384 c arg1 harg1 x0) := rfl

theorem zero2 : (![0, 0] : Fin 2 → Nat) = fun _ => 0 := funext fun a => by fin_cases a <;> rfl
theorem zero3 : (![0, 0, 0] : Fin 3 → Nat) = fun _ => 0 := funext fun a => by fin_cases a <;> rfl

/-- What a point leaves in the output's buffer. -/
theorem out_of_scratch [Named F] (c : Dev nD) (i : grid0.Coords) (arg1 : Memref Cert.Kernel6Ideal.sig .tc .vmem S48x16384 .f32) (harg1 : arg1.IsWhole)
    (arg2 : Memref Cert.Kernel6Ideal.sig .tc .vmem S16x48x1024 .f32) (harg2 : arg2.IsWhole) (arg3 : Memref Cert.Kernel6Ideal.sig .tc .vmem S1x1024 .f32) (harg3 : arg3.IsWhole)
    (arg4 : Memref Cert.Kernel6Ideal.sig .tc .vmem S1x1024x1024 .bf16) (harg4 : arg4.IsWhole) (arg5 : Memref Cert.Kernel6Ideal.sig .tc .vmem S1x1024 .f32) (harg5 : arg5.IsWhole)
    (arg6 : Memref Cert.Kernel6Ideal.sig .tc .vmem S1x1024 .f32) (harg6 : arg6.IsWhole) (arg7 : Memref Cert.Kernel6Ideal.sig .tc .vmem S16x48x1024 .bf16) (harg7 : arg7.IsWhole)
    (arg8 : Memref Cert.Kernel6Ideal.sig .tc .vmem S8x896x128 .f32) (harg8 : arg8.IsWhole)
    (x0 : Vec F S48x16384 .f32) (x1 : Vec F S16x48x1024 .f32) (x2 : Vec F S1x1024 .f32) (x3 : Vec F S1x1024x1024 .bf16) (x4 : Vec F S1x1024 .f32) (x5 : Vec F S1x1024 .f32) :
    out0_A_6 c i arg1 harg1 arg2 harg2 arg3 harg3 arg4 harg4 arg5 harg5 arg6 harg6 arg7 harg7 arg8 harg8 x0 x1 x2 x3 x4 x5
      = k0_pay1 (k0_pay1601 (kernelRun0_A.sl.r_438 c arg1 harg1 arg8 x0) x2 x1 x3 x4) (k0_pay1602 x5) (k0_pay1603 (kernelRun0_A.sl.r_438 c arg1 harg1 arg8 x0) x2 x1 x3 x4) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  rw [View.canon_cons_unit_zero (S := S16x48x1024) zero3]
  unfold kernelRun0_A.sl.r_439 kernelRun0_A.sl.r_440 kernelRun0_A.sl.r_441
  simp only [View.readAt_eq_ld, harg2.read_unread, harg3.read_unread, harg4.read_unread, harg5.read_unread, harg6.read_unread,
    View.ld_unit_zero (S := S1x1024) zero2, View.ld_unit_zero (S := S16x48x1024) zero3, View.ld_unit_zero (S := S1x1024x1024) zero3]

end Cert.Glu

end
-- ==== Proof.Glu.Pre.lean ====
module

public import proofs.«01_k».proof.Defs
public import proofs.«01_k».proof.Proof.Glu.Ref

/-
What the precondition of the gated unit's claim says: what the recurrence returned, its input and the layer's skip are real.
-/

@[expose] public section

noncomputable section

namespace Cert.Glu

open Idealize.ShloMosaic Idealize.ShloMosaic.TcCoe Idealize.SL.Sem Cert.Ffn
open Cert.Pre_finite_skip

/-- The shape relations the precondition's operations take. -/
theorem skipFacts : Cert.Pre_finite_skip.Facts where
  bcast_S_S2112x16384 := by decide
  bcast_S_S16x2112x1024 := by decide
  slices_S2x1024_S1x1024_0_0 := by decide
  shapeCasts_S1x1024_S1024 := by decide
  bcast_S_S1024 := by decide

attribute [local instance] skipFacts

section
variable (x0 : Vec Ideal S2112x16384 .f32) (x1 : Vec Ideal S16x2112x1024 .f32) (x2 : Vec Ideal S2x1024 .f32)
  (x3 : Vec Ideal S2x1024x1024 .f32) (x4 x5 : Vec Ideal S2x1024 .f32)

/-- What the recurrence returned is real. -/
theorem out_real (h : (fn (F := Ideal) x0 x1 x2 x3 x4 x5).1 = fun _ => 1#1) (i : Fin 2112) (j : Fin 16384) : IsReal (x0 (ix2 i j)) := by
  refine isReal_of_mask ?_
  have e := congrFun h (ix2 i j)
  refine Eq.trans ?_ e
  unfold fn
  pointwise
  rfl

/-- The input is real. -/
theorem in_real (h : (fn (F := Ideal) x0 x1 x2 x3 x4 x5).2.1 = fun _ => 1#1) (b : Fin 16) (t : Fin 2112) (k : Fin 1024) :
    IsReal (x1 (ix3 b t k)) := by
  refine isReal_of_mask ?_
  have e := congrFun h (ix3 b t k)
  refine Eq.trans ?_ e
  unfold fn
  pointwise
  rfl

/-- The layer's skip is real. -/
theorem skip_real (h : (fn (F := Ideal) x0 x1 x2 x3 x4 x5).2.2 = fun _ => 1#1) (k : Fin 1024) : IsReal (x2 (ix2 (0 : Fin 2) k)) := by
  refine isReal_of_mask ?_
  have e := congrFun h (ix1 k)
  refine Eq.trans ?_ e
  unfold fn
  pointwise
  rfl

/-- So the rows before gelu are real. -/
theorem skipped_real (h0 : (fn (F := Ideal) x0 x1 x2 x3 x4 x5).1 = fun _ => 1#1) (h1 : (fn (F := Ideal) x0 x1 x2 x3 x4 x5).2.1 = fun _ => 1#1)
    (h2 : (fn (F := Ideal) x0 x1 x2 x3 x4 x5).2.2 = fun _ => 1#1) (b : Fin 16) (t : Fin 2112) (k : Fin 1024) :
    IsReal (skipped x0 x1 x2 b t k) :=
  (out_real x0 x1 x2 x3 x4 x5 h0 _ _).add ((skip_real x0 x1 x2 x3 x4 x5 h2 k).mul (in_real x0 x1 x2 x3 x4 x5 h1 b t k))

end

end Cert.Glu

end
-- ==== Proof.Glu.Claims.lean ====
module

public import proofs.«01_k».proof.Proof.Gen.Kernel6Ideal.Value
public import proofs.«01_k».proof.Proof.Gen.Reference6Ideal.Read
public import proofs.«01_k».proof.Proof.Gen.Reference6Ideal.Run
public import proofs.«01_k».proof.Proof.Glu.Tile
public import proofs.«01_k».proof.Proof.Glu.Held
public import proofs.«01_k».proof.Proof.Glu.Run
public import proofs.«01_k».proof.Proof.Glu.Pre
public import Idealize.ShloMosaic.Lib.Quiescent

/-
The gated unit of the first layer: the kernel and the reference end with the same array.
-/

@[expose] public section

noncomputable section

namespace Cert.Glu

open Idealize.ShloMosaic Idealize.ShloMosaic.TcCoe Idealize.SL.Sem
open Cert.Kernel6Ideal Cert.Kernel6Ideal.Gen Cert.Kernel6Ideal.Value

attribute [local instance] skipFacts

section
variable (m : (ℓ : Loc nD τ Cert.Kernel6Ideal.sig) → Buf (Elt Ideal) ℓ) (c : Dev nD) (t : Fin cfg0.N)

/-- What the body reads back out of the scratch. -/
theorem run_rows_eq (arg1 : Memref Cert.Kernel6Ideal.sig .tc .vmem S48x16384 .f32) (harg1 : arg1.IsWhole)
    (arg8 : Memref Cert.Kernel6Ideal.sig .tc .vmem S8x896x128 .f32) (x0 : Vec Ideal S48x16384 .f32) :
    kernelRun0_A.sl.r_438 c arg1 harg1 arg8 x0 = rows x0 arg8.view := by
  rw [run_rows, held_stores, harg1.read_unread]
  exact rowsOf_stores _ _

/-- What a point writes back is its rows of the result. -/
theorem flushed_eq : (dats m 0 c).flushed 6 t = ((cfg0.win 6).blk t).view.read (Elt Ideal) (result m c) := by
  have ht := lt44 t
  rw [Cert.Kernel6Ideal.Value.flushed6, outsAt0, out_of_scratch, run_rows_eq]
  funext y
  obtain ⟨h0, h1, h2⟩ := idx6 t
  obtain ⟨b, r, j, rfl⟩ : ∃ (b : Fin 16) (r : Fin 48) (j : Fin 1024), y = ix3 b r j := ⟨y 0, y 1, y 2, eq_ix3 y⟩
  rw [View.read_apply]
  have he : ((cfg0.win 6).blk t).view.emb (ix3 b r j) = (ix3 b ⟨t.val * 48 + r.val, by omega⟩ j : S16x2112x1024.Idx) := by
    funext a
    apply Fin.ext
    match a with
    | ⟨0, _⟩ => show win0_6.index t (0 : Fin 3) * 16 + 1 * b.val = b.val; rw [h0]; omega
    | ⟨1, _⟩ => show win0_6.index t (1 : Fin 3) * 48 + 1 * r.val = t.val * 48 + r.val; rw [h1]; omega
    | ⟨2, _⟩ => show win0_6.index t (2 : Fin 3) * 1024 + 1 * j.val = j.val; rw [h2]; omega
  rw [he]
  exact tile_eq m c t _ b r j

/-- The points' rows cover the result. -/
theorem covered (i : S16x2112x1024.Idx) : ∃ t : Fin cfg0.N, (cfg0.win 6).flush t = true ∧ i ∈ ((cfg0.win 6).blk t).view.set := by
  have h0 : (i 0).val < 16 := (i 0).isLt
  have h1 : (i 1).val < 2112 := (i 1).isLt
  have h2 : (i 2).val < 1024 := (i 2).isLt
  have hN : (i 1).val / 48 < cfg0.N := by rw [show cfg0.N = 44 from N_0]; omega
  refine ⟨⟨(i 1).val / 48, hN⟩, flush6 _, ?_⟩
  show i ∈ ((View.whole main_v10).slice (win0_6.rect ⟨(i 1).val / 48, hN⟩)).set
  rw [View.set_slice_whole, Rect.mem_set_unit]
  obtain ⟨e0, e1, e2⟩ := idx6 ⟨(i 1).val / 48, hN⟩
  intro a
  match a with
  | ⟨0, _⟩ =>
    show win0_6.index ⟨(i 1).val / 48, hN⟩ (0 : Fin 3) * 16 ≤ (i 0).val ∧ (i 0).val < win0_6.index ⟨(i 1).val / 48, hN⟩ (0 : Fin 3) * 16 + 16
    rw [e0]; omega
  | ⟨1, _⟩ =>
    show win0_6.index ⟨(i 1).val / 48, hN⟩ (1 : Fin 3) * 48 ≤ (i 1).val ∧ (i 1).val < win0_6.index ⟨(i 1).val / 48, hN⟩ (1 : Fin 3) * 48 + 48
    rw [e1]; show (i 1).val / 48 * 48 ≤ (i 1).val ∧ (i 1).val < (i 1).val / 48 * 48 + 48; omega
  | ⟨2, _⟩ =>
    show win0_6.index ⟨(i 1).val / 48, hN⟩ (2 : Fin 3) * 1024 ≤ (i 2).val ∧ (i 2).val < win0_6.index ⟨(i 1).val / 48, hN⟩ (2 : Fin 3) * 1024 + 1024
    rw [e2]; omega

/-- The array after the run. -/
theorem final : (dats m 0 c).arrAt 6 cfg0.N = result m c :=
  (dats m 0 c).arrAt_eq_of_cover 6 _ (fun t _ => flushed_eq m c t) covered

/-- The result is the reference's. -/
theorem result_eq (hx : ∀ b t k, Cert.Ffn.IsReal (skipped (argY m c) (argU m c) (argD m c) b t k)) :
    result m c = Cert.Reference6Ideal.Read.val_main_v52 (F := Ideal) (argY m c) (argU m c) (argD m c) (argW m c) (argB m c) (argG m c) := by
  funext y
  obtain ⟨b, T, j, rfl⟩ : ∃ (b : Fin 16) (T : Fin 2112) (j : Fin 1024), y = ix3 b T j := ⟨y 0, y 1, y 2, eq_ix3 y⟩
  refine Eq.trans ?_ (ref_apply _ _ _ _ _ _ b T j).symm
  show resultRow m c b T j = _
  unfold resultRow
  exact congrFun (row_eq cube_eq _ _ _ _ fun k => hx b T k) j

end

/-- The reference runs and leaves its arguments and every counter as they were. -/
theorem refFrame : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The kernel's named literal is the product of the reference's two, to the kernel's precision. -/
theorem preserves : Cert.preserves_Kernel6_Kernel6Ideal :=
  IdealRules.named_const.statement Cert.Kernel6Ideal.κ "gelu_cube" .f32 0x3D122279#32 ((80338380498831 / 2251799813685248 : ℝ) : EReal) rfl

/-- The kernel and the reference end with the same array when what the recurrence returned, its input and the layer's skip are real. -/
theorem value : Cert.algebraic_Kernel6Ideal_Reference6Ideal_pre_finite_skip := by
  intro m ρ m' ρ' hpre hagree
  refine ⟨fun c => result m c, (θ_run _ _ _).mono (fun _ h c => ⟨(h c).1.trans (final m c), (h c).2⟩) (Cert.Kernel6Ideal.Value.run_blocks (F := Ideal) m ρ), ?_⟩
  refine (θ_run _ _ _).mono (fun _ h c => ⟨(h c).1.trans ?_, (h c).2⟩) (Cert.Reference6Ideal.Value.run (F := Ideal) m' ρ')
  obtain ⟨a0, a1, a2, a3, a4, a5⟩ := hagree c
  obtain ⟨p0, p1, p2⟩ := hpre c
  refine (Cert.Reference6Ideal.Read.val_main_v52_eq (F := Ideal) m' c).trans ?_
  refine Eq.trans ?_ (result_eq m c (skipped_real _ _ _ _ _ _ p0 p1 p2)).symm
  rw [a0, a1, a2, a3, a4, a5]

end Cert.Glu

end
-- ==== Proof.S5.RefFrame.lean ====
module

public import proofs.«01_k».proof.Defs
public import proofs.«01_k».proof.Proof.Gen.ReferenceIdeal.Run
public import Idealize.ShloMosaic.Lib.Quiescent

/-
The reference of the S5 recurrence leaves its arguments as they were: no stretch of host operations, before the loop, in
its body, in its condition or after it, writes one.
-/

@[expose] public section

noncomputable section

namespace Cert.S5

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The references the operations after the loop write, in order. -/
abbrev afterLoop : List (Ref sig .tc) := [main_v68, main_v69, main_v70, main_v71, main_v72, main_v73, main_v74, main_v75]

theorem afterLoop_writes : (hostOps0_1 : List (HloOp τ sig (Elt F))).Forall fun op =>
    op.writes ⊆ (afterLoop.map (Proc.devRef (τ := τ) .tc)).toFinset :=
  StableHlo.forall_writes_sub_of_map rfl

/-- Every reference some operation of the program writes. -/
abbrev written : List (Ref sig .tc) :=
  hostOps0_W ++ condOps_W ++ while0Ops0_W ++ while0Ops0_1_W ++ while0Ops0_2_W ++ while0Ops0_3_W ++ while0Ops0_4_W ++
    while0Ops0_5_W ++ afterLoop

variable (m : (ℓ : Loc nD τ sig) → Buf (Elt F) ℓ)

/-- A reference nothing in the loop writes holds at every trip what it held at the loop's entry. -/
theorem loop_keeps {b : Ref sig .tc} (hc : b ∉ condOps_W) (h0 : b ∉ while0Ops0_W) (h1 : b ∉ while0Ops0_1_W)
    (h2 : b ∉ while0Ops0_2_W) (h3 : b ∉ while0Ops0_3_W) (h4 : b ∉ while0Ops0_4_W) (h5 : b ∉ while0Ops0_5_W) (c : Dev nD) :
    ∀ k, atK m k c (Proc.devRef .tc b) = entryContents preI m c (Proc.devRef .tc b)
  | 0 => rfl
  | k + 1 => by
    rw [show atK m (k + 1) c = afterL bodyI (after condOps (atK m k c)) from rfl]
    simp only [afterL_cons, afterL_nil]
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc]
    exact loop_keeps hc h0 h1 h2 h3 h4 h5 c k

/-- A reference no operation writes ends as it began. -/
theorem final_keeps {b : Ref sig .tc} (h : b ∉ written) (c : Dev nD) :
    finalContents condOps preI bodyI postI 2112 m c (Proc.devRef .tc b) = m ((c.tc : Thread nD τ).loc b) := by
  simp only [written, List.mem_append, not_or] at h
  obtain ⟨⟨⟨⟨⟨⟨⟨⟨hp, hc⟩, h0⟩, h1⟩, h2⟩, h3⟩, h4⟩, h5⟩, ha⟩ := h
  simp only [finalContents, afterL_cons, afterL_nil]
  rw [after_of_writes_sub hostOps0_1 _ afterLoop_writes ha, after_of_writes_sub condOps _ condOps_writes hc]
  refine (loop_keeps m hc h0 h1 h2 h3 h4 h5 c 2112).trans ?_
  simp only [entryContents, afterL_cons, afterL_nil]
  rw [after_of_writes_sub hostOps0 _ hostOps0_writes hp]

/-- The program ends with every argument as it was and every buffer nothing scopes at the loop's fold. -/
theorem run (ρ : Dev nD → PrngReg) :
    θ_run (defs (F := F)) (onTc (τ := τ) (main (F := F))) ⟨m, fun _ => 0, ρ⟩ (fun r => ∀ c : Dev nD,
      r.2.mem ((c.tc : Thread nD τ).loc main_v75) = finalContents condOps preI bodyI postI 2112 m c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c main_v75 (by decide +kernel),
    (h c main_arg0 (by decide +kernel)).trans (final_keeps m (by decide +kernel) c),
    (h c main_arg1 (by decide +kernel)).trans (final_keeps m (by decide +kernel) c),
    (h c main_arg2 (by decide +kernel)).trans (final_keeps m (by decide +kernel) c),
    (h c main_arg3 (by decide +kernel)).trans (final_keeps m (by decide +kernel) c),
    (h c main_arg4 (by decide +kernel)).trans (final_keeps m (by decide +kernel) c),
    (h c main_arg5 (by decide +kernel)).trans (final_keeps m (by decide +kernel) c),
    (h c main_arg6 (by decide +kernel)).trans (final_keeps m (by decide +kernel) c),
    (h c main_arg7 (by decide +kernel)).trans (final_keeps m (by decide +kernel) c)⟩) (run_fold m ρ)

/-- The reference's frame: no semaphore is declared, so every counter is still zero. -/
theorem refFrame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, Idealize.ShloMosaic.sem_eq_zero_of_no_sems (by decide) r.2⟩) (run m ρ)

end Cert.S5
-- ==== Proof.lean ====
module

public import proofs.«01_k».proof.Defs
public import proofs.«01_k».proof.Proof.Ffn.Claims
public import proofs.«01_k».proof.Proof.Ffn0.Claims
public import proofs.«01_k».proof.Proof.Out.Last
public import proofs.«01_k».proof.Proof.Out.First
public import proofs.«01_k».proof.Proof.Glu.Claims
public import proofs.«01_k».proof.Proof.S5.RefFrame
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
   Cert.Kernel2Ideal.Gen.facts, Cert.Reference2Ideal.Gen.facts, Cert.Kernel3.Gen.facts, Cert.Kernel3Ideal.Gen.facts,
   Cert.Reference3Ideal.Gen.facts, Cert.Kernel4.Gen.facts, Cert.Kernel4Ideal.Gen.facts, Cert.Reference4Ideal.Gen.facts,
   Cert.Kernel5.Gen.facts, Cert.Kernel5Ideal.Gen.facts, Cert.Reference5Ideal.Gen.facts, Cert.Kernel6.Gen.facts,
   Cert.Kernel6Ideal.Gen.facts, Cert.Reference6Ideal.Gen.facts, Cert.Ffn.gateFacts, Cert.Ffn0.padFacts, Cert.Glu.skipFacts,
   fun m ρ _ => Cert.Kernel.Gen.frame m ρ, fun m ρ _ => Cert.KernelIdeal.Gen.frame m ρ,
   fun m ρ _ => Cert.S5.refFrame m ρ,
   fun m ρ _ => Cert.Kernel2.Gen.frame m ρ, fun m ρ _ => Cert.Kernel2Ideal.Gen.frame m ρ,
   fun m ρ _ => Cert.Kernel2Ideal.Gen.frame m ρ,
   Cert.Ffn.refFrame, fun m ρ _ => Cert.Ffn.refFrame m ρ trivial,
   fun m ρ _ => Cert.Kernel3.Gen.frame m ρ, fun m ρ _ => Cert.Kernel3Ideal.Gen.frame m ρ,
   fun m ρ _ => Cert.Kernel3Ideal.Gen.frame m ρ,
   Cert.Ffn0.refFrame, fun m ρ _ => Cert.Ffn0.refFrame m ρ trivial,
   fun m ρ _ => Cert.Kernel4.Gen.frame m ρ, fun m ρ _ => Cert.Kernel4Ideal.Gen.frame m ρ, Cert.Out1.refFrame,
   fun m ρ _ => Cert.Kernel5.Gen.frame m ρ, fun m ρ _ => Cert.Kernel5Ideal.Gen.frame m ρ, Cert.Out0.refFrame,
   fun m ρ _ => Cert.Kernel6.Gen.frame m ρ, fun m ρ _ => Cert.Kernel6Ideal.Gen.frame m ρ,
   fun m ρ _ => Cert.Kernel6Ideal.Gen.frame m ρ,
   Cert.Glu.refFrame, fun m ρ _ => Cert.Glu.refFrame m ρ trivial,
   trivial, trivial, Cert.Ffn.value, trivial, Cert.Ffn0.value, trivial, Cert.Out1.value, trivial, Cert.Out0.value,
   Cert.Glu.preserves, Cert.Glu.value⟩

end Cert.Proof

end
